-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxRefIdeal (m : (ℓ : Loc Cert.FfnCtxRefIdeal.nD Cert.FfnCtxRefIdeal.τ Cert.FfnCtxRefIdeal.sig) → Buf (Elt Ideal) ℓ) : Prop :=
  True

def Pre_MergeCtx (m : (ℓ : Loc Cert.MergeCtx.nD Cert.MergeCtx.τ Cert.MergeCtx.sig) → Buf (Elt Bits) ℓ) : Prop :=
  True

def Pre_MergeCtxIdeal (m : (ℓ : Loc Cert.MergeCtxIdeal.nD Cert.MergeCtxIdeal.τ Cert.MergeCtxIdeal.sig) → Buf (Elt Ideal) ℓ) : Prop :=
  True

def Pre_MergeCtxRefIdeal (m : (ℓ : Loc Cert.MergeCtxRefIdeal.nD Cert.MergeCtxRefIdeal.τ Cert.MergeCtxRefIdeal.sig) → Buf (Elt Ideal) ℓ) : Prop :=
  True

def Pre_ProjCtx (m : (ℓ : Loc Cert.ProjCtx.nD Cert.ProjCtx.τ Cert.ProjCtx.sig) → Buf (Elt Bits) ℓ) : Prop :=
  True

def Pre_ProjCtxIdeal (m : (ℓ : Loc Cert.ProjCtxIdeal.nD Cert.ProjCtxIdeal.τ Cert.ProjCtxIdeal.sig) → Buf (Elt Ideal) ℓ) : Prop :=
  True

def Pre_ProjCtxRefIdeal (m : (ℓ : Loc Cert.ProjCtxRefIdeal.nD Cert.ProjCtxRefIdeal.τ Cert.ProjCtxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1))
      ∧ r.2.sem = fun _ => 0)

def quiescent_FfnCtxRefIdeal [hFfnCtxRefIdeal : Cert.FfnCtxRefIdeal.Facts] : Prop :=
  ∀ (m : (ℓ : Loc Cert.FfnCtxRefIdeal.nD Cert.FfnCtxRefIdeal.τ Cert.FfnCtxRefIdeal.sig) → Buf (Elt Ideal) ℓ) (g : Dev Cert.FfnCtxRefIdeal.nD → PrngReg), Pre_FfnCtxRefIdeal m →
    θ_run (Cert.FfnCtxRefIdeal.defs (F := Ideal)) (onTc (τ := Cert.FfnCtxRefIdeal.τ) (Cert.FfnCtxRefIdeal.main (F := Ideal))) ⟨m, fun _ => 0, g⟩ (fun r => (∀ c : Dev Cert.FfnCtxRefIdeal.nD,
      r.2.mem ((c.tc : Thread Cert.FfnCtxRefIdeal.nD Cert.FfnCtxRefIdeal.τ).loc Cert.FfnCtxRefIdeal.main_arg0) = m ((c.tc : Thread Cert.FfnCtxRefIdeal.nD Cert.FfnCtxRefIdeal.τ).loc Cert.FfnCtxRefIdeal.main_arg0)
      ∧ r.2.mem ((c.tc : Thread Cert.FfnCtxRefIdeal.nD Cert.FfnCtxRefIdeal.τ).loc Cert.FfnCtxRefIdeal.main_arg1) = m ((c.tc : Thread Cert.FfnCtxRefIdeal.nD Cert.FfnCtxRefIdeal.τ).loc Cert.FfnCtxRefIdeal.main_arg1))
      ∧ r.2.sem = fun _ => 0)

def quiescent_MergeCtx [hMergeCtx : Cert.MergeCtx.Facts] : Prop :=
  ∀ (m : (ℓ : Loc Cert.MergeCtx.nD Cert.MergeCtx.τ Cert.MergeCtx.sig) → Buf (Elt Bits) ℓ) (g : Dev Cert.MergeCtx.nD → PrngReg), Pre_MergeCtx m →
    θ_run (Cert.MergeCtx.defs (F := Bits)) (onTc (τ := Cert.MergeCtx.τ) (Cert.MergeCtx.main (F := Bits))) ⟨m, fun _ => 0, g⟩ (fun r => (∀ c : Dev Cert.MergeCtx.nD,
      r.2.mem ((c.tc : Thread Cert.MergeCtx.nD Cert.MergeCtx.τ).loc Cert.MergeCtx.main_arg0) = m ((c.tc : Thread Cert.MergeCtx.nD Cert.MergeCtx.τ).loc Cert.MergeCtx.main_arg0)
      ∧ r.2.mem ((c.tc : Thread Cert.MergeCtx.nD Cert.MergeCtx.τ).loc Cert.MergeCtx.main_arg1) = m ((c.tc : Thread Cert.MergeCtx.nD Cert.MergeCtx.τ).loc Cert.MergeCtx.main_arg1)
      ∧ r.2.mem ((c.tc : Thread Cert.MergeCtx.nD Cert.MergeCtx.τ).loc Cert.MergeCtx.main_arg2) = m ((c.tc : Thread Cert.MergeCtx.nD Cert.MergeCtx.τ).loc Cert.MergeCtx.main_arg2)
      ∧ r.2.mem ((c.tc : Thread Cert.MergeCtx.nD Cert.MergeCtx.τ).loc Cert.MergeCtx.main_arg3) = m ((c.tc : Thread Cert.MergeCtx.nD Cert.MergeCtx.τ).loc Cert.MergeCtx.main_arg3)
      ∧ r.2.mem ((c.tc : Thread Cert.MergeCtx.nD Cert.MergeCtx.τ).loc Cert.MergeCtx.main_arg4) = m ((c.tc : Thread Cert.MergeCtx.nD Cert.MergeCtx.τ).loc Cert.MergeCtx.main_arg4))
      ∧ r.2.sem = fun _ => 0)

def quiescent_MergeCtxIdeal [hMergeCtxIdeal : Cert.MergeCtxIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg), Pre_MergeCtxIdeal m →
    θ_run (Cert.MergeCtxIdeal.defs (F := Ideal)) (onTc (τ := Cert.MergeCtxIdeal.τ) (Cert.MergeCtxIdeal.main (F := Ideal))) ⟨m, fun _ => 0, g⟩ (fun r => (∀ c : Dev Cert.MergeCtxIdeal.nD,
      r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
      ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
      ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
      ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
      ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4))
      ∧ r.2.sem = fun _ => 0)

def quiescent_MergeCtxRefIdeal [hMergeCtxRefIdeal : Cert.MergeCtxRefIdeal.Facts] : Prop :=
  ∀ (m : (ℓ : Loc Cert.MergeCtxRefIdeal.nD Cert.MergeCtxRefIdeal.τ Cert.MergeCtxRefIdeal.sig) → Buf (Elt Ideal) ℓ) (g : Dev Cert.MergeCtxRefIdeal.nD → PrngReg), Pre_MergeCtxRefIdeal m →
    θ_run (Cert.MergeCtxRefIdeal.defs (F := Ideal)) (onTc (τ := Cert.MergeCtxRefIdeal.τ) (Cert.MergeCtxRefIdeal.main (F := Ideal))) ⟨m, fun _ => 0, g⟩ (fun r => (∀ c : Dev Cert.MergeCtxRefIdeal.nD,
      r.2.mem ((c.tc : Thread Cert.MergeCtxRefIdeal.nD Cert.MergeCtxRefIdeal.τ).loc Cert.MergeCtxRefIdeal.main_arg0) = m ((c.tc : Thread Cert.MergeCtxRefIdeal.nD Cert.MergeCtxRefIdeal.τ).loc Cert.MergeCtxRefIdeal.main_arg0)
      ∧ r.2.mem ((c.tc : Thread Cert.MergeCtxRefIdeal.nD Cert.MergeCtxRefIdeal.τ).loc Cert.MergeCtxRefIdeal.main_arg1) = m ((c.tc : Thread Cert.MergeCtxRefIdeal.nD Cert.MergeCtxRefIdeal.τ).loc Cert.MergeCtxRefIdeal.main_arg1)
      ∧ r.2.mem ((c.tc : Thread Cert.MergeCtxRefIdeal.nD Cert.MergeCtxRefIdeal.τ).loc Cert.MergeCtxRefIdeal.main_arg2) = m ((c.tc : Thread Cert.MergeCtxRefIdeal.nD Cert.MergeCtxRefIdeal.τ).loc Cert.MergeCtxRefIdeal.main_arg2)
      ∧ r.2.mem ((c.tc : Thread Cert.MergeCtxRefIdeal.nD Cert.MergeCtxRefIdeal.τ).loc Cert.MergeCtxRefIdeal.main_arg3) = m ((c.tc : Thread Cert.MergeCtxRefIdeal.nD Cert.MergeCtxRefIdeal.τ).loc Cert.MergeCtxRefIdeal.main_arg3)
      ∧ r.2.mem ((c.tc : Thread Cert.MergeCtxRefIdeal.nD Cert.MergeCtxRefIdeal.τ).loc Cert.MergeCtxRefIdeal.main_arg4) = m ((c.tc : Thread Cert.MergeCtxRefIdeal.nD Cert.MergeCtxRefIdeal.τ).loc Cert.MergeCtxRefIdeal.main_arg4))
      ∧ r.2.sem = fun _ => 0)

def quiescent_ProjCtx [hProjCtx : Cert.ProjCtx.Facts] : Prop :=
  ∀ (m : (ℓ : Loc Cert.ProjCtx.nD Cert.ProjCtx.τ Cert.ProjCtx.sig) → Buf (Elt Bits) ℓ) (g : Dev Cert.ProjCtx.nD → PrngReg), Pre_ProjCtx m →
    θ_run (Cert.ProjCtx.defs (F := Bits)) (onTc (τ := Cert.ProjCtx.τ) (Cert.ProjCtx.main (F := Bits))) ⟨m, fun _ => 0, g⟩ (fun r => (∀ c : Dev Cert.ProjCtx.nD,
      r.2.mem ((c.tc : Thread Cert.ProjCtx.nD Cert.ProjCtx.τ).loc Cert.ProjCtx.main_arg0) = m ((c.tc : Thread Cert.ProjCtx.nD Cert.ProjCtx.τ).loc Cert.ProjCtx.main_arg0)
      ∧ r.2.mem ((c.tc : Thread Cert.ProjCtx.nD Cert.ProjCtx.τ).loc Cert.ProjCtx.main_arg1) = m ((c.tc : Thread Cert.ProjCtx.nD Cert.ProjCtx.τ).loc Cert.ProjCtx.main_arg1)
      ∧ r.2.mem ((c.tc : Thread Cert.ProjCtx.nD Cert.ProjCtx.τ).loc Cert.ProjCtx.main_arg2) = m ((c.tc : Thread Cert.ProjCtx.nD Cert.ProjCtx.τ).loc Cert.ProjCtx.main_arg2))
      ∧ r.2.sem = fun _ => 0)

def quiescent_ProjCtxIdeal [hProjCtxIdeal : Cert.ProjCtxIdeal.Facts] : Prop :=
  ∀ (m : (ℓ : Loc Cert.ProjCtxIdeal.nD Cert.ProjCtxIdeal.τ Cert.ProjCtxIdeal.sig) → Buf (Elt Ideal) ℓ) (g : Dev Cert.ProjCtxIdeal.nD → PrngReg), Pre_ProjCtxIdeal m →
    θ_run (Cert.ProjCtxIdeal.defs (F := Ideal)) (onTc (τ := Cert.ProjCtxIdeal.τ) (Cert.ProjCtxIdeal.main (F := Ideal))) ⟨m, fun _ => 0, g⟩ (fun r => (∀ c : Dev Cert.ProjCtxIdeal.nD,
      r.2.mem ((c.tc : Thread Cert.ProjCtxIdeal.nD Cert.ProjCtxIdeal.τ).loc Cert.ProjCtxIdeal.main_arg0) = m ((c.tc : Thread Cert.ProjCtxIdeal.nD Cert.ProjCtxIdeal.τ).loc Cert.ProjCtxIdeal.main_arg0)
      ∧ r.2.mem ((c.tc : Thread Cert.ProjCtxIdeal.nD Cert.ProjCtxIdeal.τ).loc Cert.ProjCtxIdeal.main_arg1) = m ((c.tc : Thread Cert.ProjCtxIdeal.nD Cert.ProjCtxIdeal.τ).loc Cert.ProjCtxIdeal.main_arg1)
      ∧ r.2.mem ((c.tc : Thread Cert.ProjCtxIdeal.nD Cert.ProjCtxIdeal.τ).loc Cert.ProjCtxIdeal.main_arg2) = m ((c.tc : Thread Cert.ProjCtxIdeal.nD Cert.ProjCtxIdeal.τ).loc Cert.ProjCtxIdeal.main_arg2))
      ∧ r.2.sem = fun _ => 0)

def quiescent_ProjCtxRefIdeal [hProjCtxRefIdeal : Cert.ProjCtxRefIdeal.Facts] : Prop :=
  ∀ (m : (ℓ : Loc Cert.ProjCtxRefIdeal.nD Cert.ProjCtxRefIdeal.τ Cert.ProjCtxRefIdeal.sig) → Buf (Elt Ideal) ℓ) (g : Dev Cert.ProjCtxRefIdeal.nD → PrngReg), Pre_ProjCtxRefIdeal m →
    θ_run (Cert.ProjCtxRefIdeal.defs (F := Ideal)) (onTc (τ := Cert.ProjCtxRefIdeal.τ) (Cert.ProjCtxRefIdeal.main (F := Ideal))) ⟨m, fun _ => 0, g⟩ (fun r => (∀ c : Dev Cert.ProjCtxRefIdeal.nD,
      r.2.mem ((c.tc : Thread Cert.ProjCtxRefIdeal.nD Cert.ProjCtxRefIdeal.τ).loc Cert.ProjCtxRefIdeal.main_arg0) = m ((c.tc : Thread Cert.ProjCtxRefIdeal.nD Cert.ProjCtxRefIdeal.τ).loc Cert.ProjCtxRefIdeal.main_arg0)
      ∧ r.2.mem ((c.tc : Thread Cert.ProjCtxRefIdeal.nD Cert.ProjCtxRefIdeal.τ).loc Cert.ProjCtxRefIdeal.main_arg1) = m ((c.tc : Thread Cert.ProjCtxRefIdeal.nD Cert.ProjCtxRefIdeal.τ).loc Cert.ProjCtxRefIdeal.main_arg1)
      ∧ r.2.mem ((c.tc : Thread Cert.ProjCtxRefIdeal.nD Cert.ProjCtxRefIdeal.τ).loc Cert.ProjCtxRefIdeal.main_arg2) = m ((c.tc : Thread Cert.ProjCtxRefIdeal.nD Cert.ProjCtxRefIdeal.τ).loc Cert.ProjCtxRefIdeal.main_arg2))
      ∧ r.2.sem = fun _ => 0)

def preserves_Kernel_KernelIdeal : Prop :=
  IdealRules.named_const.Statement Cert.KernelIdeal.κ "neg_log2e" .f32 0xBFB8AA3B#32 ((-((Real.log 2)⁻¹) : ℝ) : EReal)
  ∧ IdealRules.named_const.Statement Cert.KernelIdeal.κ "log2e_16" .f32 0x3DB8AA3B#32 (((Real.log 2)⁻¹ * (1 / 16) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v8) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v20) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_FfnCtx_FfnCtxIdeal : Prop :=
  True

def algebraic_FfnCtxIdeal_FfnCtxRefIdeal [hFfnCtxIdeal : Cert.FfnCtxIdeal.Facts] [hFfnCtxRefIdeal : Cert.FfnCtxRefIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxRefIdeal.nD Cert.FfnCtxRefIdeal.τ Cert.FfnCtxRefIdeal.sig) → Buf (Elt Ideal) ℓ) (g' : Dev Cert.FfnCtxRefIdeal.nD → PrngReg), Pre_FfnCtxIdeal m →
    (∀ c : Dev Cert.FfnCtxIdeal.nD,
      m' ((c.tc : Thread Cert.FfnCtxRefIdeal.nD Cert.FfnCtxRefIdeal.τ).loc Cert.FfnCtxRefIdeal.main_arg0) = m ((c.tc : Thread Cert.FfnCtxIdeal.nD Cert.FfnCtxIdeal.τ).loc Cert.FfnCtxIdeal.main_arg0)
      ∧ m' ((c.tc : Thread Cert.FfnCtxRefIdeal.nD Cert.FfnCtxRefIdeal.τ).loc Cert.FfnCtxRefIdeal.main_arg1) = m ((c.tc : Thread Cert.FfnCtxIdeal.nD Cert.FfnCtxIdeal.τ).loc Cert.FfnCtxIdeal.main_arg1)) →
    ∃ (v0 : (c : Dev Cert.FfnCtxIdeal.nD) → Buf (Elt Ideal) ((c.tc : Thread Cert.FfnCtxIdeal.nD Cert.FfnCtxIdeal.τ).loc Cert.FfnCtxIdeal.main_v0)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v0) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1))
      ∧ θ_run (Cert.FfnCtxRefIdeal.defs (F := Ideal)) (onTc (τ := Cert.FfnCtxRefIdeal.τ) (Cert.FfnCtxRefIdeal.main (F := Ideal))) ⟨m', fun _ => 0, g'⟩ (fun r => ∀ c : Dev Cert.FfnCtxRefIdeal.nD,
          r.2.mem ((c.tc : Thread Cert.FfnCtxRefIdeal.nD Cert.FfnCtxRefIdeal.τ).loc Cert.FfnCtxRefIdeal.main_v8) = v0 c
          ∧ r.2.mem ((c.tc : Thread Cert.FfnCtxRefIdeal.nD Cert.FfnCtxRefIdeal.τ).loc Cert.FfnCtxRefIdeal.main_arg0) = m' ((c.tc : Thread Cert.FfnCtxRefIdeal.nD Cert.FfnCtxRefIdeal.τ).loc Cert.FfnCtxRefIdeal.main_arg0)
          ∧ r.2.mem ((c.tc : Thread Cert.FfnCtxRefIdeal.nD Cert.FfnCtxRefIdeal.τ).loc Cert.FfnCtxRefIdeal.main_arg1) = m' ((c.tc : Thread Cert.FfnCtxRefIdeal.nD Cert.FfnCtxRefIdeal.τ).loc Cert.FfnCtxRefIdeal.main_arg1))

def preserves_MergeCtx_MergeCtxIdeal : Prop :=
  True

def algebraic_MergeCtxIdeal_MergeCtxRefIdeal [hMergeCtxIdeal : Cert.MergeCtxIdeal.Facts] [hMergeCtxRefIdeal : Cert.MergeCtxRefIdeal.Facts] : Prop :=
  ∀ (m : (ℓ : Loc Cert.MergeCtxIdeal.nD Cert.MergeCtxIdeal.τ Cert.MergeCtxIdeal.sig) → Buf (Elt Ideal) ℓ) (g : Dev Cert.MergeCtxIdeal.nD → PrngReg)
    (m' : (ℓ : Loc Cert.MergeCtxRefIdeal.nD Cert.MergeCtxRefIdeal.τ Cert.MergeCtxRefIdeal.sig) → Buf (Elt Ideal) ℓ) (g' : Dev Cert.MergeCtxRefIdeal.nD → PrngReg), Pre_MergeCtxIdeal m →
    (∀ c : Dev Cert.MergeCtxIdeal.nD,
      m' ((c.tc : Thread Cert.MergeCtxRefIdeal.nD Cert.MergeCtxRefIdeal.τ).loc Cert.MergeCtxRefIdeal.main_arg0) = m ((c.tc : Thread Cert.MergeCtxIdeal.nD Cert.MergeCtxIdeal.τ).loc Cert.MergeCtxIdeal.main_arg0)
      ∧ m' ((c.tc : Thread Cert.MergeCtxRefIdeal.nD Cert.MergeCtxRefIdeal.τ).loc Cert.MergeCtxRefIdeal.main_arg1) = m ((c.tc : Thread Cert.MergeCtxIdeal.nD Cert.MergeCtxIdeal.τ).loc Cert.MergeCtxIdeal.main_arg1)
      ∧ m' ((c.tc : Thread Cert.MergeCtxRefIdeal.nD Cert.MergeCtxRefIdeal.τ).loc Cert.MergeCtxRefIdeal.main_arg2) = m ((c.tc : Thread Cert.MergeCtxIdeal.nD Cert.MergeCtxIdeal.τ).loc Cert.MergeCtxIdeal.main_arg2)
      ∧ m' ((c.tc : Thread Cert.MergeCtxRefIdeal.nD Cert.MergeCtxRefIdeal.τ).loc Cert.MergeCtxRefIdeal.main_arg3) = m ((c.tc : Thread Cert.MergeCtxIdeal.nD Cert.MergeCtxIdeal.τ).loc Cert.MergeCtxIdeal.main_arg3)
      ∧ m' ((c.tc : Thread Cert.MergeCtxRefIdeal.nD Cert.MergeCtxRefIdeal.τ).loc Cert.MergeCtxRefIdeal.main_arg4) = m ((c.tc : Thread Cert.MergeCtxIdeal.nD Cert.MergeCtxIdeal.τ).loc Cert.MergeCtxIdeal.main_arg4)) →
    ∃ (v0 : (c : Dev Cert.MergeCtxIdeal.nD) → Buf (Elt Ideal) ((c.tc : Thread Cert.MergeCtxIdeal.nD Cert.MergeCtxIdeal.τ).loc Cert.MergeCtxIdeal.main_v0)),
      θ_run (Cert.MergeCtxIdeal.defs (F := Ideal)) (onTc (τ := Cert.MergeCtxIdeal.τ) (Cert.MergeCtxIdeal.main (F := Ideal))) ⟨m, fun _ => 0, g⟩ (fun r => ∀ c : Dev Cert.MergeCtxIdeal.nD,
          r.2.mem ((c.tc : Thread Cert.MergeCtxIdeal.nD Cert.MergeCtxIdeal.τ).loc Cert.MergeCtxIdeal.main_v0) = v0 c
          ∧ r.2.mem ((c.tc : Thread Cert.MergeCtxIdeal.nD Cert.MergeCtxIdeal.τ).loc Cert.MergeCtxIdeal.main_arg0) = m ((c.tc : Thread Cert.MergeCtxIdeal.nD Cert.MergeCtxIdeal.τ).loc Cert.MergeCtxIdeal.main_arg0)
          ∧ r.2.mem ((c.tc : Thread Cert.MergeCtxIdeal.nD Cert.MergeCtxIdeal.τ).loc Cert.MergeCtxIdeal.main_arg1) = m ((c.tc : Thread Cert.MergeCtxIdeal.nD Cert.MergeCtxIdeal.τ).loc Cert.MergeCtxIdeal.main_arg1)
          ∧ r.2.mem ((c.tc : Thread Cert.MergeCtxIdeal.nD Cert.MergeCtxIdeal.τ).loc Cert.MergeCtxIdeal.main_arg2) = m ((c.tc : Thread Cert.MergeCtxIdeal.nD Cert.MergeCtxIdeal.τ).loc Cert.MergeCtxIdeal.main_arg2)
          ∧ r.2.mem ((c.tc : Thread Cert.MergeCtxIdeal.nD Cert.MergeCtxIdeal.τ).loc Cert.MergeCtxIdeal.main_arg3) = m ((c.tc : Thread Cert.MergeCtxIdeal.nD Cert.MergeCtxIdeal.τ).loc Cert.MergeCtxIdeal.main_arg3)
          ∧ r.2.mem ((c.tc : Thread Cert.MergeCtxIdeal.nD Cert.MergeCtxIdeal.τ).loc Cert.MergeCtxIdeal.main_arg4) = m ((c.tc : Thread Cert.MergeCtxIdeal.nD Cert.MergeCtxIdeal.τ).loc Cert.MergeCtxIdeal.main_arg4))
      ∧ θ_run (Cert.MergeCtxRefIdeal.defs (F := Ideal)) (onTc (τ := Cert.MergeCtxRefIdeal.τ) (Cert.MergeCtxRefIdeal.main (F := Ideal))) ⟨m', fun _ => 0, g'⟩ (fun r => ∀ c : Dev Cert.MergeCtxRefIdeal.nD,
          r.2.mem ((c.tc : Thread Cert.MergeCtxRefIdeal.nD Cert.MergeCtxRefIdeal.τ).loc Cert.MergeCtxRefIdeal.main_v21) = v0 c
          ∧ r.2.mem ((c.tc : Thread Cert.MergeCtxRefIdeal.nD Cert.MergeCtxRefIdeal.τ).loc Cert.MergeCtxRefIdeal.main_arg0) = m' ((c.tc : Thread Cert.MergeCtxRefIdeal.nD Cert.MergeCtxRefIdeal.τ).loc Cert.MergeCtxRefIdeal.main_arg0)
          ∧ r.2.mem ((c.tc : Thread Cert.MergeCtxRefIdeal.nD Cert.MergeCtxRefIdeal.τ).loc Cert.MergeCtxRefIdeal.main_arg1) = m' ((c.tc : Thread Cert.MergeCtxRefIdeal.nD Cert.MergeCtxRefIdeal.τ).loc Cert.MergeCtxRefIdeal.main_arg1)
          ∧ r.2.mem ((c.tc : Thread Cert.MergeCtxRefIdeal.nD Cert.MergeCtxRefIdeal.τ).loc Cert.MergeCtxRefIdeal.main_arg2) = m' ((c.tc : Thread Cert.MergeCtxRefIdeal.nD Cert.MergeCtxRefIdeal.τ).loc Cert.MergeCtxRefIdeal.main_arg2)
          ∧ r.2.mem ((c.tc : Thread Cert.MergeCtxRefIdeal.nD Cert.MergeCtxRefIdeal.τ).loc Cert.MergeCtxRefIdeal.main_arg3) = m' ((c.tc : Thread Cert.MergeCtxRefIdeal.nD Cert.MergeCtxRefIdeal.τ).loc Cert.MergeCtxRefIdeal.main_arg3)
          ∧ r.2.mem ((c.tc : Thread Cert.MergeCtxRefIdeal.nD Cert.MergeCtxRefIdeal.τ).loc Cert.MergeCtxRefIdeal.main_arg4) = m' ((c.tc : Thread Cert.MergeCtxRefIdeal.nD Cert.MergeCtxRefIdeal.τ).loc Cert.MergeCtxRefIdeal.main_arg4))

def preserves_ProjCtx_ProjCtxIdeal : Prop :=
  True

def algebraic_ProjCtxIdeal_ProjCtxRefIdeal [hProjCtxIdeal : Cert.ProjCtxIdeal.Facts] [hProjCtxRefIdeal : Cert.ProjCtxRefIdeal.Facts] : Prop :=
  ∀ (m : (ℓ : Loc Cert.ProjCtxIdeal.nD Cert.ProjCtxIdeal.τ Cert.ProjCtxIdeal.sig) → Buf (Elt Ideal) ℓ) (g : Dev Cert.ProjCtxIdeal.nD → PrngReg)
    (m' : (ℓ : Loc Cert.ProjCtxRefIdeal.nD Cert.ProjCtxRefIdeal.τ Cert.ProjCtxRefIdeal.sig) → Buf (Elt Ideal) ℓ) (g' : Dev Cert.ProjCtxRefIdeal.nD → PrngReg), Pre_ProjCtxIdeal m →
    (∀ c : Dev Cert.ProjCtxIdeal.nD,
      m' ((c.tc : Thread Cert.ProjCtxRefIdeal.nD Cert.ProjCtxRefIdeal.τ).loc Cert.ProjCtxRefIdeal.main_arg0) = m ((c.tc : Thread Cert.ProjCtxIdeal.nD Cert.ProjCtxIdeal.τ).loc Cert.ProjCtxIdeal.main_arg0)
      ∧ m' ((c.tc : Thread Cert.ProjCtxRefIdeal.nD Cert.ProjCtxRefIdeal.τ).loc Cert.ProjCtxRefIdeal.main_arg1) = m ((c.tc : Thread Cert.ProjCtxIdeal.nD Cert.ProjCtxIdeal.τ).loc Cert.ProjCtxIdeal.main_arg1)
      ∧ m' ((c.tc : Thread Cert.ProjCtxRefIdeal.nD Cert.ProjCtxRefIdeal.τ).loc Cert.ProjCtxRefIdeal.main_arg2) = m ((c.tc : Thread Cert.ProjCtxIdeal.nD Cert.ProjCtxIdeal.τ).loc Cert.ProjCtxIdeal.main_arg2)) →
    ∃ (v0 : (c : Dev Cert.ProjCtxIdeal.nD) → Buf (Elt Ideal) ((c.tc : Thread Cert.ProjCtxIdeal.nD Cert.ProjCtxIdeal.τ).loc Cert.ProjCtxIdeal.main_v2)),
      θ_run (Cert.ProjCtxIdeal.defs (F := Ideal)) (onTc (τ := Cert.ProjCtxIdeal.τ) (Cert.ProjCtxIdeal.main (F := Ideal))) ⟨m, fun _ => 0, g⟩ (fun r => ∀ c : Dev Cert.ProjCtxIdeal.nD,
          r.2.mem ((c.tc : Thread Cert.ProjCtxIdeal.nD Cert.ProjCtxIdeal.τ).loc Cert.ProjCtxIdeal.main_v2) = v0 c
          ∧ r.2.mem ((c.tc : Thread Cert.ProjCtxIdeal.nD Cert.ProjCtxIdeal.τ).loc Cert.ProjCtxIdeal.main_arg0) = m ((c.tc : Thread Cert.ProjCtxIdeal.nD Cert.ProjCtxIdeal.τ).loc Cert.ProjCtxIdeal.main_arg0)
          ∧ r.2.mem ((c.tc : Thread Cert.ProjCtxIdeal.nD Cert.ProjCtxIdeal.τ).loc Cert.ProjCtxIdeal.main_arg1) = m ((c.tc : Thread Cert.ProjCtxIdeal.nD Cert.ProjCtxIdeal.τ).loc Cert.ProjCtxIdeal.main_arg1)
          ∧ r.2.mem ((c.tc : Thread Cert.ProjCtxIdeal.nD Cert.ProjCtxIdeal.τ).loc Cert.ProjCtxIdeal.main_arg2) = m ((c.tc : Thread Cert.ProjCtxIdeal.nD Cert.ProjCtxIdeal.τ).loc Cert.ProjCtxIdeal.main_arg2))
      ∧ θ_run (Cert.ProjCtxRefIdeal.defs (F := Ideal)) (onTc (τ := Cert.ProjCtxRefIdeal.τ) (Cert.ProjCtxRefIdeal.main (F := Ideal))) ⟨m', fun _ => 0, g'⟩ (fun r => ∀ c : Dev Cert.ProjCtxRefIdeal.nD,
          r.2.mem ((c.tc : Thread Cert.ProjCtxRefIdeal.nD Cert.ProjCtxRefIdeal.τ).loc Cert.ProjCtxRefIdeal.main_v20) = v0 c
          ∧ r.2.mem ((c.tc : Thread Cert.ProjCtxRefIdeal.nD Cert.ProjCtxRefIdeal.τ).loc Cert.ProjCtxRefIdeal.main_arg0) = m' ((c.tc : Thread Cert.ProjCtxRefIdeal.nD Cert.ProjCtxRefIdeal.τ).loc Cert.ProjCtxRefIdeal.main_arg0)
          ∧ r.2.mem ((c.tc : Thread Cert.ProjCtxRefIdeal.nD Cert.ProjCtxRefIdeal.τ).loc Cert.ProjCtxRefIdeal.main_arg1) = m' ((c.tc : Thread Cert.ProjCtxRefIdeal.nD Cert.ProjCtxRefIdeal.τ).loc Cert.ProjCtxRefIdeal.main_arg1)
          ∧ r.2.mem ((c.tc : Thread Cert.ProjCtxRefIdeal.nD Cert.ProjCtxRefIdeal.τ).loc Cert.ProjCtxRefIdeal.main_arg2) = m' ((c.tc : Thread Cert.ProjCtxRefIdeal.nD Cert.ProjCtxRefIdeal.τ).loc Cert.ProjCtxRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hFfnCtx : Cert.FfnCtx.Facts) (hFfnCtxIdeal : Cert.FfnCtxIdeal.Facts) (hFfnCtxRefIdeal : Cert.FfnCtxRefIdeal.Facts) (hMergeCtx : Cert.MergeCtx.Facts) (hMergeCtxIdeal : Cert.MergeCtxIdeal.Facts) (hMergeCtxRefIdeal : Cert.MergeCtxRefIdeal.Facts) (hProjCtx : Cert.ProjCtx.Facts) (hProjCtxIdeal : Cert.ProjCtxIdeal.Facts) (hProjCtxRefIdeal : Cert.ProjCtxRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_FfnCtx (hFfnCtx := hFfnCtx)
    ∧ quiescent_FfnCtxIdeal (hFfnCtxIdeal := hFfnCtxIdeal)
    ∧ quiescent_FfnCtxRefIdeal (hFfnCtxRefIdeal := hFfnCtxRefIdeal)
    ∧ quiescent_MergeCtx (hMergeCtx := hMergeCtx)
    ∧ quiescent_MergeCtxIdeal (hMergeCtxIdeal := hMergeCtxIdeal)
    ∧ quiescent_MergeCtxRefIdeal (hMergeCtxRefIdeal := hMergeCtxRefIdeal)
    ∧ quiescent_ProjCtx (hProjCtx := hProjCtx)
    ∧ quiescent_ProjCtxIdeal (hProjCtxIdeal := hProjCtxIdeal)
    ∧ quiescent_ProjCtxRefIdeal (hProjCtxRefIdeal := hProjCtxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_FfnCtx_FfnCtxIdeal
    ∧ algebraic_FfnCtxIdeal_FfnCtxRefIdeal (hFfnCtxIdeal := hFfnCtxIdeal) (hFfnCtxRefIdeal := hFfnCtxRefIdeal)
    ∧ preserves_MergeCtx_MergeCtxIdeal
    ∧ algebraic_MergeCtxIdeal_MergeCtxRefIdeal (hMergeCtxIdeal := hMergeCtxIdeal) (hMergeCtxRefIdeal := hMergeCtxRefIdeal)
    ∧ preserves_ProjCtx_ProjCtxIdeal
    ∧ algebraic_ProjCtxIdeal_ProjCtxRefIdeal (hProjCtxIdeal := hProjCtxIdeal) (hProjCtxRefIdeal := hProjCtxRefIdeal)
-- ==== Pre_finite.lean ====
abbrev S8192x11264 : Shape := ⟨2, ![8192, 11264]⟩
abbrev S8192x128 : Shape := ⟨2, ![8192, 128]⟩
abbrev S512x11264 : Shape := ⟨2, ![512, 11264]⟩
abbrev S512x128 : Shape := ⟨2, ![512, 128]⟩
abbrev S4x2x128x1024 : Shape := ⟨4, ![4, 2, 128, 1024]⟩
abbrev S4x2x1x1024 : Shape := ⟨4, ![4, 2, 1, 1024]⟩
abbrev S_ : Shape := ⟨0, ![]⟩

class Facts : Prop where
  bitsLt_bf16_f32 : FTy.bits .bf16 < FTy.bits .f32
  bcast_S_S512x11264 : S_.BroadcastsInDim S512x11264 (![] : Fin 0 → Fin S512x11264.rank)
  bcast_S_S512x128 : S_.BroadcastsInDim S512x128 (![] : Fin 0 → Fin S512x128.rank)
  bcast_S_S4x2x128x1024 : S_.BroadcastsInDim S4x2x128x1024 (![] : Fin 0 → Fin S4x2x128x1024.rank)
  bcast_S_S4x2x1x1024 : S_.BroadcastsInDim S4x2x1x1024 (![] : Fin 0 → Fin S4x2x1x1024.rank)

variable [Facts]

def fn {F : FTy → Type} [FloatOps F] (main_arg0 : FVec F S8192x11264 .bf16) (main_arg1 : FVec F S8192x128 .f32) (main_arg2 : FVec F S512x11264 .bf16) (main_arg3 : FVec F S512x128 .f32) (main_arg4 : FVec F S4x2x128x1024 .bf16) (main_arg5 : FVec F S4x2x1x1024 .f32) : IVec S512x11264 1 × IVec S512x128 1 × IVec S4x2x128x1024 1 × IVec S4x2x1x1024 1 :=
  let main_v0 : FVec F S512x11264 .f32 := (extf .f32 · bitsLt_bf16_f32) main_arg2
  let main_v1 : FVec F S512x11264 .f32 := Host.absf main_v0
  let main_cst : FVec F S_ .f32 := constant S_ .f32 0x7F800000#32
  let main_v2 : FVec F S512x11264 .f32 := broadcastInDim S512x11264 ![] bcast_S_S512x11264 main_cst
  let main_v3 : IVec S512x11264 1 := cmpf .olt main_v1 main_v2
  let main_v4 : FVec F S512x128 .f32 := Host.absf main_arg3
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_v7 : FVec F S4x2x128x1024 .f32 := (extf .f32 · bitsLt_bf16_f32) main_arg4
  let main_v8 : FVec F S4x2x128x1024 .f32 := Host.absf main_v7
  let main_cst_1 : FVec F S_ .f32 := constant S_ .f32 0x7F800000#32
  let main_v9 : FVec F S4x2x128x1024 .f32 := broadcastInDim S4x2x128x1024 ![] bcast_S_S4x2x128x1024 main_cst_1
  let main_v10 : IVec S4x2x128x1024 1 := cmpf .olt main_v8 main_v9
  let main_v11 : FVec F S4x2x1x1024 .f32 := Host.absf main_arg5
  let main_cst_2 : FVec F S_ .f32 := constant S_ .f32 0x7F800000#32
  let main_v12 : FVec F S4x2x1x1024 .f32 := broadcastInDim S4x2x1x1024 ![] bcast_S_S4x2x1x1024 main_cst_2
  let main_v13 : IVec S4x2x1x1024 1 := cmpf .olt main_v11 main_v12
  (main_v3, main_v6, main_v10, main_v13)
-- ==== Kernel.lean ====
abbrev S8192x11264 : Shape := ⟨2, ![8192, 11264]⟩
abbrev S8192x128 : Shape := ⟨2, ![8192, 128]⟩
abbrev S512x11264 : Shape := ⟨2, ![512, 11264]⟩
abbrev S512x128 : Shape := ⟨2, ![512, 128]⟩
abbrev S4x2x128x1024 : Shape := ⟨4, ![4, 2, 128, 1024]⟩
abbrev S4x2x1x1024 : Shape := ⟨4, ![4, 2, 1, 1024]⟩
abbrev S8192x2048 : Shape := ⟨2, ![8192, 2048]⟩
abbrev S512x2048 : Shape := ⟨2, ![512, 2048]⟩
abbrev S512x256 : Shape := ⟨2, ![512, 256]⟩
abbrev S512x512 : Shape := ⟨2, ![512, 512]⟩
abbrev S2048x512 : Shape := ⟨2, ![2048, 512]⟩
abbrev S256x256 : Shape := ⟨2, ![256, 256]⟩
abbrev S256x512 : Shape := ⟨2, ![256, 512]⟩
abbrev S256x128 : Shape := ⟨2, ![256, 128]⟩
abbrev S1x2x128x256 : Shape := ⟨4, ![1, 2, 128, 256]⟩
abbrev S1x2x1x256 : Shape := ⟨4, ![1, 2, 1, 256]⟩
abbrev S2x512x256 : Shape := ⟨3, ![2, 512, 256]⟩
abbrev S4096x512 : Shape := ⟨2, ![4096, 512]⟩
abbrev S64x64 : Shape := ⟨2, ![64, 64]⟩
abbrev S64x128 : Shape := ⟨2, ![64, 128]⟩
abbrev S1x1x128x256 : Shape := ⟨4, ![1, 1, 128, 256]⟩
abbrev S128x256 : Shape := ⟨2, ![128, 256]⟩
abbrev S1x1x1x256 : Shape := ⟨4, ![1, 1, 1, 256]⟩
abbrev S1x256 : Shape := ⟨2, ![1, 256]⟩
abbrev S1x512x256 : Shape := ⟨3, ![1, 512, 256]⟩
abbrev S64x256 : Shape := ⟨2, ![64, 256]⟩
abbrev S128x128 : Shape := ⟨2, ![128, 128]⟩
abbrev S128x512 : Shape := ⟨2, ![128, 512]⟩
abbrev S256 : Shape := ⟨1, ![256]⟩
abbrev S256x1 : Shape := ⟨2, ![256, 1]⟩

abbrev nBuf : Space → Nat
  | .hbm => 8
  | .vmem => 39
  | .smem => 0
  | _ => 0

abbrev bufTy : (tb : Table) → Fin (tcTables nBuf tb) → BufTy
  | .hbm, ⟨0, _⟩ => ⟨S8192x11264, .bf16⟩
  | .hbm, ⟨1, _⟩ => ⟨S8192x128, .f32⟩
  | .hbm, ⟨2, _⟩ => ⟨S512x11264, .bf16⟩
  | .hbm, ⟨3, _⟩ => ⟨S512x128, .f32⟩
  | .hbm, ⟨4, _⟩ => ⟨S4x2x128x1024, .bf16⟩
  | .hbm, ⟨5, _⟩ => ⟨S4x2x1x1024, .f32⟩
  | .hbm, ⟨6, _⟩ => ⟨S8192x2048, .bf16⟩
  | .hbm, ⟨7, _⟩ => ⟨S512x2048, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x128, .f32⟩
  | .local _ .vmem, ⟨7, _⟩ => ⟨S512x128, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x512, .bf16⟩
  | .local _ .vmem, ⟨13, _⟩ => ⟨S512x512, .bf16⟩
  | .local _ .vmem, ⟨14, _⟩ => ⟨S512x128, .f32⟩
  | .local _ .vmem, ⟨15, _⟩ => ⟨S512x128, .f32⟩
  | .local _ .vmem, ⟨16, _⟩ => ⟨S2048x512, .bf16⟩
  | .local _ .vmem, ⟨17, _⟩ => ⟨S2048x512, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S256x512, .bf16⟩
  | .local _ .vmem, ⟨23, _⟩ => ⟨S256x512, .bf16⟩
  | .local _ .vmem, ⟨24, _⟩ => ⟨S256x128, .f32⟩
  | .local _ .vmem, ⟨25, _⟩ => ⟨S256x128, .f32⟩
  | .local _ .vmem, ⟨26, _⟩ => ⟨S256x512, .bf16⟩
  | .local _ .vmem, ⟨27, _⟩ => ⟨S256x512, .bf16⟩
  | .local _ .vmem, ⟨28, _⟩ => ⟨S1x2x128x256, .bf16⟩
  | .local _ .vmem, ⟨29, _⟩ => ⟨S1x2x128x256, .bf16⟩
  | .local _ .vmem, ⟨30, _⟩ => ⟨S1x2x1x256, .f32⟩
  | .local _ .vmem, ⟨31, _⟩ => ⟨S1x2x1x256, .f32⟩
  | .local _ .vmem, ⟨32, _⟩ => ⟨S2048x512, .bf16⟩
  | .local _ .vmem, ⟨33, _⟩ => ⟨S2048x512, .bf16⟩
  | .local _ .vmem, ⟨34, _⟩ => ⟨S256x512, .bf16⟩
  | .local _ .vmem, ⟨35, _⟩ => ⟨S256x512, .bf16⟩
  | .local _ .vmem, ⟨36, _⟩ => ⟨S2x512x256, .f32⟩
  | .local _ .vmem, ⟨37, _⟩ => ⟨S4096x512, .f32⟩
  | .local _ .vmem, ⟨38, _⟩ => ⟨S256x512, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨3, ![2, 4, 10], ![false, false, false]⟩

def k0_cond1 (i : grid0.Coords) : BitVec 1 :=
  let arg2 : BitVec 32 := BitVec.ofNat 32 (i 2).val
  let c0_i32 : BitVec 32 := 0#32
  let v10 : BitVec 1 := Scalar.cmpi .eq arg2 c0_i32
  let v11 : BitVec 32 := Scalar.extui v10
  let c0_i32_0 : BitVec 32 := 0#32
  let v12 : BitVec 1 := Scalar.cmpi .ne v11 c0_i32_0
  v12

def k0_mult1 : BitVec 32 :=
  let c0_i32_91 : BitVec 32 := 0#32
  c0_i32_91
def k0_mult2 : BitVec 32 :=
  let c128_i32 : BitVec 32 := 128#32
  c128_i32
def k0_mult3 : BitVec 32 :=
  let c128_i32_138 : BitVec 32 := 128#32
  c128_i32_138
def k0_mult4 : BitVec 32 :=
  let c0_i32_142 : BitVec 32 := 0#32
  c0_i32_142
def k0_cond2 (i : grid0.Coords) : BitVec 1 :=
  let arg2 : BitVec 32 := BitVec.ofNat 32 (i 2).val
  let c8_i32 : BitVec 32 := 8#32
  let v13 : BitVec 1 := Scalar.cmpi .slt arg2 c8_i32
  let v14 : BitVec 32 := Scalar.extui v13
  let c0_i32_1 : BitVec 32 := 0#32
  let v15 : BitVec 1 := Scalar.cmpi .ne v14 c0_i32_1
  v15

def k0_mult5 (i : grid0.Coords) : BitVec 32 :=
  let arg2 : BitVec 32 := BitVec.ofNat 32 (i 2).val
  let c512_i32 : BitVec 32 := 512#32
  let v22 : BitVec 32 := Scalar.muli arg2 c512_i32
  let c0_i32_82 : BitVec 32 := 0#32
  let v261 : BitVec 32 := Scalar.addi v22 c0_i32_82
  v261
def k0_off1 (i : grid0.Coords) (c0_i32_82 : BitVec 32) : Fin 2 → Nat :=
  let arg2 : BitVec 32 := BitVec.ofNat 32 (i 2).val
  let c512_i32 : BitVec 32 := 512#32
  let v22 : BitVec 32 := Scalar.muli arg2 c512_i32
  let v261 : BitVec 32 := Scalar.addi v22 c0_i32_82
  let v262 : BitVec 32 := v261
  let v263 : Index := Scalar.indexCast v262
  let c0_83 : Index := 0#32
  ![v263.toNat, 0]
def k0_mult6 (i : grid0.Coords) : BitVec 32 :=
  let c7_i32 : BitVec 32 := 7#32
  let arg2 : BitVec 32 := BitVec.ofNat 32 (i 2).val
  let v23 : BitVec 32 := Scalar.subi c7_i32 arg2
  let c512_i32_6 : BitVec 32 := 512#32
  let v24 : BitVec 32 := Scalar.muli v23 c512_i32_6
  let c384_i32 : BitVec 32 := 384#32
  let v276 : BitVec 32 := Scalar.addi v24 c384_i32
  v276
def k0_off2 (i : grid0.Coords) (c384_i32 : BitVec 32) : Fin 2 → Nat :=
  let c7_i32 : BitVec 32 := 7#32
  let arg2 : BitVec 32 := BitVec.ofNat 32 (i 2).val
  let v23 : BitVec 32 := Scalar.subi c7_i32 arg2
  let c512_i32_6 : BitVec 32 := 512#32
  let v24 : BitVec 32 := Scalar.muli v23 c512_i32_6
  let v276 : BitVec 32 := Scalar.addi v24 c384_i32
  let v277 : BitVec 32 := v276
  let v278 : Index := Scalar.indexCast v277
  let c0_86 : Index := 0#32
  ![v278.toNat, 0]
def k0_mult7 (i : grid0.Coords) : BitVec 32 :=
  let arg2 : BitVec 32 := BitVec.ofNat 32 (i 2).val
  let c512_i32 : BitVec 32 := 512#32
  let v22 : BitVec 32 := Scalar.muli arg2 c512_i32
  let c128_i32 : BitVec 32 := 128#32
  let v459 : BitVec 32 := Scalar.addi v22 c128_i32
  v459
def k0_mult8 (i : grid0.Coords) : BitVec 32 :=
  let c7_i32 : BitVec 32 := 7#32
  let arg2 : BitVec 32 := BitVec.ofNat 32 (i 2).val
  let v23 : BitVec 32 := Scalar.subi c7_i32 arg2
  let c512_i32_6 : BitVec 32 := 512#32
  let v24 : BitVec 32 := Scalar.muli v23 c512_i32_6
  let c256_i32 : BitVec 32 := 256#32
  let v474 : BitVec 32 := Scalar.addi v24 c256_i32
  v474
def k0_mult9 (i : grid0.Coords) : BitVec 32 :=
  let arg2 : BitVec 32 := BitVec.ofNat 32 (i 2).val
  let c512_i32 : BitVec 32 := 512#32
  let v22 : BitVec 32 := Scalar.muli arg2 c512_i32
  let c256_i32_171 : BitVec 32 := 256#32
  let v657 : BitVec 32 := Scalar.addi v22 c256_i32_171
  v657
def k0_mult10 (i : grid0.Coords) : BitVec 32 :=
  let c7_i32 : BitVec 32 := 7#32
  let arg2 : BitVec 32 := BitVec.ofNat 32 (i 2).val
  let v23 : BitVec 32 := Scalar.subi c7_i32 arg2
  let c512_i32_6 : BitVec 32 := 512#32
  let v24 : BitVec 32 := Scalar.muli v23 c512_i32_6
  let c128_i32_175 : BitVec 32 := 128#32
  let v672 : BitVec 32 := Scalar.addi v24 c128_i32_175
  v672
def k0_mult11 (i : grid0.Coords) : BitVec 32 :=
  let arg2 : BitVec 32 := BitVec.ofNat 32 (i 2).val
  let c512_i32 : BitVec 32 := 512#32
  let v22 : BitVec 32 := Scalar.muli arg2 c512_i32
  let c384_i32_219 : BitVec 32 := 384#32
  let v855 : BitVec 32 := Scalar.addi v22 c384_i32_219
  v855
def k0_mult12 (i : grid0.Coords) : BitVec 32 :=
  let c7_i32 : BitVec 32 := 7#32
  let arg2 : BitVec 32 := BitVec.ofNat 32 (i 2).val
  let v23 : BitVec 32 := Scalar.subi c7_i32 arg2
  let c512_i32_6 : BitVec 32 := 512#32
  let v24 : BitVec 32 := Scalar.muli v23 c512_i32_6
  let c0_i32_223 : BitVec 32 := 0#32
  let v870 : BitVec 32 := Scalar.addi v24 c0_i32_223
  v870
def k0_cond3 (i : grid0.Coords) : BitVec 1 :=
  let arg2 : BitVec 32 := BitVec.ofNat 32 (i 2).val
  let c8_i32_2 : BitVec 32 := 8#32
  let v16 : BitVec 1 := Scalar.cmpi .eq arg2 c8_i32_2
  let v17 : BitVec 32 := Scalar.extui v16
  let c0_i32_3 : BitVec 32 := 0#32
  let v18 : BitVec 1 := Scalar.cmpi .ne v17 c0_i32_3
  v18

def k0_mult13 : BitVec 32 :=
  let c0_i32_6 : BitVec 32 := 0#32
  let c256_i32 : BitVec 32 := 256#32
  let v22 : BitVec 32 := Scalar.muli c0_i32_6 c256_i32
  v22
def k0_mult14 : BitVec 32 :=
  let c0_i32_7 : BitVec 32 := 0#32
  let c0_i32_6 : BitVec 32 := 0#32
  let c256_i32 : BitVec 32 := 256#32
  let v22 : BitVec 32 := Scalar.muli c0_i32_6 c256_i32
  let v23 : BitVec 32 := v22
  let v24 : BitVec 32 := Scalar.addi c0_i32_7 v23
  v24
def k0_off3 : Fin 2 → Nat :=
  let c0_i32_7 : BitVec 32 := 0#32
  let c0_i32_6 : BitVec 32 := 0#32
  let c256_i32 : BitVec 32 := 256#32
  let v22 : BitVec 32 := Scalar.muli c0_i32_6 c256_i32
  let v23 : BitVec 32 := v22
  let v24 : BitVec 32 := Scalar.addi c0_i32_7 v23
  let v25 : BitVec 32 := v24
  let v26 : Index := Scalar.indexCast v25
  let c0 : Index := 0#32
  ![v26.toNat, 0]
def k0_off4 : Fin 2 → Nat :=
  let c0_i32_6 : BitVec 32 := 0#32
  let c256_i32 : BitVec 32 := 256#32
  let v22 : BitVec 32 := Scalar.muli c0_i32_6 c256_i32
  let v23 : BitVec 32 := v22
  let v38 : Index := Scalar.indexCast v23
  let c0_10 : Index := 0#32
  ![v38.toNat, 0]
def k0_cond4 (i : grid0.Coords) : BitVec 1 :=
  let arg2 : BitVec 32 := BitVec.ofNat 32 (i 2).val
  let c8_i32_4 : BitVec 32 := 8#32
  let v19 : BitVec 1 := Scalar.cmpi .sge arg2 c8_i32_4
  let v20 : BitVec 32 := Scalar.extui v19
  let c0_i32_5 : BitVec 32 := 0#32
  let v21 : BitVec 1 := Scalar.cmpi .ne v20 c0_i32_5
  v21

@[reducible] def k0_t1_loop : Scf.Loop 32 :=
  let c0_i32_7 : BitVec 32 := 0#32
  let c8_i32_8 : BitVec 32 := 8#32
  let v24 : BitVec 32 := Scalar.addi c0_i32_7 c8_i32_8
  let c1_i32 : BitVec 32 := 1#32
  ⟨c0_i32_7, v24, c1_i32⟩
def k0_mult15 (k0_t1 : Fin k0_t1_loop.trips) : BitVec 32 :=
  let c0_i32_7 : BitVec 32 := 0#32
  let c1_i32 : BitVec 32 := 1#32
  let arg24 : BitVec 32 := Scf.iv c0_i32_7 c1_i32 k0_t1
  let c256_i32 : BitVec 32 := 256#32
  let v25 : BitVec 32 := Scalar.muli arg24 c256_i32
  v25
def k0_mult16 (i : grid0.Coords) (k0_t1 : Fin k0_t1_loop.trips) : BitVec 32 :=
  let arg2 : BitVec 32 := BitVec.ofNat 32 (i 2).val
  let c8_i32_6 : BitVec 32 := 8#32
  let v22 : BitVec 32 := Scalar.subi arg2 c8_i32_6
  let c2048_i32 : BitVec 32 := 2048#32
  let v23 : BitVec 32 := Scalar.muli v22 c2048_i32
  let c0_i32_7 : BitVec 32 := 0#32
  let c1_i32 : BitVec 32 := 1#32
  let arg24 : BitVec 32 := Scf.iv c0_i32_7 c1_i32 k0_t1
  let c256_i32 : BitVec 32 := 256#32
  let v25 : BitVec 32 := Scalar.muli arg24 c256_i32
  let v26 : BitVec 32 := v25
  let v27 : BitVec 32 := Scalar.addi v23 v26
  v27
def k0_off5 (i : grid0.Coords) (k0_t1 : Fin k0_t1_loop.trips) : Fin 2 → Nat :=
  let arg2 : BitVec 32 := BitVec.ofNat 32 (i 2).val
  let c8_i32_6 : BitVec 32 := 8#32
  let v22 : BitVec 32 := Scalar.subi arg2 c8_i32_6
  let c2048_i32 : BitVec 32 := 2048#32
  let v23 : BitVec 32 := Scalar.muli v22 c2048_i32
  let c0_i32_7 : BitVec 32 := 0#32
  let c1_i32 : BitVec 32 := 1#32
  let arg24 : BitVec 32 := Scf.iv c0_i32_7 c1_i32 k0_t1
  let c256_i32 : BitVec 32 := 256#32
  let v25 : BitVec 32 := Scalar.muli arg24 c256_i32
  let v26 : BitVec 32 := v25
  let v27 : BitVec 32 := Scalar.addi v23 v26
  let v28 : BitVec 32 := v27
  let v29 : Index := Scalar.indexCast v28
  let c0 : Index := 0#32
  ![v29.toNat, 0]
def k0_off6 (k0_t1 : Fin k0_t1_loop.trips) : Fin 2 → Nat :=
  let c0_i32_7 : BitVec 32 := 0#32
  let c1_i32 : BitVec 32 := 1#32
  let arg24 : BitVec 32 := Scf.iv c0_i32_7 c1_i32 k0_t1
  let c256_i32 : BitVec 32 := 256#32
  let v25 : BitVec 32 := Scalar.muli arg24 c256_i32
  let v26 : BitVec 32 := v25
  let v41 : Index := Scalar.indexCast v26
  let c0_12 : Index := 0#32
  ![v41.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c0_i32 : BitVec 32 := 0#32
  let v3 : BitVec 32 := Scalar.addi c0_i32 arg1
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c4_i32 : BitVec 32 := 4#32
  let v3 : BitVec 32 := Scalar.addi c4_i32 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c4_i32 : BitVec 32 := 4#32
  let v3 : BitVec 32 := Scalar.addi c4_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.minsi arg2 c7_i32
  let v2 : BitVec 32 := Scalar.addi v0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let c0_i32 : BitVec 32 := 0#32
  let v2 : BitVec 32 := Scalar.maxsi v1 c0_i32
  let v3 : BitVec 32 := Scalar.addi v0 v2
  let c0_i32_0 : BitVec 32 := 0#32
  let v4 : BitVec 32 := Scalar.addi c0_i32_0 arg1
  let c0_i32_1 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let c0_i32 : BitVec 32 := 0#32
  let v2 : BitVec 32 := Scalar.maxsi v1 c0_i32
  let v3 : BitVec 32 := Scalar.addi v0 v2
  let c4_i32 : BitVec 32 := 4#32
  let v4 : BitVec 32 := Scalar.addi c4_i32 arg1
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let c0_i32 : BitVec 32 := 0#32
  let v2 : BitVec 32 := Scalar.maxsi v1 c0_i32
  let v3 : BitVec 32 := Scalar.addi v0 v2
  let c4_i32 : BitVec 32 := 4#32
  let v4 : BitVec 32 := Scalar.addi c4_i32 arg1
  let c0_i32_0 : BitVec 32 := 0#32
  ![v3.toNat, v4.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c7_i32 : BitVec 32 := 7#32
  let v1 : BitVec 32 := Scalar.subi c7_i32 arg2
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c8_i32 : BitVec 32 := 8#32
  let v1 : BitVec 32 := Scalar.subi arg2 c8_i32
  let c0_i32 : BitVec 32 := 0#32
  let c1_i32 : BitVec 32 := 1#32
  let v2 : BitVec 32 := Scalar.maxsi c0_i32 v1
  let v3 : BitVec 32 := Scalar.minsi c1_i32 v2
  let v4 : BitVec 32 := Scalar.addi v0 v3
  let c8_i32_0 : BitVec 32 := 8#32
  let v5 : BitVec 32 := Scalar.addi c8_i32_0 arg1
  let c0_i32_1 : BitVec 32 := 0#32
  ![v4.toNat, v5.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c8_i32 : BitVec 32 := 8#32
  let v1 : BitVec 32 := Scalar.subi arg2 c8_i32
  let c0_i32 : BitVec 32 := 0#32
  let c1_i32 : BitVec 32 := 1#32
  let v2 : BitVec 32 := Scalar.maxsi c0_i32 v1
  let v3 : BitVec 32 := Scalar.minsi c1_i32 v2
  let v4 : BitVec 32 := Scalar.addi v0 v3
  let c0_i32_0 : BitVec 32 := 0#32
  let v5 : BitVec 32 := Scalar.addi c0_i32_0 arg1
  let c0_i32_1 : BitVec 32 := 0#32
  ![v4.toNat, v5.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x2x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1x2x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S2048x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]
-- ==== KernelIdeal.lean ====
variable {F : FTy → Type} [FloatOps F] [Named F]
def κ : String → Option EReal := fun
  | "log2e_16" => some (((Real.log 2)⁻¹ * (1 / 16) : ℝ) : EReal)
  | "neg_log2e" => some ((-((Real.log 2)⁻¹) : ℝ) : EReal)
  | _ => none
-- ==== ReferenceIdeal.lean ====
abbrev S8192x11264 : Shape := ⟨2, ![8192, 11264]⟩
abbrev S8192x128 : Shape := ⟨2, ![8192, 128]⟩
abbrev S512x11264 : Shape := ⟨2, ![512, 11264]⟩
abbrev S512x128 : Shape := ⟨2, ![512, 128]⟩
abbrev S4x2x128x1024 : Shape := ⟨4, ![4, 2, 128, 1024]⟩
abbrev S4x2x1x1024 : Shape := ⟨4, ![4, 2, 1, 1024]⟩
abbrev S2x256x11264 : Shape := ⟨3, ![2, 256, 11264]⟩
abbrev S2x256x128 : Shape := ⟨3, ![2, 256, 128]⟩
abbrev S2x256x1024 : Shape := ⟨3, ![2, 256, 1024]⟩
abbrev S2x256x2048 : Shape := ⟨3, ![2, 256, 2048]⟩
abbrev S2x256x4x256 : Shape := ⟨4, ![2, 256, 4, 256]⟩
abbrev S2x4x256x256 : Shape := ⟨4, ![2, 4, 256, 256]⟩
abbrev S2x256x4x512 : Shape := ⟨4, ![2, 256, 4, 512]⟩
abbrev S2x4x256x512 : Shape := ⟨4, ![2, 4, 256, 512]⟩
abbrev S1x1x128x1024 : Shape := ⟨4, ![1, 1, 128, 1024]⟩
abbrev S128x1024 : Shape := ⟨2, ![128, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S_ : Shape := ⟨0, ![]⟩
abbrev S2x4x1x256 : Shape := ⟨4, ![2, 4, 1, 256]⟩
abbrev S256x256 : Shape := ⟨2, ![256, 256]⟩
abbrev S2x256x4 : Shape := ⟨3, ![2, 256, 4]⟩
abbrev S2x256x4x1 : Shape := ⟨4, ![2, 256, 4, 1]⟩
abbrev S512x2048 : Shape := ⟨2, ![512, 2048]⟩

abbrev nBuf : Space → Nat
  | .hbm => 163
  | .vmem => 0
  | .smem => 0
  | _ => 0

abbrev hbmTy0_0 (i : Nat) : BufTy := match i % 128 with
  | 0 => ⟨S8192x11264, .bf16⟩
  | 1 => ⟨S8192x128, .f32⟩
  | 2 => ⟨S512x11264, .bf16⟩
  | 3 => ⟨S512x128, .f32⟩
  | 4 => ⟨S4x2x128x1024, .bf16⟩
  | 5 => ⟨S4x2x1x1024, .f32⟩
  | 6 => ⟨S512x11264, .f32⟩
  | 7 => ⟨S2x256x11264, .f32⟩
  | 8 => ⟨S2x256x128, .f32⟩
  | 9 => ⟨S2x256x1024, .f32⟩
  | 10 => ⟨S2x256x1024, .f32⟩
  | 11 => ⟨S2x256x2048, .f32⟩
  | 12 => ⟨S2x256x2048, .f32⟩
  | 13 => ⟨S2x256x4x256, .f32⟩
  | 14 => ⟨S2x4x256x256, .f32⟩
  | 15 => ⟨S2x256x4x256, .f32⟩
  | 16 => ⟨S2x4x256x256, .f32⟩
  | 17 => ⟨S2x256x4x512, .f32⟩
  | 18 => ⟨S2x4x256x512, .f32⟩
  | 19 => ⟨S1x1x128x1024, .bf16⟩
  | 20 => ⟨S128x1024, .bf16⟩
  | 21 => ⟨S128x1024, .f32⟩
  | 22 => ⟨S2x256x1024, .f32⟩
  | 23 => ⟨S1x1x1x1024, .f32⟩
  | 24 => ⟨S1x1024, .f32⟩
  | 25 => ⟨S1x1x1024, .f32⟩
  | 26 => ⟨S2x256x1024, .f32⟩
  | 27 => ⟨S2x256x1024, .f32⟩
  | 28 => ⟨S2x256x1024, .f32⟩
  | 29 => ⟨S_, .f32⟩
  | 30 => ⟨S2x256x1024, .f32⟩
  | 31 => ⟨S2x256x1024, .f32⟩
  | 32 => ⟨S2x256x1024, .f32⟩
  | 33 => ⟨S2x256x1024, .f32⟩
  | 34 => ⟨S2x256x1024, .i1⟩
  | 35 => ⟨S2x256x1024, .f32⟩
  | 36 => ⟨S2x256x1024, .f32⟩
  | 37 => ⟨S2x256x1024, .f32⟩
  | 38 => ⟨S2x256x1024, .f32⟩
  | 39 => ⟨S2x256x1024, .f32⟩
  | 40 => ⟨S2x256x1024, .f32⟩
  | 41 => ⟨S2x256x1024, .f32⟩
  | 42 => ⟨S2x256x1024, .f32⟩
  | 43 => ⟨S2x256x1024, .f32⟩
  | 44 => ⟨S_, .f32⟩
  | 45 => ⟨S2x256x1024, .f32⟩
  | 46 => ⟨S2x256x1024, .f32⟩
  | 47 => ⟨S2x256x4x256, .f32⟩
  | 48 => ⟨S2x4x256x256, .f32⟩
  | 49 => ⟨S1x1x128x1024, .bf16⟩
  | 50 => ⟨S128x1024, .bf16⟩
  | 51 => ⟨S128x1024, .f32⟩
  | 52 => ⟨S2x256x1024, .f32⟩
  | 53 => ⟨S1x1x1x1024, .f32⟩
  | 54 => ⟨S1x1024, .f32⟩
  | 55 => ⟨S1x1x1024, .f32⟩
  | 56 => ⟨S2x256x1024, .f32⟩
  | 57 => ⟨S2x256x1024, .f32⟩
  | 58 => ⟨S2x256x1024, .f32⟩
  | 59 => ⟨S_, .f32⟩
  | 60 => ⟨S2x256x1024, .f32⟩
  | 61 => ⟨S2x256x1024, .f32⟩
  | 62 => ⟨S2x256x1024, .f32⟩
  | 63 => ⟨S2x256x1024, .f32⟩
  | 64 => ⟨S2x256x1024, .i1⟩
  | 65 => ⟨S2x256x1024, .f32⟩
  | 66 => ⟨S2x256x1024, .f32⟩
  | 67 => ⟨S2x256x1024, .f32⟩
  | 68 => ⟨S2x256x1024, .f32⟩
  | 69 => ⟨S2x256x1024, .f32⟩
  | 70 => ⟨S2x256x1024, .f32⟩
  | 71 => ⟨S2x256x1024, .f32⟩
  | 72 => ⟨S2x256x1024, .f32⟩
  | 73 => ⟨S2x256x1024, .f32⟩
  | 74 => ⟨S_, .f32⟩
  | 75 => ⟨S2x256x1024, .f32⟩
  | 76 => ⟨S2x256x1024, .f32⟩
  | 77 => ⟨S2x256x4x256, .f32⟩
  | 78 => ⟨S2x4x256x256, .f32⟩
  | 79 => ⟨S_, .f32⟩
  | 80 => ⟨S_, .f32⟩
  | 81 => ⟨S2x4x256x256, .f32⟩
  | 82 => ⟨S2x4x1x256, .f32⟩
  | 83 => ⟨S2x4x256x256, .f32⟩
  | 84 => ⟨S2x4x256x256, .f32⟩
  | 85 => ⟨S2x4x256x256, .f32⟩
  | 86 => ⟨S2x4x256x256, .f32⟩
  | 87 => ⟨S2x4x256x256, .f32⟩
  | 88 => ⟨S2x4x256x256, .f32⟩
  | 89 => ⟨S2x4x256x256, .f32⟩
  | 90 => ⟨S2x4x256x256, .f32⟩
  | 91 => ⟨S2x4x256x256, .f32⟩
  | 92 => ⟨S_, .i1⟩
  | 93 => ⟨S256x256, .i1⟩
  | 94 => ⟨S256x256, .i32⟩
  | 95 => ⟨S_, .i32⟩
  | 96 => ⟨S256x256, .i32⟩
  | 97 => ⟨S256x256, .i32⟩
  | 98 => ⟨S256x256, .i32⟩
  | 99 => ⟨S256x256, .i1⟩
  | 100 => ⟨S_, .i1⟩
  | 101 => ⟨S256x256, .i1⟩
  | 102 => ⟨S256x256, .i1⟩
  | 103 => ⟨S_, .f32⟩
  | 104 => ⟨S_, .f32⟩
  | 105 => ⟨S2x4x256x256, .i1⟩
  | 106 => ⟨S2x4x256x256, .f32⟩
  | 107 => ⟨S2x4x256x256, .f32⟩
  | 108 => ⟨S2x4x256x512, .f32⟩
  | 109 => ⟨S2x4x256x256, .f32⟩
  | 110 => ⟨S2x4x256x256, .f32⟩
  | 111 => ⟨S2x4x256x512, .f32⟩
  | 112 => ⟨S2x4x256x256, .f32⟩
  | 113 => ⟨S_, .f32⟩
  | 114 => ⟨S_, .f32⟩
  | 115 => ⟨S2x4x256x256, .f32⟩
  | 116 => ⟨S2x4x1x256, .f32⟩
  | 117 => ⟨S2x4x256x256, .f32⟩
  | 118 => ⟨S2x4x256x256, .f32⟩
  | 119 => ⟨S2x4x256x256, .f32⟩
  | 120 => ⟨S2x4x256x256, .f32⟩
  | 121 => ⟨S2x4x256x256, .f32⟩
  | 122 => ⟨S2x4x256x256, .f32⟩
  | 123 => ⟨S2x4x256x256, .f32⟩
  | 124 => ⟨S2x4x256x256, .f32⟩
  | 125 => ⟨S2x4x256x256, .f32⟩
  | 126 => ⟨S_, .i1⟩
  | 127 => ⟨S256x256, .i1⟩
  | _ => ⟨S8192x11264, .bf16⟩

abbrev hbmTy0_1 (i : Nat) : BufTy := match i % 128 with
  | 0 => ⟨S256x256, .i32⟩
  | 1 => ⟨S_, .i32⟩
  | 2 => ⟨S256x256, .i32⟩
  | 3 => ⟨S256x256, .i32⟩
  | 4 => ⟨S256x256, .i32⟩
  | 5 => ⟨S256x256, .i1⟩
  | 6 => ⟨S_, .i1⟩
  | 7 => ⟨S256x256, .i1⟩
  | 8 => ⟨S256x256, .i1⟩
  | 9 => ⟨S_, .f32⟩
  | 10 => ⟨S_, .f32⟩
  | 11 => ⟨S2x4x256x256, .i1⟩
  | 12 => ⟨S2x4x256x256, .f32⟩
  | 13 => ⟨S2x4x256x256, .f32⟩
  | 14 => ⟨S2x4x256x512, .f32⟩
  | 15 => ⟨S2x4x256x512, .f32⟩
  | 16 => ⟨S2x4x256x512, .f32⟩
  | 17 => ⟨S2x256x4x512, .f32⟩
  | 18 => ⟨S2x256x4x512, .f32⟩
  | 19 => ⟨S_, .f32⟩
  | 20 => ⟨S2x256x4, .f32⟩
  | 21 => ⟨S2x256x4x1, .f32⟩
  | 22 => ⟨S_, .f32⟩
  | 23 => ⟨S2x256x4x1, .f32⟩
  | 24 => ⟨S2x256x4x1, .f32⟩
  | 25 => ⟨S_, .f32⟩
  | 26 => ⟨S2x256x4x1, .f32⟩
  | 27 => ⟨S2x256x4x1, .f32⟩
  | 28 => ⟨S2x256x4x1, .f32⟩
  | 29 => ⟨S2x256x4x512, .f32⟩
  | 30 => ⟨S2x256x4x512, .f32⟩
  | 31 => ⟨S2x256x2048, .f32⟩
  | 32 => ⟨S2x256x2048, .f32⟩
  | 33 => ⟨S512x2048, .f32⟩
  | 34 => ⟨S512x2048, .bf16⟩
  | _ => ⟨S8192x11264, .bf16⟩

abbrev hbmTy (i : Nat) : BufTy := match i / 128 with
  | 0 => hbmTy0_0 i
  | 1 => hbmTy0_1 i
  | _ => ⟨S8192x11264, .bf16⟩

abbrev bufTy : (tb : Table) → Fin (tcTables nBuf tb) → BufTy
  | .hbm, ⟨i, _⟩ => hbmTy i
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_v0 : Ref sig .tc := ⟨.hbm, 58, rfl⟩
abbrev main_call1_call0_cst : Ref sig .tc := ⟨.hbm, 59, rfl⟩
abbrev main_call1_call0_v0 : Ref sig .tc := ⟨.hbm, 60, rfl⟩
abbrev main_call1_call0_v1 : Ref sig .tc := ⟨.hbm, 61, rfl⟩
abbrev main_call1_call0_v2 : Ref sig .tc := ⟨.hbm, 62, rfl⟩
abbrev main_call1_call0_v3 : Ref sig .tc := ⟨.hbm, 63, rfl⟩
abbrev main_call1_call0_v4 : Ref sig .tc := ⟨.hbm, 64, rfl⟩
abbrev main_call1_call0_v5 : Ref sig .tc := ⟨.hbm, 65, rfl⟩
abbrev main_call1_call0_v6 : Ref sig .tc := ⟨.hbm, 66, rfl⟩
abbrev main_call1_call0_v7 : Ref sig .tc := ⟨.hbm, 67, rfl⟩
abbrev main_call1_call0_v8 : Ref sig .tc := ⟨.hbm, 68, rfl⟩
abbrev main_call1_call0_v9 : Ref sig .tc := ⟨.hbm, 69, rfl⟩
abbrev main_call1_call0_v10 : Ref sig .tc := ⟨.hbm, 70, rfl⟩
abbrev main_call1_call0_v11 : Ref sig .tc := ⟨.hbm, 71, rfl⟩
abbrev main_call1_v1 : Ref sig .tc := ⟨.hbm, 72, rfl⟩
abbrev main_v36 : Ref sig .tc := ⟨.hbm, 73, rfl⟩
abbrev main_cst_0 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call2_call0_cst : Ref sig .tc := ⟨.hbm, 79, rfl⟩
abbrev main_call2_call0_v0 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_c : Ref sig .tc := ⟨.hbm, 92, rfl⟩
abbrev main_v52 : Ref sig .tc := ⟨.hbm, 93, rfl⟩
abbrev main_call3_v0 : Ref sig .tc := ⟨.hbm, 94, rfl⟩
abbrev main_call3_c : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_c_0 : Ref sig .tc := ⟨.hbm, 100, rfl⟩
abbrev main_call3_v5 : Ref sig .tc := ⟨.hbm, 101, rfl⟩
abbrev main_v53 : Ref sig .tc := ⟨.hbm, 102, rfl⟩
abbrev main_cst_1 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_call9_call0_cst : Ref sig .tc := ⟨.hbm, 113, rfl⟩
abbrev main_call9_call0_v0 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_c_2 : Ref sig .tc := ⟨.hbm, 126, rfl⟩
abbrev main_v71 : Ref sig .tc := ⟨.hbm, 127, rfl⟩
abbrev main_call10_v0 : Ref sig .tc := ⟨.hbm, 128, rfl⟩
abbrev main_call10_c : Ref sig .tc := ⟨.hbm, 129, rfl⟩
abbrev main_call10_v1 : Ref sig .tc := ⟨.hbm, 130, rfl⟩
abbrev main_call10_v2 : Ref sig .tc := ⟨.hbm, 131, rfl⟩
abbrev main_call10_v3 : Ref sig .tc := ⟨.hbm, 132, rfl⟩
abbrev main_call10_v4 : Ref sig .tc := ⟨.hbm, 133, rfl⟩
abbrev main_call10_c_0 : Ref sig .tc := ⟨.hbm, 134, rfl⟩
abbrev main_call10_v5 : Ref sig .tc := ⟨.hbm, 135, rfl⟩
abbrev main_v72 : Ref sig .tc := ⟨.hbm, 136, rfl⟩
abbrev main_cst_3 : Ref sig .tc := ⟨.hbm, 137, rfl⟩
abbrev main_call11_v0 : Ref sig .tc := ⟨.hbm, 138, rfl⟩
abbrev main_call11_v1 : Ref sig .tc := ⟨.hbm, 139, rfl⟩
abbrev main_call11_v2 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_cst_4 : Ref sig .tc := ⟨.hbm, 147, rfl⟩
abbrev main_v79 : Ref sig .tc := ⟨.hbm, 148, rfl⟩
abbrev main_v80 : Ref sig .tc := ⟨.hbm, 149, rfl⟩
abbrev main_cst_5 : Ref sig .tc := ⟨.hbm, 150, rfl⟩
abbrev main_v81 : Ref sig .tc := ⟨.hbm, 151, rfl⟩
abbrev main_v82 : Ref sig .tc := ⟨.hbm, 152, rfl⟩
abbrev main_cst_6 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩

abbrev nD : Nat := 1
abbrev τ : Topo := Topo.v7x

variable {F : FTy → Type} [FloatOps F]
-- ==== Ffn.lean ====
abbrev S8192x2048 : Shape := ⟨2, ![8192, 2048]⟩
abbrev S4x2048x11264 : Shape := ⟨3, ![4, 2048, 11264]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S4x2048x11264, .f32⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnRefIdeal.lean ====
abbrev S8192x2048 : Shape := ⟨2, ![8192, 2048]⟩
abbrev S4x2048x11264 : Shape := ⟨3, ![4, 2048, 11264]⟩
abbrev S1x2048x11264 : Shape := ⟨3, ![1, 2048, 11264]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x11264, .f32⟩
  | .hbm, ⟨2, _⟩ => ⟨S8192x2048, .f32⟩
  | .hbm, ⟨3, _⟩ => ⟨S1x2048x11264, .f32⟩
  | .hbm, ⟨4, _⟩ => ⟨S2048x11264, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proj.lean ====
abbrev S8192x2048 : Shape := ⟨2, ![8192, 2048]⟩
abbrev S4x2048x11296 : Shape := ⟨3, ![4, 2048, 11296]⟩
abbrev S4x2048 : Shape := ⟨2, ![4, 2048]⟩
abbrev S4x11296x2048 : Shape := ⟨3, ![4, 11296, 2048]⟩
abbrev S4x1x2048 : Shape := ⟨3, ![4, 1, 2048]⟩
abbrev S8192x11264 : Shape := ⟨2, ![8192, 11264]⟩
abbrev S1024x2048 : Shape := ⟨2, ![1024, 2048]⟩
abbrev S1x1024x2048 : Shape := ⟨3, ![1, 1024, 2048]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S4x2048x11296, .f32⟩
  | .hbm, ⟨2, _⟩ => ⟨S4x2048, .f32⟩
  | .hbm, ⟨3, _⟩ => ⟨S4x11296x2048, .f32⟩
  | .hbm, ⟨4, _⟩ => ⟨S4x1x2048, .f32⟩
  | .hbm, ⟨5, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let arg0 : BitVec 32 := BitVec.ofNat 32 (i 0).val
  let c1_i32 : BitVec 32 := 1#32
  let v0 : BitVec 1 := Scalar.cmpi .slt arg0 c1_i32
  let v7 : BitVec 1 := Scalar.andi v6 v0
  let v8 : BitVec 32 := Scalar.extui v7
  let c0_i32_0 : BitVec 32 := 0#32
  let v9 : BitVec 1 := Scalar.cmpi .ne v8 c0_i32_0
  v9

def k0_cond2 (i : grid0.Coords) : BitVec 1 :=
  let arg1 : BitVec 32 := BitVec.ofNat 32 (i 1).val
  let c0_i32 : BitVec 32 := 0#32
  let v6 : BitVec 1 := Scalar.cmpi .eq arg1 c0_i32
  let arg0 : BitVec 32 := BitVec.ofNat 32 (i 0).val
  let c4_i32 : BitVec 32 := 4#32
  let v1 : BitVec 1 := Scalar.cmpi .sge arg0 c4_i32
  let c6_i32 : BitVec 32 := 6#32
  let v2 : BitVec 1 := Scalar.cmpi .slt arg0 c6_i32
  let v3 : BitVec 1 := Scalar.andi v1 v2
  let v10 : BitVec 1 := Scalar.andi v6 v3
  let v11 : BitVec 32 := Scalar.extui v10
  let c0_i32_1 : BitVec 32 := 0#32
  let v12 : BitVec 1 := Scalar.cmpi .ne v11 c0_i32_1
  v12

def k0_cond3 (i : grid0.Coords) : BitVec 1 :=
  let arg1 : BitVec 32 := BitVec.ofNat 32 (i 1).val
  let c0_i32 : BitVec 32 := 0#32
  let v6 : BitVec 1 := Scalar.cmpi .eq arg1 c0_i32
  let arg0 : BitVec 32 := BitVec.ofNat 32 (i 0).val
  let c1_i32 : BitVec 32 := 1#32
  let v0 : BitVec 1 := Scalar.cmpi .slt arg0 c1_i32
  let c4_i32 : BitVec 32 := 4#32
  let v1 : BitVec 1 := Scalar.cmpi .sge arg0 c4_i32
  let c6_i32 : BitVec 32 := 6#32
  let v2 : BitVec 1 := Scalar.cmpi .slt arg0 c6_i32
  let v3 : BitVec 1 := Scalar.andi v1 v2
  let v4 : BitVec 1 := Scalar.ori v0 v3
  let v_true : BitVec 1 := 1#1
  let v5 : BitVec 1 := Scalar.xori v4 v_true
  let v13 : BitVec 1 := Scalar.andi v6 v5
  let v14 : BitVec 32 := Scalar.extui v13
  let c0_i32_2 : BitVec 32 := 0#32
  let v15 : BitVec 1 := Scalar.cmpi .ne v14 c0_i32_2
  v15

def k0_cond4 (i : grid0.Coords) : BitVec 1 :=
  let arg1 : BitVec 32 := BitVec.ofNat 32 (i 1).val
  let c0_i32 : BitVec 32 := 0#32
  let v6 : BitVec 1 := Scalar.cmpi .eq arg1 c0_i32
  let true_3 : BitVec 1 := 1#1
  let v16 : BitVec 1 := Scalar.xori v6 true_3
  let arg0 : BitVec 32 := BitVec.ofNat 32 (i 0).val
  let c1_i32 : BitVec 32 := 1#32
  let v0 : BitVec 1 := Scalar.cmpi .slt arg0 c1_i32
  let v17 : BitVec 1 := Scalar.andi v16 v0
  let v18 : BitVec 32 := Scalar.extui v17
  let c0_i32_4 : BitVec 32 := 0#32
  let v19 : BitVec 1 := Scalar.cmpi .ne v18 c0_i32_4
  v19

def k0_cond5 (i : grid0.Coords) : BitVec 1 :=
  let arg1 : BitVec 32 := BitVec.ofNat 32 (i 1).val
  let c0_i32 : BitVec 32 := 0#32
  let v6 : BitVec 1 := Scalar.cmpi .eq arg1 c0_i32
  let true_3 : BitVec 1 := 1#1
  let v16 : BitVec 1 := Scalar.xori v6 true_3
  let arg0 : BitVec 32 := BitVec.ofNat 32 (i 0).val
  let c4_i32 : BitVec 32 := 4#32
  let v1 : BitVec 1 := Scalar.cmpi .sge arg0 c4_i32
  let c6_i32 : BitVec 32 := 6#32
  let v2 : BitVec 1 := Scalar.cmpi .slt arg0 c6_i32
  let v3 : BitVec 1 := Scalar.andi v1 v2
  let v20 : BitVec 1 := Scalar.andi v16 v3
  let v21 : BitVec 32 := Scalar.extui v20
  let c0_i32_5 : BitVec 32 := 0#32
  let v22 : BitVec 1 := Scalar.cmpi .ne v21 c0_i32_5
  v22

def k0_cond6 (i : grid0.Coords) : BitVec 1 :=
  let arg1 : BitVec 32 := BitVec.ofNat 32 (i 1).val
  let c0_i32 : BitVec 32 := 0#32
  let v6 : BitVec 1 := Scalar.cmpi .eq arg1 c0_i32
  let true_3 : BitVec 1 := 1#1
  let v16 : BitVec 1 := Scalar.xori v6 true_3
  let arg0 : BitVec 32 := BitVec.ofNat 32 (i 0).val
  let c1_i32 : BitVec 32 := 1#32
  let v0 : BitVec 1 := Scalar.cmpi .slt arg0 c1_i32
  let c4_i32 : BitVec 32 := 4#32
  let v1 : BitVec 1 := Scalar.cmpi .sge arg0 c4_i32
  let c6_i32 : BitVec 32 := 6#32
  let v2 : BitVec 1 := Scalar.cmpi .slt arg0 c6_i32
  let v3 : BitVec 1 := Scalar.andi v1 v2
  let v4 : BitVec 1 := Scalar.ori v0 v3
  let v_true : BitVec 1 := 1#1
  let v5 : BitVec 1 := Scalar.xori v4 v_true
  let v23 : BitVec 1 := Scalar.andi v16 v5
  let v24 : BitVec 32 := Scalar.extui v23
  let c0_i32_6 : BitVec 32 := 0#32
  let v25 : BitVec 1 := Scalar.cmpi .ne v24 c0_i32_6
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c6_i32 : BitVec 32 := 6#32
  let v1 : BitVec 1 := Scalar.cmpi .sge arg0 c6_i32
  let c4_i32 : BitVec 32 := 4#32
  let c0_i32 : BitVec 32 := 0#32
  let v2 : BitVec 32 := Scalar.select v1 c4_i32 c0_i32
  let v3 : BitVec 32 := Scalar.addi v0 v2
  let c8_i32 : BitVec 32 := 8#32
  let v4 : BitVec 32 := Scalar.muli v3 c8_i32
  let c0_i32_0 : BitVec 32 := 0#32
  let c0_i32_1 : BitVec 32 := 0#32
  let c0_i32_2 : BitVec 32 := 0#32
  ![c0_i32_0.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, c0_i32_1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S8192x2048 : Shape := ⟨2, ![8192, 2048]⟩
abbrev S4x2048x11296 : Shape := ⟨3, ![4, 2048, 11296]⟩
abbrev S4x2048 : Shape := ⟨2, ![4, 2048]⟩
abbrev S1x2048x11296 : Shape := ⟨3, ![1, 2048, 11296]⟩
abbrev S2048x11296 : Shape := ⟨2, ![2048, 11296]⟩
abbrev S8192x11296 : Shape := ⟨2, ![8192, 11296]⟩
abbrev S8192x1024 : Shape := ⟨2, ![8192, 1024]⟩
abbrev S8192x32 : Shape := ⟨2, ![8192, 32]⟩
abbrev S8192x4096 : Shape := ⟨2, ![8192, 4096]⟩
abbrev S_ : Shape := ⟨0, ![]⟩
abbrev S1x2048 : Shape := ⟨2, ![1, 2048]⟩
abbrev S2048 : Shape := ⟨1, ![2048]⟩
abbrev S8192x11264 : Shape := ⟨2, ![8192, 11264]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x11296, .f32⟩
  | .hbm, ⟨2, _⟩ => ⟨S4x2048, .f32⟩
  | .hbm, ⟨3, _⟩ => ⟨S8192x2048, .f32⟩
  | .hbm, ⟨4, _⟩ => ⟨S1x2048x11296, .f32⟩
  | .hbm, ⟨5, _⟩ => ⟨S2048x11296, .f32⟩
  | .hbm, ⟨6, _⟩ => ⟨S8192x11296, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S8192x2048, .f32⟩
  | .hbm, ⟨11, _⟩ => ⟨S8192x32, .f32⟩
  | .hbm, ⟨12, _⟩ => ⟨S8192x1024, .f32⟩
  | .hbm, ⟨13, _⟩ => ⟨S8192x4096, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S1x2048, .f32⟩
  | .hbm, ⟨18, _⟩ => ⟨S2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x11264, .f32⟩
  | .hbm, ⟨32, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Merge.lean ====
abbrev S8192x2048 : Shape := ⟨2, ![8192, 2048]⟩
abbrev S8192x1024 : Shape := ⟨2, ![8192, 1024]⟩
abbrev S8192x11264 : Shape := ⟨2, ![8192, 11264]⟩
abbrev S4x2048x2048 : Shape := ⟨3, ![4, 2048, 2048]⟩
abbrev S4x1024x2048 : Shape := ⟨3, ![4, 1024, 2048]⟩
abbrev S512x2048 : Shape := ⟨2, ![512, 2048]⟩
abbrev S512x1024 : Shape := ⟨2, ![512, 1024]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x11264, .bf16⟩
  | .hbm, ⟨3, _⟩ => ⟨S4x2048x2048, .f32⟩
  | .hbm, ⟨4, _⟩ => ⟨S4x1024x2048, .f32⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x2048x1024, .f32⟩
  | .local _ .vmem, ⟨9, _⟩ => ⟨S1x2048x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S512x1024, .bf16⟩
  | .local _ .vmem, ⟨13, _⟩ => ⟨S512x1024, .bf16⟩
  | .local _ .vmem, ⟨14, _⟩ => ⟨S2048x1024, .bf16⟩
  | .local _ .vmem, ⟨15, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x2048 : Shape := ⟨2, ![8192, 2048]⟩
abbrev S8192x1024 : Shape := ⟨2, ![8192, 1024]⟩
abbrev S8192x11264 : Shape := ⟨2, ![8192, 11264]⟩
abbrev S4x2048x2048 : Shape := ⟨3, ![4, 2048, 2048]⟩
abbrev S4x1024x2048 : Shape := ⟨3, ![4, 1024, 2048]⟩
abbrev S1x2048x2048 : Shape := ⟨3, ![1, 2048, 2048]⟩
abbrev S2048x2048 : Shape := ⟨2, ![2048, 2048]⟩
abbrev S1x1024x2048 : Shape := ⟨3, ![1, 1024, 2048]⟩
abbrev S1024x2048 : Shape := ⟨2, ![1024, 2048]⟩
abbrev S8192x4096 : Shape := ⟨2, ![8192, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x11264, .bf16⟩
  | .hbm, ⟨3, _⟩ => ⟨S4x2048x2048, .f32⟩
  | .hbm, ⟨4, _⟩ => ⟨S4x1024x2048, .f32⟩
  | .hbm, ⟨5, _⟩ => ⟨S8192x2048, .f32⟩
  | .hbm, ⟨6, _⟩ => ⟨S1x2048x2048, .f32⟩
  | .hbm, ⟨7, _⟩ => ⟨S2048x2048, .f32⟩
  | .hbm, ⟨8, _⟩ => ⟨S8192x2048, .f32⟩
  | .hbm, ⟨9, _⟩ => ⟨S8192x1024, .f32⟩
  | .hbm, ⟨10, _⟩ => ⟨S1x1024x2048, .f32⟩
  | .hbm, ⟨11, _⟩ => ⟨S1024x2048, .f32⟩
  | .hbm, ⟨12, _⟩ => ⟨S8192x2048, .f32⟩
  | .hbm, ⟨13, _⟩ => ⟨S8192x4096, .bf16⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== FfnCtx.lean ====
abbrev S512x2048 : Shape := ⟨2, ![512, 2048]⟩
abbrev S4x2048x11264 : Shape := ⟨3, ![4, 2048, 11264]⟩
abbrev S512x5632 : Shape := ⟨2, ![512, 5632]⟩
abbrev S1x2048x512 : Shape := ⟨3, ![1, 2048, 512]⟩
abbrev S512x512 : Shape := ⟨2, ![512, 512]⟩
abbrev S2048x512 : Shape := ⟨2, ![2048, 512]⟩

abbrev nBuf : Space → Nat
  | .hbm => 3
  | .vmem => 9
  | .smem => 0
  | _ => 0

abbrev bufTy : (tb : Table) → Fin (tcTables nBuf tb) → BufTy
  | .hbm, ⟨0, _⟩ => ⟨S512x2048, .bf16⟩
  | .hbm, ⟨1, _⟩ => ⟨S4x2048x11264, .f32⟩
  | .hbm, ⟨2, _⟩ => ⟨S512x5632, .bf16⟩
  | .local _ .vmem, ⟨0, _⟩ => ⟨S512x2048, .bf16⟩
  | .local _ .vmem, ⟨1, _⟩ => ⟨S1x2048x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S512x512, .bf16⟩
  | .local _ .vmem, ⟨6, _⟩ => ⟨S512x512, .bf16⟩
  | .local _ .vmem, ⟨7, _⟩ => ⟨S2048x512, .bf16⟩
  | .local _ .vmem, ⟨8, _⟩ => ⟨S2048x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnCtxRefIdeal.lean ====
abbrev S512x2048 : Shape := ⟨2, ![512, 2048]⟩
abbrev S4x2048x11264 : Shape := ⟨3, ![4, 2048, 11264]⟩
abbrev S1x2048x11264 : Shape := ⟨3, ![1, 2048, 11264]⟩
abbrev S2048x11264 : Shape := ⟨2, ![2048, 11264]⟩
abbrev S512x11264 : Shape := ⟨2, ![512, 11264]⟩
abbrev S512x5632 : Shape := ⟨2, ![512, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S4x2048x11264, .f32⟩
  | .hbm, ⟨2, _⟩ => ⟨S512x2048, .f32⟩
  | .hbm, ⟨3, _⟩ => ⟨S1x2048x11264, .f32⟩
  | .hbm, ⟨4, _⟩ => ⟨S2048x11264, .f32⟩
  | .hbm, ⟨5, _⟩ => ⟨S512x11264, .f32⟩
  | .hbm, ⟨6, _⟩ => ⟨S512x5632, .f32⟩
  | .hbm, ⟨7, _⟩ => ⟨S512x5632, .f32⟩
  | .hbm, ⟨8, _⟩ => ⟨S512x5632, .f32⟩
  | .hbm, ⟨9, _⟩ => ⟨S512x5632, .f32⟩
  | .hbm, ⟨10, _⟩ => ⟨S_, .f32⟩
  | .hbm, ⟨11, _⟩ => ⟨S512x5632, .f32⟩
  | .hbm, ⟨12, _⟩ => ⟨S512x5632, .f32⟩
  | .hbm, ⟨13, _⟩ => ⟨S_, .f32⟩
  | .hbm, ⟨14, _⟩ => ⟨S512x5632, .f32⟩
  | .hbm, ⟨15, _⟩ => ⟨S512x5632, .f32⟩
  | .hbm, ⟨16, _⟩ => ⟨S512x5632, .f32⟩
  | .hbm, ⟨17, _⟩ => ⟨S512x5632, .f32⟩
  | .hbm, ⟨18, _⟩ => ⟨S512x5632, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== MergeCtx.lean ====
abbrev S512x2048 : Shape := ⟨2, ![512, 2048]⟩
abbrev S512x1024 : Shape := ⟨2, ![512, 1024]⟩
abbrev S512x11264 : Shape := ⟨2, ![512, 11264]⟩
abbrev S4x2048x2048 : Shape := ⟨3, ![4, 2048, 2048]⟩
abbrev S4x1024x2048 : Shape := ⟨3, ![4, 1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S512x2048, .bf16⟩
  | .hbm, ⟨1, _⟩ => ⟨S512x1024, .bf16⟩
  | .hbm, ⟨2, _⟩ => ⟨S512x11264, .bf16⟩
  | .hbm, ⟨3, _⟩ => ⟨S4x2048x2048, .f32⟩
  | .hbm, ⟨4, _⟩ => ⟨S4x1024x2048, .f32⟩
  | .hbm, ⟨5, _⟩ => ⟨S512x2048, .bf16⟩
  | .local _ .vmem, ⟨0, _⟩ => ⟨S512x2048, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048x1024, .f32⟩
  | .local _ .vmem, ⟨7, _⟩ => ⟨S1x2048x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S512x1024, .bf16⟩
  | .local _ .vmem, ⟨11, _⟩ => ⟨S512x1024, .bf16⟩
  | .local _ .vmem, ⟨12, _⟩ => ⟨S2048x1024, .bf16⟩
  | .local _ .vmem, ⟨13, _⟩ => ⟨S1024x1024, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeCtxRefIdeal.lean ====
abbrev S512x2048 : Shape := ⟨2, ![512, 2048]⟩
abbrev S512x1024 : Shape := ⟨2, ![512, 1024]⟩
abbrev S512x11264 : Shape := ⟨2, ![512, 11264]⟩
abbrev S4x2048x2048 : Shape := ⟨3, ![4, 2048, 2048]⟩
abbrev S4x1024x2048 : Shape := ⟨3, ![4, 1024, 2048]⟩
abbrev S1x2048x2048 : Shape := ⟨3, ![1, 2048, 2048]⟩
abbrev S2048x2048 : Shape := ⟨2, ![2048, 2048]⟩
abbrev S1x1024x2048 : Shape := ⟨3, ![1, 1024, 2048]⟩
abbrev S1024x2048 : Shape := ⟨2, ![1024, 2048]⟩
abbrev S512x4096 : Shape := ⟨2, ![512, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S512x1024, .bf16⟩
  | .hbm, ⟨2, _⟩ => ⟨S512x11264, .bf16⟩
  | .hbm, ⟨3, _⟩ => ⟨S4x2048x2048, .f32⟩
  | .hbm, ⟨4, _⟩ => ⟨S4x1024x2048, .f32⟩
  | .hbm, ⟨5, _⟩ => ⟨S512x2048, .f32⟩
  | .hbm, ⟨6, _⟩ => ⟨S1x2048x2048, .f32⟩
  | .hbm, ⟨7, _⟩ => ⟨S2048x2048, .f32⟩
  | .hbm, ⟨8, _⟩ => ⟨S512x2048, .f32⟩
  | .hbm, ⟨9, _⟩ => ⟨S512x1024, .f32⟩
  | .hbm, ⟨10, _⟩ => ⟨S1x1024x2048, .f32⟩
  | .hbm, ⟨11, _⟩ => ⟨S1024x2048, .f32⟩
  | .hbm, ⟨12, _⟩ => ⟨S512x2048, .f32⟩
  | .hbm, ⟨13, _⟩ => ⟨S512x4096, .bf16⟩
  | .hbm, ⟨14, _⟩ => ⟨S512x4096, .f32⟩
  | .hbm, ⟨15, _⟩ => ⟨S512x4096, .f32⟩
  | .hbm, ⟨16, _⟩ => ⟨S512x4096, .f32⟩
  | .hbm, ⟨17, _⟩ => ⟨S_, .f32⟩
  | .hbm, ⟨18, _⟩ => ⟨S512x4096, .f32⟩
  | .hbm, ⟨19, _⟩ => ⟨S512x4096, .f32⟩
  | .hbm, ⟨20, _⟩ => ⟨S_, .f32⟩
  | .hbm, ⟨21, _⟩ => ⟨S512x4096, .f32⟩
  | .hbm, ⟨22, _⟩ => ⟨S512x4096, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S512x2048, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== ProjCtx.lean ====
abbrev S512x2048 : Shape := ⟨2, ![512, 2048]⟩
abbrev S4x2048x11296 : Shape := ⟨3, ![4, 2048, 11296]⟩
abbrev S4x2048 : Shape := ⟨2, ![4, 2048]⟩
abbrev S4x11296x2048 : Shape := ⟨3, ![4, 11296, 2048]⟩
abbrev S4x1x2048 : Shape := ⟨3, ![4, 1, 2048]⟩
abbrev S512x11264 : Shape := ⟨2, ![512, 11264]⟩
abbrev S1x1024x2048 : Shape := ⟨3, ![1, 1024, 2048]⟩
abbrev S1x1x1024 : Shape := ⟨3, ![1, 1, 1024]⟩
abbrev S512x1024 : Shape := ⟨2, ![512, 1024]⟩
abbrev S1024x2048 : Shape := ⟨2, ![1024, 2048]⟩
abbrev S1x1024 : Shape := ⟨2, ![1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S512x2048, .bf16⟩
  | .hbm, ⟨1, _⟩ => ⟨S4x2048x11296, .f32⟩
  | .hbm, ⟨2, _⟩ => ⟨S4x2048, .f32⟩
  | .hbm, ⟨3, _⟩ => ⟨S4x11296x2048, .f32⟩
  | .hbm, ⟨4, _⟩ => ⟨S4x1x2048, .f32⟩
  | .hbm, ⟨5, _⟩ => ⟨S512x11264, .bf16⟩
  | .local _ .vmem, ⟨0, _⟩ => ⟨S512x2048, .bf16⟩
  | .local _ .vmem, ⟨1, _⟩ => ⟨S1x1024x2048, .f32⟩
  | .local _ .vmem, ⟨2, _⟩ => ⟨S1x1024x2048, .f32⟩
  | .local _ .vmem, ⟨3, _⟩ => ⟨S1x1x1024, .f32⟩
  | .local _ .vmem, ⟨4, _⟩ => ⟨S1x1x1024, .f32⟩
  | .local _ .vmem, ⟨5, _⟩ => ⟨S512x1024, .bf16⟩
  | .local _ .vmem, ⟨6, _⟩ => ⟨S512x1024, .bf16⟩
  | .local _ .vmem, ⟨7, _⟩ => ⟨S1024x2048, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![11, 1], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let arg0 : BitVec 32 := BitVec.ofNat 32 (i 0).val
  let c1_i32 : BitVec 32 := 1#32
  let v0 : BitVec 1 := Scalar.cmpi .slt arg0 c1_i32
  let v7 : BitVec 1 := Scalar.andi v6 v0
  let v8 : BitVec 32 := Scalar.extui v7
  let c0_i32_0 : BitVec 32 := 0#32
  let v9 : BitVec 1 := Scalar.cmpi .ne v8 c0_i32_0
  v9

def k0_cond2 (i : grid0.Coords) : BitVec 1 :=
  let arg1 : BitVec 32 := BitVec.ofNat 32 (i 1).val
  let c0_i32 : BitVec 32 := 0#32
  let v6 : BitVec 1 := Scalar.cmpi .eq arg1 c0_i32
  let arg0 : BitVec 32 := BitVec.ofNat 32 (i 0).val
  let c4_i32 : BitVec 32 := 4#32
  let v1 : BitVec 1 := Scalar.cmpi .sge arg0 c4_i32
  let c6_i32 : BitVec 32 := 6#32
  let v2 : BitVec 1 := Scalar.cmpi .slt arg0 c6_i32
  let v3 : BitVec 1 := Scalar.andi v1 v2
  let v10 : BitVec 1 := Scalar.andi v6 v3
  let v11 : BitVec 32 := Scalar.extui v10
  let c0_i32_1 : BitVec 32 := 0#32
  let v12 : BitVec 1 := Scalar.cmpi .ne v11 c0_i32_1
  v12

def k0_cond3 (i : grid0.Coords) : BitVec 1 :=
  let arg1 : BitVec 32 := BitVec.ofNat 32 (i 1).val
  let c0_i32 : BitVec 32 := 0#32
  let v6 : BitVec 1 := Scalar.cmpi .eq arg1 c0_i32
  let arg0 : BitVec 32 := BitVec.ofNat 32 (i 0).val
  let c1_i32 : BitVec 32 := 1#32
  let v0 : BitVec 1 := Scalar.cmpi .slt arg0 c1_i32
  let c4_i32 : BitVec 32 := 4#32
  let v1 : BitVec 1 := Scalar.cmpi .sge arg0 c4_i32
  let c6_i32 : BitVec 32 := 6#32
  let v2 : BitVec 1 := Scalar.cmpi .slt arg0 c6_i32
  let v3 : BitVec 1 := Scalar.andi v1 v2
  let v4 : BitVec 1 := Scalar.ori v0 v3
  let v_true : BitVec 1 := 1#1
  let v5 : BitVec 1 := Scalar.xori v4 v_true
  let v13 : BitVec 1 := Scalar.andi v6 v5
  let v14 : BitVec 32 := Scalar.extui v13
  let c0_i32_2 : BitVec 32 := 0#32
  let v15 : BitVec 1 := Scalar.cmpi .ne v14 c0_i32_2
  v15

def k0_cond4 (i : grid0.Coords) : BitVec 1 :=
  let arg1 : BitVec 32 := BitVec.ofNat 32 (i 1).val
  let c0_i32 : BitVec 32 := 0#32
  let v6 : BitVec 1 := Scalar.cmpi .eq arg1 c0_i32
  let true_3 : BitVec 1 := 1#1
  let v16 : BitVec 1 := Scalar.xori v6 true_3
  let arg0 : BitVec 32 := BitVec.ofNat 32 (i 0).val
  let c1_i32 : BitVec 32 := 1#32
  let v0 : BitVec 1 := Scalar.cmpi .slt arg0 c1_i32
  let v17 : BitVec 1 := Scalar.andi v16 v0
  let v18 : BitVec 32 := Scalar.extui v17
  let c0_i32_4 : BitVec 32 := 0#32
  let v19 : BitVec 1 := Scalar.cmpi .ne v18 c0_i32_4
  v19

def k0_cond5 (i : grid0.Coords) : BitVec 1 :=
  let arg1 : BitVec 32 := BitVec.ofNat 32 (i 1).val
  let c0_i32 : BitVec 32 := 0#32
  let v6 : BitVec 1 := Scalar.cmpi .eq arg1 c0_i32
  let true_3 : BitVec 1 := 1#1
  let v16 : BitVec 1 := Scalar.xori v6 true_3
  let arg0 : BitVec 32 := BitVec.ofNat 32 (i 0).val
  let c4_i32 : BitVec 32 := 4#32
  let v1 : BitVec 1 := Scalar.cmpi .sge arg0 c4_i32
  let c6_i32 : BitVec 32 := 6#32
  let v2 : BitVec 1 := Scalar.cmpi .slt arg0 c6_i32
  let v3 : BitVec 1 := Scalar.andi v1 v2
  let v20 : BitVec 1 := Scalar.andi v16 v3
  let v21 : BitVec 32 := Scalar.extui v20
  let c0_i32_5 : BitVec 32 := 0#32
  let v22 : BitVec 1 := Scalar.cmpi .ne v21 c0_i32_5
  v22

def k0_cond6 (i : grid0.Coords) : BitVec 1 :=
  let arg1 : BitVec 32 := BitVec.ofNat 32 (i 1).val
  let c0_i32 : BitVec 32 := 0#32
  let v6 : BitVec 1 := Scalar.cmpi .eq arg1 c0_i32
  let true_3 : BitVec 1 := 1#1
  let v16 : BitVec 1 := Scalar.xori v6 true_3
  let arg0 : BitVec 32 := BitVec.ofNat 32 (i 0).val
  let c1_i32 : BitVec 32 := 1#32
  let v0 : BitVec 1 := Scalar.cmpi .slt arg0 c1_i32
  let c4_i32 : BitVec 32 := 4#32
  let v1 : BitVec 1 := Scalar.cmpi .sge arg0 c4_i32
  let c6_i32 : BitVec 32 := 6#32
  let v2 : BitVec 1 := Scalar.cmpi .slt arg0 c6_i32
  let v3 : BitVec 1 := Scalar.andi v1 v2
  let v4 : BitVec 1 := Scalar.ori v0 v3
  let v_true : BitVec 1 := 1#1
  let v5 : BitVec 1 := Scalar.xori v4 v_true
  let v23 : BitVec 1 := Scalar.andi v16 v5
  let v24 : BitVec 32 := Scalar.extui v23
  let c0_i32_6 : BitVec 32 := 0#32
  let v25 : BitVec 1 := Scalar.cmpi .ne v24 c0_i32_6
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let c6_i32 : BitVec 32 := 6#32
  let v1 : BitVec 1 := Scalar.cmpi .sge arg0 c6_i32
  let c4_i32 : BitVec 32 := 4#32
  let c0_i32 : BitVec 32 := 0#32
  let v2 : BitVec 32 := Scalar.select v1 c4_i32 c0_i32
  let v3 : BitVec 32 := Scalar.addi v0 v2
  let c8_i32 : BitVec 32 := 8#32
  let v4 : BitVec 32 := Scalar.muli v3 c8_i32
  let c0_i32_0 : BitVec 32 := 0#32
  let c0_i32_1 : BitVec 32 := 0#32
  let c0_i32_2 : BitVec 32 := 0#32
  ![c0_i32_0.toNat, v4.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  let c0_i32_2 : BitVec 32 := 0#32
  ![c0_i32_0.toNat, c0_i32_1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjCtxRefIdeal.lean ====
abbrev S512x2048 : Shape := ⟨2, ![512, 2048]⟩
abbrev S4x2048x11296 : Shape := ⟨3, ![4, 2048, 11296]⟩
abbrev S4x2048 : Shape := ⟨2, ![4, 2048]⟩
abbrev S1x2048x11296 : Shape := ⟨3, ![1, 2048, 11296]⟩
abbrev S2048x11296 : Shape := ⟨2, ![2048, 11296]⟩
abbrev S512x11296 : Shape := ⟨2, ![512, 11296]⟩
abbrev S512x1024 : Shape := ⟨2, ![512, 1024]⟩
abbrev S512x32 : Shape := ⟨2, ![512, 32]⟩
abbrev S512x4096 : Shape := ⟨2, ![512, 4096]⟩
abbrev S_ : Shape := ⟨0, ![]⟩
abbrev S1x2048 : Shape := ⟨2, ![1, 2048]⟩
abbrev S2048 : Shape := ⟨1, ![2048]⟩
abbrev S512x11264 : Shape := ⟨2, ![512, 11264]⟩

abbrev nBuf : Space → Nat
  | .hbm => 33
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S4x2048x11296, .f32⟩
  | .hbm, ⟨2, _⟩ => ⟨S4x2048, .f32⟩
  | .hbm, ⟨3, _⟩ => ⟨S512x2048, .f32⟩
  | .hbm, ⟨4, _⟩ => ⟨S1x2048x11296, .f32⟩
  | .hbm, ⟨5, _⟩ => ⟨S2048x11296, .f32⟩
  | .hbm, ⟨6, _⟩ => ⟨S512x11296, .f32⟩
  | .hbm, ⟨7, _⟩ => ⟨S512x1024, .f32⟩
  | .hbm, ⟨8, _⟩ => ⟨S512x1024, .f32⟩
  | .hbm, ⟨9, _⟩ => ⟨S512x2048, .f32⟩
  | .hbm, ⟨10, _⟩ => ⟨S512x2048, .f32⟩
  | .hbm, ⟨11, _⟩ => ⟨S512x32, .f32⟩
  | .hbm, ⟨12, _⟩ => ⟨S512x1024, .f32⟩
  | .hbm, ⟨13, _⟩ => ⟨S512x4096, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S1x2048, .f32⟩
  | .hbm, ⟨18, _⟩ => ⟨S2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S1x2048, .f32⟩
  | .hbm, ⟨29, _⟩ => ⟨S512x2048, .f32⟩
  | .hbm, ⟨30, _⟩ => ⟨S512x2048, .f32⟩
  | .hbm, ⟨31, _⟩ => ⟨S512x11264, .f32⟩
  | .hbm, ⟨32, _⟩ => ⟨S512x11264, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Proof.Gla.Kernel.RunA.lean ====
/- The attention's body at block 0 of the grid: it runs, from any contents of the scratch and of the
   results' buffers, and gives every operand back as it was. -/
module

public import proofs.«01_k».proof.Proof.Gla.Kernel.Runs

@[expose] public section

set_option maxRecDepth 16384

noncomputable section

namespace Cert.Kernel.Gla

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at block 0. -/
theorem runA (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x128 .f32) (harg10 : arg10.IsWhole) (arg11 : Memref sig .tc .vmem S2048x512 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x512 .bf16) (harg14 : arg14.IsWhole) (arg15 : Memref sig .tc .vmem S256x128 .f32) (harg15 : arg15.IsWhole) (arg16 : Memref sig .tc .vmem S256x512 .bf16) (harg16 : arg16.IsWhole) (arg17 : Memref sig .tc .vmem S1x2x128x256 .bf16) (harg17 : arg17.IsWhole) (arg18 : Memref sig .tc .vmem S1x2x1x256 .f32) (harg18 : arg18.IsWhole) (arg19 : Memref sig .tc .vmem S2048x512 .bf16) (harg19 : arg19.IsWhole) (arg20 : Memref sig .tc .vmem S256x512 .bf16) (harg20 : arg20.IsWhole) (arg21 : Memref sig .tc .vmem S2x512x256 .f32) (harg21 : arg21.IsWhole) (arg22 : Memref sig .tc .vmem S4096x512 .f32) (harg22 : arg22.IsWhole) (arg23 : Memref sig .tc .vmem S256x512 .f32) (harg23 : arg23.IsWhole) (hc1 : k0_cond1 i = 1#1) (hc2 : k0_cond2 i = 1#1) (hc3 : ¬ k0_cond3 i = 1#1) (hc4 : ¬ k0_cond4 i = 1#1)
    (x0 : Vec F S512x256 .bf16) (x1 : Vec F S512x256 .bf16) (x2 : Vec F S512x512 .bf16) (x3 : Vec F S512x128 .f32) (x4 : Vec F S512x256 .bf16) (x5 : Vec F S512x256 .bf16) (x6 : Vec F S512x512 .bf16) (x7 : Vec F S512x128 .f32) (x8 : Vec F S2048x512 .bf16) (x9 : Vec F S256x256 .bf16) (x10 : Vec F S256x256 .bf16) (x11 : Vec F S256x512 .bf16) (x12 : Vec F S256x128 .f32) (x13 : Vec F S256x512 .bf16) (x14 : Vec F S1x2x128x256 .bf16) (x15 : Vec F S1x2x1x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_gla i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    haveI : Fact (k0_cond2 i = 1#1) := ⟨hc2⟩
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Gla

end
-- ==== Proof.Gla.Kernel.RunB.lean ====
/- The attention's body at blocks 1 to 7 of the grid: it runs, from any contents of the scratch and of the
   results' buffers, and gives every operand back as it was. -/
module

public import proofs.«01_k».proof.Proof.Gla.Kernel.Runs

@[expose] public section

set_option maxRecDepth 16384

noncomputable section

namespace Cert.Kernel.Gla

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at blocks 1 to 7. -/
theorem runB (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x128 .f32) (harg10 : arg10.IsWhole) (arg11 : Memref sig .tc .vmem S2048x512 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x512 .bf16) (harg14 : arg14.IsWhole) (arg15 : Memref sig .tc .vmem S256x128 .f32) (harg15 : arg15.IsWhole) (arg16 : Memref sig .tc .vmem S256x512 .bf16) (harg16 : arg16.IsWhole) (arg17 : Memref sig .tc .vmem S1x2x128x256 .bf16) (harg17 : arg17.IsWhole) (arg18 : Memref sig .tc .vmem S1x2x1x256 .f32) (harg18 : arg18.IsWhole) (arg19 : Memref sig .tc .vmem S2048x512 .bf16) (harg19 : arg19.IsWhole) (arg20 : Memref sig .tc .vmem S256x512 .bf16) (harg20 : arg20.IsWhole) (arg21 : Memref sig .tc .vmem S2x512x256 .f32) (harg21 : arg21.IsWhole) (arg22 : Memref sig .tc .vmem S4096x512 .f32) (harg22 : arg22.IsWhole) (arg23 : Memref sig .tc .vmem S256x512 .f32) (harg23 : arg23.IsWhole) (hc1 : ¬ k0_cond1 i = 1#1) (hc2 : k0_cond2 i = 1#1) (hc3 : ¬ k0_cond3 i = 1#1) (hc4 : ¬ k0_cond4 i = 1#1)
    (x0 : Vec F S512x256 .bf16) (x1 : Vec F S512x256 .bf16) (x2 : Vec F S512x512 .bf16) (x3 : Vec F S512x128 .f32) (x4 : Vec F S512x256 .bf16) (x5 : Vec F S512x256 .bf16) (x6 : Vec F S512x512 .bf16) (x7 : Vec F S512x128 .f32) (x8 : Vec F S2048x512 .bf16) (x9 : Vec F S256x256 .bf16) (x10 : Vec F S256x256 .bf16) (x11 : Vec F S256x512 .bf16) (x12 : Vec F S256x128 .f32) (x13 : Vec F S256x512 .bf16) (x14 : Vec F S1x2x128x256 .bf16) (x15 : Vec F S1x2x1x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_gla i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    haveI : Fact (k0_cond2 i = 1#1) := ⟨hc2⟩
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Gla

end
-- ==== Proof.Gla.Kernel.RunC.lean ====
/- The attention's body at block 8 of the grid: it runs, from any contents of the scratch and of the
   results' buffers, and gives every operand back as it was. -/
module

public import proofs.«01_k».proof.Proof.Gla.Kernel.Runs

@[expose] public section

set_option maxRecDepth 16384

noncomputable section

namespace Cert.Kernel.Gla

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at block 8. -/
theorem runC (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x128 .f32) (harg10 : arg10.IsWhole) (arg11 : Memref sig .tc .vmem S2048x512 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x512 .bf16) (harg14 : arg14.IsWhole) (arg15 : Memref sig .tc .vmem S256x128 .f32) (harg15 : arg15.IsWhole) (arg16 : Memref sig .tc .vmem S256x512 .bf16) (harg16 : arg16.IsWhole) (arg17 : Memref sig .tc .vmem S1x2x128x256 .bf16) (harg17 : arg17.IsWhole) (arg18 : Memref sig .tc .vmem S1x2x1x256 .f32) (harg18 : arg18.IsWhole) (arg19 : Memref sig .tc .vmem S2048x512 .bf16) (harg19 : arg19.IsWhole) (arg20 : Memref sig .tc .vmem S256x512 .bf16) (harg20 : arg20.IsWhole) (arg21 : Memref sig .tc .vmem S2x512x256 .f32) (harg21 : arg21.IsWhole) (arg22 : Memref sig .tc .vmem S4096x512 .f32) (harg22 : arg22.IsWhole) (arg23 : Memref sig .tc .vmem S256x512 .f32) (harg23 : arg23.IsWhole) (hc1 : ¬ k0_cond1 i = 1#1) (hc2 : ¬ k0_cond2 i = 1#1) (hc3 : k0_cond3 i = 1#1) (hc4 : k0_cond4 i = 1#1)
    (x0 : Vec F S512x256 .bf16) (x1 : Vec F S512x256 .bf16) (x2 : Vec F S512x512 .bf16) (x3 : Vec F S512x128 .f32) (x4 : Vec F S512x256 .bf16) (x5 : Vec F S512x256 .bf16) (x6 : Vec F S512x512 .bf16) (x7 : Vec F S512x128 .f32) (x8 : Vec F S2048x512 .bf16) (x9 : Vec F S256x256 .bf16) (x10 : Vec F S256x256 .bf16) (x11 : Vec F S256x512 .bf16) (x12 : Vec F S256x128 .f32) (x13 : Vec F S256x512 .bf16) (x14 : Vec F S1x2x128x256 .bf16) (x15 : Vec F S1x2x1x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_gla i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Gla

end
-- ==== Proof.Gla.Kernel.RunD.lean ====
/- The attention's body at block 9 of the grid: it runs, from any contents of the scratch and of the
   results' buffers, and gives every operand back as it was. -/
module

public import proofs.«01_k».proof.Proof.Gla.Kernel.Runs

@[expose] public section

set_option maxRecDepth 16384

noncomputable section

namespace Cert.Kernel.Gla

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at block 9. -/
theorem runD (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x128 .f32) (harg10 : arg10.IsWhole) (arg11 : Memref sig .tc .vmem S2048x512 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x512 .bf16) (harg14 : arg14.IsWhole) (arg15 : Memref sig .tc .vmem S256x128 .f32) (harg15 : arg15.IsWhole) (arg16 : Memref sig .tc .vmem S256x512 .bf16) (harg16 : arg16.IsWhole) (arg17 : Memref sig .tc .vmem S1x2x128x256 .bf16) (harg17 : arg17.IsWhole) (arg18 : Memref sig .tc .vmem S1x2x1x256 .f32) (harg18 : arg18.IsWhole) (arg19 : Memref sig .tc .vmem S2048x512 .bf16) (harg19 : arg19.IsWhole) (arg20 : Memref sig .tc .vmem S256x512 .bf16) (harg20 : arg20.IsWhole) (arg21 : Memref sig .tc .vmem S2x512x256 .f32) (harg21 : arg21.IsWhole) (arg22 : Memref sig .tc .vmem S4096x512 .f32) (harg22 : arg22.IsWhole) (arg23 : Memref sig .tc .vmem S256x512 .f32) (harg23 : arg23.IsWhole) (hc1 : ¬ k0_cond1 i = 1#1) (hc2 : ¬ k0_cond2 i = 1#1) (hc3 : ¬ k0_cond3 i = 1#1) (hc4 : k0_cond4 i = 1#1)
    (x0 : Vec F S512x256 .bf16) (x1 : Vec F S512x256 .bf16) (x2 : Vec F S512x512 .bf16) (x3 : Vec F S512x128 .f32) (x4 : Vec F S512x256 .bf16) (x5 : Vec F S512x256 .bf16) (x6 : Vec F S512x512 .bf16) (x7 : Vec F S512x128 .f32) (x8 : Vec F S2048x512 .bf16) (x9 : Vec F S256x256 .bf16) (x10 : Vec F S256x256 .bf16) (x11 : Vec F S256x512 .bf16) (x12 : Vec F S256x128 .f32) (x13 : Vec F S256x512 .bf16) (x14 : Vec F S1x2x128x256 .bf16) (x15 : Vec F S1x2x1x256 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_gla i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.Kernel.Gla

end
-- ==== Proof.Gla.Kernel.Frame.lean ====
/- The attention's frame: the kernel ends, its arguments as they were, every counter at zero. -/
module

public import proofs.«01_k».proof.Proof.Gla.Kernel.RunA
public import proofs.«01_k».proof.Proof.Gla.Kernel.RunB
public import proofs.«01_k».proof.Proof.Gla.Kernel.RunC
public import proofs.«01_k».proof.Proof.Gla.Kernel.RunD

@[expose] public section

set_option maxRecDepth 16384

noncomputable section

namespace Cert.Kernel.Gla

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two results' windows: what the body leaves in them is not followed. -/
def forgets0 : Fin 18 → Bool := fun w => 16 ≤ w.val

/-- The proof data: the arrays as they stand at entry, each operand's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q w := Pipeline.shareOf spec0 w
  owed _ := 0

/-- The arrays are those at entry. -/
theorem A_eq (c : Dev nD) (w : Fin cfg0.W) : (dats m 0 c).A w = V m c (Pipeline.arrRef spec0 w) := by
  dsimp only [dats]

/-- Operand 0's buffer is left at its block, -/
theorem after0_0 (c : Dev nD) (t : Fin cfg0.N) : (dats m 0 c).after 0 t = iblk m c 0 t := by dsimp only [dats]
/-- and found at it. -/
theorem before0_0 (c : Dev nD) (t : Fin cfg0.N) (d) : (dats m 0 c).before 0 t d = iblk m c 0 t :=
  before0_0_of m (dats m 0 c) (A_eq m c 0) (after0_0 m c) t d
/-- What the body hands back for operand 0. -/
theorem leaves0_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [show cfg0.idle 0 (grid0.coords t) = false from rfl], after0_0]
/-- Operand 1's buffer is left at its block, -/
theorem after0_1 (c : Dev nD) (t : Fin cfg0.N) : (dats m 0 c).after 1 t = iblk m c 1 t := by dsimp only [dats]
/-- and found at it. -/
theorem before0_1 (c : Dev nD) (t : Fin cfg0.N) (d) : (dats m 0 c).before 1 t d = iblk m c 1 t :=
  before0_1_of m (dats m 0 c) (A_eq m c 1) (after0_1 m c) t d
/-- What the body hands back for operand 1. -/
theorem leaves0_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [show cfg0.idle 1 (grid0.coords t) = false from rfl], after0_1]
/-- Operand 2's buffer is left at its block, -/
theorem after0_2 (c : Dev nD) (t : Fin cfg0.N) : (dats m 0 c).after 2 t = iblk m c 2 t := by dsimp only [dats]
/-- and found at it. -/
theorem before0_2 (c : Dev nD) (t : Fin cfg0.N) (d) : (dats m 0 c).before 2 t d = iblk m c 2 t :=
  before0_2_of m (dats m 0 c) (A_eq m c 2) (after0_2 m c) t d
/-- What the body hands back for operand 2. -/
theorem leaves0_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [show cfg0.idle 2 (grid0.coords t) = false from rfl], after0_2]
/-- Operand 3's buffer is left at its block, -/
theorem after0_3 (c : Dev nD) (t : Fin cfg0.N) : (dats m 0 c).after 3 t = iblk m c 3 t := by dsimp only [dats]
/-- and found at it. -/
theorem before0_3 (c : Dev nD) (t : Fin cfg0.N) (d) : (dats m 0 c).before 3 t d = iblk m c 3 t :=
  before0_3_of m (dats m 0 c) (A_eq m c 3) (after0_3 m c) t d
/-- What the body hands back for operand 3. -/
theorem leaves0_3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [show cfg0.idle 3 (grid0.coords t) = false from rfl], after0_3]
/-- Operand 4's buffer is left at its block, -/
theorem after0_4 (c : Dev nD) (t : Fin cfg0.N) : (dats m 0 c).after 4 t = iblk m c 4 t := by dsimp only [dats]
/-- and found at it. -/
theorem before0_4 (c : Dev nD) (t : Fin cfg0.N) (d) : (dats m 0 c).before 4 t d = iblk m c 4 t :=
  before0_4_of m (dats m 0 c) (A_eq m c 4) (after0_4 m c) t d
/-- What the body hands back for operand 4. -/
theorem leaves0_4 (c : Dev nD) (t : Fin cfg0.N) : (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [show cfg0.idle 4 (grid0.coords t) = false from rfl], after0_4]
/-- Operand 5's buffer is left at its block, -/
theorem after0_5 (c : Dev nD) (t : Fin cfg0.N) : (dats m 0 c).after 5 t = iblk m c 5 t := by dsimp only [dats]
/-- and found at it. -/
theorem before0_5 (c : Dev nD) (t : Fin cfg0.N) (d) : (dats m 0 c).before 5 t d = iblk m c 5 t :=
  before0_5_of m (dats m 0 c) (A_eq m c 5) (after0_5 m c) t d
/-- What the body hands back for operand 5. -/
theorem leaves0_5 (c : Dev nD) (t : Fin cfg0.N) : (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [show cfg0.idle 5 (grid0.coords t) = false from rfl], after0_5]
/-- Operand 6's buffer is left at its block, -/
theorem after0_6 (c : Dev nD) (t : Fin cfg0.N) : (dats m 0 c).after 6 t = iblk m c 6 t := by dsimp only [dats]
/-- and found at it. -/
theorem before0_6 (c : Dev nD) (t : Fin cfg0.N) (d) : (dats m 0 c).before 6 t d = iblk m c 6 t :=
  before0_6_of m (dats m 0 c) (A_eq m c 6) (after0_6 m c) t d
/-- What the body hands back for operand 6. -/
theorem leaves0_6 (c : Dev nD) (t : Fin cfg0.N) : (dats m 0 c).leavesExact 6 t = owns (c : Thread nD τ) (ms6 t) fullShare (iblk m c 6 t) := by
  rw [show (dats m 0 c).leavesExact 6 t = owns (c : Thread nD τ) (ms6 t) fullShare ((dats m 0 c).after 6 t) from by
    unfold Dat.leavesExact; rw [show cfg0.idle 6 (grid0.coords t) = false from rfl], after0_6]
/-- Operand 7's buffer is left at its block, -/
theorem after0_7 (c : Dev nD) (t : Fin cfg0.N) : (dats m 0 c).after 7 t = iblk m c 7 t := by dsimp only [dats]
/-- and found at it. -/
theorem before0_7 (c : Dev nD) (t : Fin cfg0.N) (d) : (dats m 0 c).before 7 t d = iblk m c 7 t :=
  before0_7_of m (dats m 0 c) (A_eq m c 7) (after0_7 m c) t d
/-- What the body hands back for operand 7. -/
theorem leaves0_7 (c : Dev nD) (t : Fin cfg0.N) : (dats m 0 c).leavesExact 7 t = owns (c : Thread nD τ) (ms7 t) fullShare (iblk m c 7 t) := by
  rw [show (dats m 0 c).leavesExact 7 t = owns (c : Thread nD τ) (ms7 t) fullShare ((dats m 0 c).after 7 t) from by
    unfold Dat.leavesExact; rw [show cfg0.idle 7 (grid0.coords t) = false from rfl], after0_7]
/-- Operand 8's buffer is left at its block, -/
theorem after0_8 (c : Dev nD) (t : Fin cfg0.N) : (dats m 0 c).after 8 t = iblk m c 8 t := by dsimp only [dats]
/-- and found at it. -/
theorem before0_8 (c : Dev nD) (t : Fin cfg0.N) (d) : (dats m 0 c).before 8 t d = iblk m c 8 t :=
  before0_8_of m (dats m 0 c) (A_eq m c 8) (after0_8 m c) t d
/-- What the body hands back for operand 8. -/
theorem leaves0_8 (c : Dev nD) (t : Fin cfg0.N) : (dats m 0 c).leavesExact 8 t = owns (c : Thread nD τ) (ms8 t) fullShare (iblk m c 8 t) := by
  rw [show (dats m 0 c).leavesExact 8 t = owns (c : Thread nD τ) (ms8 t) fullShare ((dats m 0 c).after 8 t) from by
    unfold Dat.leavesExact; rw [show cfg0.idle 8 (grid0.coords t) = false from rfl], after0_8]
/-- Operand 9's buffer is left at its block, -/
theorem after0_9 (c : Dev nD) (t : Fin cfg0.N) : (dats m 0 c).after 9 t = iblk m c 9 t := by dsimp only [dats]
/-- and found at it. -/
theorem before0_9 (c : Dev nD) (t : Fin cfg0.N) (d) : (dats m 0 c).before 9 t d = iblk m c 9 t :=
  before0_9_of m (dats m 0 c) (A_eq m c 9) (after0_9 m c) t d
/-- What the body hands back for operand 9. -/
theorem leaves0_9 (c : Dev nD) (t : Fin cfg0.N) : (dats m 0 c).leavesExact 9 t = owns (c : Thread nD τ) (ms9 t) fullShare (iblk m c 9 t) := by
  rw [show (dats m 0 c).leavesExact 9 t = owns (c : Thread nD τ) (ms9 t) fullShare ((dats m 0 c).after 9 t) from by
    unfold Dat.leavesExact; rw [show cfg0.idle 9 (grid0.coords t) = false from rfl], after0_9]
/-- Operand 10's buffer is left at its block, -/
theorem after0_10 (c : Dev nD) (t : Fin cfg0.N) : (dats m 0 c).after 10 t = iblk m c 10 t := by dsimp only [dats]
/-- and found at it. -/
theorem before0_10 (c : Dev nD) (t : Fin cfg0.N) (d) : (dats m 0 c).before 10 t d = iblk m c 10 t :=
  before0_10_of m (dats m 0 c) (A_eq m c 10) (after0_10 m c) t d
/-- What the body hands back for operand 10. -/
theorem leaves0_10 (c : Dev nD) (t : Fin cfg0.N) : (dats m 0 c).leavesExact 10 t = owns (c : Thread nD τ) (ms10 t) fullShare (iblk m c 10 t) := by
  rw [show (dats m 0 c).leavesExact 10 t = owns (c : Thread nD τ) (ms10 t) fullShare ((dats m 0 c).after 10 t) from by
    unfold Dat.leavesExact; rw [show cfg0.idle 10 (grid0.coords t) = false from rfl], after0_10]
/-- Operand 11's buffer is left at its block, -/
theorem after0_11 (c : Dev nD) (t : Fin cfg0.N) : (dats m 0 c).after 11 t = iblk m c 11 t := by dsimp only [dats]
/-- and found at it. -/
theorem before0_11 (c : Dev nD) (t : Fin cfg0.N) (d) : (dats m 0 c).before 11 t d = iblk m c 11 t :=
  before0_11_of m (dats m 0 c) (A_eq m c 11) (after0_11 m c) t d
/-- What the body hands back for operand 11. -/
theorem leaves0_11 (c : Dev nD) (t : Fin cfg0.N) : (dats m 0 c).leavesExact 11 t = owns (c : Thread nD τ) (ms11 t) fullShare (iblk m c 11 t) := by
  rw [show (dats m 0 c).leavesExact 11 t = owns (c : Thread nD τ) (ms11 t) fullShare ((dats m 0 c).after 11 t) from by
    unfold Dat.leavesExact; rw [show cfg0.idle 11 (grid0.coords t) = false from rfl], after0_11]
/-- Operand 12's buffer is left at its block, -/
theorem after0_12 (c : Dev nD) (t : Fin cfg0.N) : (dats m 0 c).after 12 t = iblk m c 12 t := by dsimp only [dats]
/-- and found at it. -/
theorem before0_12 (c : Dev nD) (t : Fin cfg0.N) (d) : (dats m 0 c).before 12 t d = iblk m c 12 t :=
  before0_12_of m (dats m 0 c) (A_eq m c 12) (after0_12 m c) t d
/-- What the body hands back for operand 12. -/
theorem leaves0_12 (c : Dev nD) (t : Fin cfg0.N) : (dats m 0 c).leavesExact 12 t = owns (c : Thread nD τ) (ms12 t) fullShare (iblk m c 12 t) := by
  rw [show (dats m 0 c).leavesExact 12 t = owns (c : Thread nD τ) (ms12 t) fullShare ((dats m 0 c).after 12 t) from by
    unfold Dat.leavesExact; rw [show cfg0.idle 12 (grid0.coords t) = false from rfl], after0_12]
/-- Operand 13's buffer is left at its block, -/
theorem after0_13 (c : Dev nD) (t : Fin cfg0.N) : (dats m 0 c).after 13 t = iblk m c 13 t := by dsimp only [dats]
/-- and found at it. -/
theorem before0_13 (c : Dev nD) (t : Fin cfg0.N) (d) : (dats m 0 c).before 13 t d = iblk m c 13 t :=
  before0_13_of m (dats m 0 c) (A_eq m c 13) (after0_13 m c) t d
/-- What the body hands back for operand 13. -/
theorem leaves0_13 (c : Dev nD) (t : Fin cfg0.N) : (dats m 0 c).leavesExact 13 t = owns (c : Thread nD τ) (ms13 t) fullShare (iblk m c 13 t) := by
  rw [show (dats m 0 c).leavesExact 13 t = owns (c : Thread nD τ) (ms13 t) fullShare ((dats m 0 c).after 13 t) from by
    unfold Dat.leavesExact; rw [show cfg0.idle 13 (grid0.coords t) = false from rfl], after0_13]
/-- Operand 14's buffer is left at its block, -/
theorem after0_14 (c : Dev nD) (t : Fin cfg0.N) : (dats m 0 c).after 14 t = iblk m c 14 t := by dsimp only [dats]
/-- and found at it. -/
theorem before0_14 (c : Dev nD) (t : Fin cfg0.N) (d) : (dats m 0 c).before 14 t d = iblk m c 14 t :=
  before0_14_of m (dats m 0 c) (A_eq m c 14) (after0_14 m c) t d
/-- What the body hands back for operand 14. -/
theorem leaves0_14 (c : Dev nD) (t : Fin cfg0.N) : (dats m 0 c).leavesExact 14 t = owns (c : Thread nD τ) (ms14 t) fullShare (iblk m c 14 t) := by
  rw [show (dats m 0 c).leavesExact 14 t = owns (c : Thread nD τ) (ms14 t) fullShare ((dats m 0 c).after 14 t) from by
    unfold Dat.leavesExact; rw [show cfg0.idle 14 (grid0.coords t) = false from rfl], after0_14]
/-- Operand 15's buffer is left at its block, -/
theorem after0_15 (c : Dev nD) (t : Fin cfg0.N) : (dats m 0 c).after 15 t = iblk m c 15 t := by dsimp only [dats]
/-- and found at it. -/
theorem before0_15 (c : Dev nD) (t : Fin cfg0.N) (d) : (dats m 0 c).before 15 t d = iblk m c 15 t :=
  before0_15_of m (dats m 0 c) (A_eq m c 15) (after0_15 m c) t d
/-- What the body hands back for operand 15. -/
theorem leaves0_15 (c : Dev nD) (t : Fin cfg0.N) : (dats m 0 c).leavesExact 15 t = owns (c : Thread nD τ) (ms15 t) fullShare (iblk m c 15 t) := by
  rw [show (dats m 0 c).leavesExact 15 t = owns (c : Thread nD τ) (ms15 t) fullShare ((dats m 0 c).after 15 t) from by
    unfold Dat.leavesExact; rw [show cfg0.idle 15 (grid0.coords t) = false from rfl], after0_15]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare d)
    ∗ (∃ d, owns (c : Thread nD τ) (ms17 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) (ms16 t) fullShare d)
    ∗ (∃ d, owns (c : Thread nD τ) (ms17 t) fullShare d))

set_option maxHeartbeats 4000000 in
/-- The body at any point, by the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, leaves0_0, leaves0_1, leaves0_2, leaves0_3, leaves0_4, leaves0_5, leaves0_6, leaves0_7, leaves0_8, leaves0_9, leaves0_10, leaves0_11, leaves0_12, leaves0_13, leaves0_14, leaves0_15]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, Phi_eq]
  by_cases h0 : t.val % 10 = 0
  · iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runA c (grid0.coords t) _ _ _ _ _ _ _ _ _ _ _ _ _ _ _ _ _ _ _ _ _ _ _ _ _ _ _ _ _ _ _ _ _ _ _ _ _ _ _ _ _ _ ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [S0]; · iexact S0
    isplitl [S1]; · iexact S1
    isplitl [S2]; · iexact S2
    iintro ⟨H0, H1, H2, H3, H4, H5, H6, H7, H8, H9, H10, H11, H12, H13, H14, H15, H16, H17, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  by_cases h1 : t.val % 10 < 8
  · iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runB c (grid0.coords t) _ _ _ _ _ _ _ _ _ _ _ _ _ _ _ _ _ _ _ _ _ _ _ _ _ _ _ _ _ _ _ _ _ _ _ _ _ _ _ _ _ _ (fun h => absurd ((hcond1 t).mp h) (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [S0]; · iexact S0
    isplitl [S1]; · iexact S1
    isplitl [S2]; · iexact S2
    iintro ⟨H0, H1, H2, H3, H4, H5, H6, H7, H8, H9, H10, H11, H12, H13, H14, H15, H16, H17, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  by_cases h2 : t.val % 10 = 8
  · iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((runC c (grid0.coords t) _ _ _ _ _ _ _ _ _ _ _ _ _ _ _ _ _ _ _ _ _ _ _ _ _ _ _ _ _ _ _ _ _ _ _ _ _ _ _ _ _ _ (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [S0]; · iexact S0
    isplitl [S1]; · iexact S1
    isplitl [S2]; · iexact S2
    iintro ⟨H0, H1, H2, H3, H4, H5, H6, H7, H8, H9, H10, H11, H12, H13, H14, H15, H16, H17, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((runD c (grid0.coords t) _ _ _ _ _ _ _ _ _ _ _ _ _ _ _ _ _ _ _ _ _ _ _ _ _ _ _ _ _ _ _ _ _ _ _ _ _ _ _ _ _ _ (fun h => absurd ((hcond1 t).mp h) (by omega)) (fun h => absurd ((hcond2 t).mp h) (by omega)) (fun h => absurd ((hcond3 t).mp h) (by omega)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [S0]; · iexact S0
  isplitl [S1]; · iexact S1
  isplitl [S2]; · iexact S2
  iintro ⟨H0, H1, H2, H3, H4, H5, H6, H7, H8, H9, H10, H11, H12, H13, H14, H15, H16, H17, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch: it ends, every operand array unchanged, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 8 rfl).trans ((A_eq m c 8).trans (V_main_arg0 m c)),
      (Pipeline.RDat.FramePost.arr_in h.1 c 7 rfl).trans ((A_eq m c 7).trans (V_main_arg1 m c)),
      (Pipeline.RDat.FramePost.arr_in h.1 c 13 rfl).trans ((A_eq m c 13).trans (V_main_arg2 m c)),
      (Pipeline.RDat.FramePost.arr_in h.1 c 12 rfl).trans ((A_eq m c 12).trans (V_main_arg3 m c)),
      (Pipeline.RDat.FramePost.arr_in h.1 c 14 rfl).trans ((A_eq m c 14).trans (V_main_arg4 m c)),
      (Pipeline.RDat.FramePost.arr_in h.1 c 15 rfl).trans ((A_eq m c 15).trans (V_main_arg5 m c))⟩, h.2⟩) (run_main_quiescent m ρ)

end Cert.Kernel.Gla

end
-- ==== Proof.Gla.KernelIdeal.Runs.lean ====
/- What the runs of the attention's body are stated over: its four conditions as conditions on the
   point, where a backward block lies, the staging and scratch buffers, and the kernel's invariant. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Condition 1, block 0: the scratch is cleared and the context is scanned. -/
theorem hcond1 : ∀ t : Fin cfg0.N, k0_cond1 (grid0.coords t) = 1#1 ↔ t.val % 10 = 0 :=
  (by decide +kernel : ∀ t : Fin grid0.N, k0_cond1 (grid0.coords t) = 1#1 ↔ t.val % 10 = 0)

/-- Condition 2, blocks 0 to 7: the latent tokens are scanned both ways. -/
theorem hcond2 : ∀ t : Fin cfg0.N, k0_cond2 (grid0.coords t) = 1#1 ↔ t.val % 10 < 8 :=
  (by decide +kernel : ∀ t : Fin grid0.N, k0_cond2 (grid0.coords t) = 1#1 ↔ t.val % 10 < 8)

/-- Condition 3, block 8: the context's result is written. -/
theorem hcond3 : ∀ t : Fin cfg0.N, k0_cond3 (grid0.coords t) = 1#1 ↔ t.val % 10 = 8 :=
  (by decide +kernel : ∀ t : Fin grid0.N, k0_cond3 (grid0.coords t) = 1#1 ↔ t.val % 10 = 8)

/-- Condition 4, blocks 8 and 9: the latent result is written. -/
theorem hcond4 : ∀ t : Fin cfg0.N, k0_cond4 (grid0.coords t) = 1#1 ↔ 8 ≤ t.val % 10 :=
  (by decide +kernel : ∀ t : Fin grid0.N, k0_cond4 (grid0.coords t) = 1#1 ↔ 8 ≤ t.val % 10)

/-- The rows of the latent accumulator that the backward scan meets at block `s`: those of block `7 - s`. -/
theorem off2_eq : ∀ i : grid0.Coords, ∀ (r : Fin 4), k0_cond2 i = 1#1 →
    k0_off2 i (BitVec.ofNat 32 (128 * r.val)) = ![512 * (7 - (i 2).val) + 128 * r.val, 0] := by decide +kernel

instance closedOff2_0 (i : grid0.Coords) [h : Fact (k0_cond2 i = 1#1)] : ClosedOff (k0_off2 i (BitVec.ofNat 32 0)) := ⟨![512 * (7 - (i 2).val) + 128 * 0, 0], off2_eq i ⟨0, by decide⟩ h.out⟩
instance closedOff2_1 (i : grid0.Coords) [h : Fact (k0_cond2 i = 1#1)] : ClosedOff (k0_off2 i (BitVec.ofNat 32 128)) := ⟨![512 * (7 - (i 2).val) + 128 * 1, 0], off2_eq i ⟨1, by decide⟩ h.out⟩
instance closedOff2_2 (i : grid0.Coords) [h : Fact (k0_cond2 i = 1#1)] : ClosedOff (k0_off2 i (BitVec.ofNat 32 256)) := ⟨![512 * (7 - (i 2).val) + 128 * 2, 0], off2_eq i ⟨2, by decide⟩ h.out⟩
instance closedOff2_3 (i : grid0.Coords) [h : Fact (k0_cond2 i = 1#1)] : ClosedOff (k0_off2 i (BitVec.ofNat 32 384)) := ⟨![512 * (7 - (i 2).val) + 128 * 3, 0], off2_eq i ⟨3, by decide⟩ h.out⟩

/-- Window 0's buffer at point `t`, and that it is whole. -/
abbrev ms0 (t : Fin cfg0.N) : Memref sig .tc .vmem S512x256 .bf16 := win0_0.stage (cfg0.slots t 0)
theorem hs0 (t : Fin cfg0.N) : (ms0 t).IsWhole := hstage0_0 ((cfg0.slots t 0).cast nbuf0_0)
/-- Window 1's buffer at point `t`, and that it is whole. -/
abbrev ms1 (t : Fin cfg0.N) : Memref sig .tc .vmem S512x256 .bf16 := win0_1.stage (cfg0.slots t 1)
theorem hs1 (t : Fin cfg0.N) : (ms1 t).IsWhole := hstage0_1 ((cfg0.slots t 1).cast nbuf0_1)
/-- Window 2's buffer at point `t`, and that it is whole. -/
abbrev ms2 (t : Fin cfg0.N) : Memref sig .tc .vmem S512x512 .bf16 := win0_2.stage (cfg0.slots t 2)
theorem hs2 (t : Fin cfg0.N) : (ms2 t).IsWhole := hstage0_2 ((cfg0.slots t 2).cast nbuf0_2)
/-- Window 3's buffer at point `t`, and that it is whole. -/
abbrev ms3 (t : Fin cfg0.N) : Memref sig .tc .vmem S512x128 .f32 := win0_3.stage (cfg0.slots t 3)
theorem hs3 (t : Fin cfg0.N) : (ms3 t).IsWhole := hstage0_3 ((cfg0.slots t 3).cast nbuf0_3)
/-- Window 4's buffer at point `t`, and that it is whole. -/
abbrev ms4 (t : Fin cfg0.N) : Memref sig .tc .vmem S512x256 .bf16 := win0_4.stage (cfg0.slots t 4)
theorem hs4 (t : Fin cfg0.N) : (ms4 t).IsWhole := hstage0_4 ((cfg0.slots t 4).cast nbuf0_4)
/-- Window 5's buffer at point `t`, and that it is whole. -/
abbrev ms5 (t : Fin cfg0.N) : Memref sig .tc .vmem S512x256 .bf16 := win0_5.stage (cfg0.slots t 5)
theorem hs5 (t : Fin cfg0.N) : (ms5 t).IsWhole := hstage0_5 ((cfg0.slots t 5).cast nbuf0_5)
/-- Window 6's buffer at point `t`, and that it is whole. -/
abbrev ms6 (t : Fin cfg0.N) : Memref sig .tc .vmem S512x512 .bf16 := win0_6.stage (cfg0.slots t 6)
theorem hs6 (t : Fin cfg0.N) : (ms6 t).IsWhole := hstage0_6 ((cfg0.slots t 6).cast nbuf0_6)
/-- Window 7's buffer at point `t`, and that it is whole. -/
abbrev ms7 (t : Fin cfg0.N) : Memref sig .tc .vmem S512x128 .f32 := win0_7.stage (cfg0.slots t 7)
theorem hs7 (t : Fin cfg0.N) : (ms7 t).IsWhole := hstage0_7 ((cfg0.slots t 7).cast nbuf0_7)
/-- Window 8's buffer at point `t`, and that it is whole. -/
abbrev ms8 (t : Fin cfg0.N) : Memref sig .tc .vmem S2048x512 .bf16 := win0_8.stage (cfg0.slots t 8)
theorem hs8 (t : Fin cfg0.N) : (ms8 t).IsWhole := hstage0_8 ((cfg0.slots t 8).cast nbuf0_8)
/-- Window 9's buffer at point `t`, and that it is whole. -/
abbrev ms9 (t : Fin cfg0.N) : Memref sig .tc .vmem S256x256 .bf16 := win0_9.stage (cfg0.slots t 9)
theorem hs9 (t : Fin cfg0.N) : (ms9 t).IsWhole := hstage0_9 ((cfg0.slots t 9).cast nbuf0_9)
/-- Window 10's buffer at point `t`, and that it is whole. -/
abbrev ms10 (t : Fin cfg0.N) : Memref sig .tc .vmem S256x256 .bf16 := win0_10.stage (cfg0.slots t 10)
theorem hs10 (t : Fin cfg0.N) : (ms10 t).IsWhole := hstage0_10 ((cfg0.slots t 10).cast nbuf0_10)
/-- Window 11's buffer at point `t`, and that it is whole. -/
abbrev ms11 (t : Fin cfg0.N) : Memref sig .tc .vmem S256x512 .bf16 := win0_11.stage (cfg0.slots t 11)
theorem hs11 (t : Fin cfg0.N) : (ms11 t).IsWhole := hstage0_11 ((cfg0.slots t 11).cast nbuf0_11)
/-- Window 12's buffer at point `t`, and that it is whole. -/
abbrev ms12 (t : Fin cfg0.N) : Memref sig .tc .vmem S256x128 .f32 := win0_12.stage (cfg0.slots t 12)
theorem hs12 (t : Fin cfg0.N) : (ms12 t).IsWhole := hstage0_12 ((cfg0.slots t 12).cast nbuf0_12)
/-- Window 13's buffer at point `t`, and that it is whole. -/
abbrev ms13 (t : Fin cfg0.N) : Memref sig .tc .vmem S256x512 .bf16 := win0_13.stage (cfg0.slots t 13)
theorem hs13 (t : Fin cfg0.N) : (ms13 t).IsWhole := hstage0_13 ((cfg0.slots t 13).cast nbuf0_13)
/-- Window 14's buffer at point `t`, and that it is whole. -/
abbrev ms14 (t : Fin cfg0.N) : Memref sig .tc .vmem S1x2x128x256 .bf16 := win0_14.stage (cfg0.slots t 14)
theorem hs14 (t : Fin cfg0.N) : (ms14 t).IsWhole := hstage0_14 ((cfg0.slots t 14).cast nbuf0_14)
/-- Window 15's buffer at point `t`, and that it is whole. -/
abbrev ms15 (t : Fin cfg0.N) : Memref sig .tc .vmem S1x2x1x256 .f32 := win0_15.stage (cfg0.slots t 15)
theorem hs15 (t : Fin cfg0.N) : (ms15 t).IsWhole := hstage0_15 ((cfg0.slots t 15).cast nbuf0_15)
/-- Window 16's buffer at point `t`, and that it is whole. -/
abbrev ms16 (t : Fin cfg0.N) : Memref sig .tc .vmem S2048x512 .bf16 := win0_16.stage (cfg0.slots t 16)
theorem hs16 (t : Fin cfg0.N) : (ms16 t).IsWhole := hstage0_16 ((cfg0.slots t 16).cast nbuf0_16)
/-- Window 17's buffer at point `t`, and that it is whole. -/
abbrev ms17 (t : Fin cfg0.N) : Memref sig .tc .vmem S256x512 .bf16 := win0_17.stage (cfg0.slots t 17)
theorem hs17 (t : Fin cfg0.N) : (ms17 t).IsWhole := hstage0_17 ((cfg0.slots t 17).cast nbuf0_17)
/-- Scratch buffer 0. -/
abbrev sc0 : Memref sig .tc .vmem S2x512x256 .f32 := Memref.whole cc0_scratch0
/-- Scratch buffer 1. -/
abbrev sc1 : Memref sig .tc .vmem S4096x512 .f32 := Memref.whole cc0_scratch1
/-- Scratch buffer 2. -/
abbrev sc2 : Memref sig .tc .vmem S256x512 .f32 := Memref.whole cc0_scratch2

/-- The invariant: the three scratch buffers at some contents and the generator register. -/
theorem Phi_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.KernelIdeal.Gla

end
-- ==== Proof.Gla.KernelIdeal.Expr.lean ====
/- What the attention leaves in the context's accumulator at block 0, as one expression of the blocks it
   reads: two groups of two chunks of 64 tokens in each direction, each with the products inside its
   chunks, those between its two chunks and the state carried from the group before. -/
module

public import proofs.«01_k».proof.Proof.Gen.KernelIdeal.Skeleton
public import Idealize.ShloMosaic.Lib.VecWindow
public import Idealize.ShloMosaic.Lib.Exec

@[expose] public section

set_option maxRecDepth 16384

noncomputable section

namespace Cert.KernelIdeal.Gla

open Cert.KernelIdeal Cert.KernelIdeal.Gen
open Idealize.ShloMosaic Idealize.ShloMosaic.TcCoe

variable {F : FTy → Type} [FloatOps F] [Named F]

/-- A load over the stores made, at a unit-stride rectangle, reads a window of what they leave. -/
theorem readCov_unit {s : Shape} {e : EltTy} (v : View sig .tc .vmem s e) (L : List (View.Piece (Elt F) s e)) {off size : Fin s.rank → ℕ} (inb : ∀ a, off a + size a ≤ s.size a) :
    v.readCov L (Rect.unit off size inb).toLoadRect = VecWindow.window (v.read (Elt F) (v.writes (Elt F) v.junk L)) off size inb :=
  View.readAt_unit v _ inb rfl inb

/-- A store leaves its payload over what the earlier stores left. -/
theorem read_cons {s : Shape} {e : EltTy} (v : View sig .tc .vmem s e) (f : v.ty.Contents (Elt F)) {off size : Fin s.rank → ℕ} (inb : ∀ a, off a + size a ≤ s.size a)
    (w : (Rect.unit off size inb).shape.Idx → Elt F e) (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

/-- A put of the shape's own sizes leaves the payload. -/
theorem put_full {α : Type} {s : Shape} (x : s.Idx → α) {off : Fin s.rank → ℕ} (w : s.Idx → α) (h : ∀ a, off a + s.size a ≤ s.size a) :
    VecWindow.put x off s.size w = w := by
  funext y
  have hy : ∀ a, off a ≤ (y a).val ∧ (y a).val < off a + s.size a := fun a => by have := h a; have := (y a).isLt; omega
  refine (dif_pos hy).trans (congrArg w (funext fun a => Fin.ext ?_))
  show (y a).val - off a = (y a).val
  have := h a
  omega

/-- The zero block of the score matrix. -/
def zeroBlk : FVec F S64x64 .f32 := broadcast S64x64 (FloatOps.ofBits .f32 0x00000000#32)

/-- The running sums of the log decays (in two words, high and low) of the chunk at `o`, by a product with the triangle. -/
def cumOf (tri : FVec F S64x128 .bf16) (hi lo : FVec F S256x256 .bf16) (o : Fin 2 → ℕ) (h : S256x256.Slices o S64x256) : FVec F S64x256 .f32 :=
  matmul dot_S64x128_S128x256_S64x256_1_0_0_1_n_n none tri
    (concatenate S128x256 0 [⟨S64x256, extractStridedSlice S64x256 o hi h⟩, ⟨S64x256, extractStridedSlice S64x256 o lo h⟩] concatenates_S64x256_S64x256_S128x256_d0)
    (constant S64x256 .f32 0x00000000#32)

/-- A row of the running sums, over the chunk's rows. -/
def rowBc (c : FVec F S1x256 .f32) : FVec F S64x256 .f32 := broadcastTo S64x256 c broadcasts_S1x256_S64x256

/-- A block of queries or keys, scaled by powers of two. -/
def scaled (q : FVec F S64x256 .bf16) (e : FVec F S64x256 .f32) : FVec F S64x256 .f32 := mulf (extf .f32 q bitsLt_bf16_f32) (exp2 e)

/-- Scores of a chunk's queries against a chunk's keys. -/
def scores (a b : FVec F S64x256 .f32) : FVec F S64x64 .f32 :=
  matmul dot_S64x256_S64x256_S64x64_1_1_0_0_n_n none (truncf .bf16 a bitsLt_bf16_f32) (truncf .bf16 b bitsLt_bf16_f32) (constant S64x64 .f32 0x00000000#32)

/-- The masked scores inside one chunk, about the running sum `r` of its middle row. -/
def diagOf (msk : IVec S64x64 1) (r : FVec F S1x256 .f32) (c : FVec F S64x256 .f32) (q k : FVec F S64x256 .bf16) : FVec F S64x64 .f32 :=
  select msk (scores (scaled q (subf c (rowBc r))) (scaled k (subf (rowBc r) c))) zeroBlk

/-- The keys of a chunk decayed to its end. -/
def kdec (k : FVec F S64x256 .bf16) (l : FVec F S1x256 .f32) (c : FVec F S64x256 .f32) : FVec F S64x256 .f32 := scaled k (subf (rowBc l) c)

/-- A block decayed over one more chunk. -/
def over (a : FVec F S64x256 .f32) (l : FVec F S1x256 .f32) : FVec F S64x256 .f32 := mulf a (rowBc (exp2 l))

/-- Two blocks one above the other. -/
def stack (a b : FVec F S64x256 .f32) : FVec F S128x256 .bf16 :=
  concatenate S128x256 0 [⟨S64x256, truncf .bf16 a bitsLt_bf16_f32⟩, ⟨S64x256, truncf .bf16 b bitsLt_bf16_f32⟩] concatenates_S64x256_S64x256_S128x256_d0

/-- A row of blocks of scores. -/
def pRow (a b : FVec F S64x64 .f32) : FVec F S64x128 .bf16 :=
  truncf .bf16 (concatenate S64x128 1 [⟨S64x64, a⟩, ⟨S64x64, b⟩] concatenates_S64x64_S64x64_S64x128_d1) bitsLt_bf16_f32

/-- The scores of a group: two rows of blocks. -/
def pMat (a b : FVec F S64x128 .bf16) : FVec F S128x128 .bf16 :=
  concatenate S128x128 0 [⟨S64x128, a⟩, ⟨S64x128, b⟩] concatenates_S64x128_S64x128_S128x128_d0

/-- The values met with the scores. -/
def intra (p : FVec F S128x128 .bf16) (v : FVec F S128x512 .bf16) : FVec F S128x512 .f32 :=
  matmul dot_S128x128_S128x512_S128x512_1_0_0_1_n_n none p v (constant S128x512 .f32 0x00000000#32)

/-- The queries met with the state. -/
def inter (q : FVec F S128x256 .bf16) (st : FVec F S512x256 .f32) : FVec F S128x512 .f32 :=
  matmul dot_S128x256_S512x256_S128x512_1_1_0_0_n_n none q (truncf .bf16 st bitsLt_bf16_f32) (constant S128x512 .f32 0x00000000#32)

/-- The state after a group whose chunks decay by `lX` and `lY`. -/
def nextSt (st : FVec F S512x256 .f32) (lX lY : FVec F S1x256 .f32) (v : FVec F S128x512 .bf16) (k : FVec F S128x256 .bf16) : FVec F S512x256 .f32 :=
  addf (mulf st (broadcastTo S512x256 (exp2 (addf lX lY)) broadcasts_S1x256_S512x256))
    (matmul dot_S128x512_S128x256_S512x256_0_0_1_1_n_n none v k (constant S512x256 .f32 0x00000000#32))

/-- The middle and the last row of the running sums, forward and backward. -/
def midF (c : FVec F S64x256 .f32) : FVec F S1x256 .f32 := extractStridedSlice S1x256 ![31, 0] c slices_S64x256_o31_0_S1x256
def midB (c : FVec F S64x256 .f32) : FVec F S1x256 .f32 := extractStridedSlice S1x256 ![32, 0] c slices_S64x256_o32_0_S1x256
def lastF (c : FVec F S64x256 .f32) : FVec F S1x256 .f32 := extractStridedSlice S1x256 ![63, 0] c slices_S64x256_o63_0_S1x256
def lastB (c : FVec F S64x256 .f32) : FVec F S1x256 .f32 := extractStridedSlice S1x256 ![0, 0] c slices_S64x256_o0_0_S1x256

/-- The two triangles. -/
def triF : FVec F S64x128 .bf16 := k0_pay22 k0_pay4
def triB : FVec F S64x128 .bf16 := k0_pay26 k0_pay5

/-- The forward scores of a group of chunks `X`, `Y` and what its queries take from the state before it. -/
def pF (cX cY : FVec F S64x256 .f32) (qX kX qY kY : FVec F S64x256 .bf16) : FVec F S128x128 .bf16 :=
  pMat (pRow (diagOf k0_pay1 (midF cX) cX qX kX) zeroBlk)
    (pRow (scores (scaled qY cY) (kdec kX (lastF cX) cX)) (diagOf k0_pay1 (midF cY) cY qY kY))
def qsF (cX cY : FVec F S64x256 .f32) (qX qY : FVec F S64x256 .bf16) : FVec F S128x256 .bf16 :=
  stack (scaled qX cX) (over (scaled qY cY) (lastF cX))
def stF (st : FVec F S512x256 .f32) (cX cY : FVec F S64x256 .f32) (kX kY : FVec F S64x256 .bf16) (v : FVec F S128x512 .bf16) : FVec F S512x256 .f32 :=
  nextSt st (lastF cX) (lastF cY) v (stack (over (kdec kX (lastF cX) cX) (lastF cY)) (kdec kY (lastF cY) cY))

/-- The same backward: `X` is the later chunk, which the scan meets first. -/
def pB (cX cY : FVec F S64x256 .f32) (qX kX qY kY : FVec F S64x256 .bf16) : FVec F S128x128 .bf16 :=
  pMat (pRow (diagOf k0_pay2 (midB cY) cY qY kY) (scores (scaled qY cY) (kdec kX (lastB cX) cX)))
    (pRow zeroBlk (diagOf k0_pay2 (midB cX) cX qX kX))
def qsB (cX cY : FVec F S64x256 .f32) (qX qY : FVec F S64x256 .bf16) : FVec F S128x256 .bf16 :=
  stack (over (scaled qY cY) (lastB cX)) (scaled qX cX)
def stB (st : FVec F S512x256 .f32) (cX cY : FVec F S64x256 .f32) (kX kY : FVec F S64x256 .bf16) (v : FVec F S128x512 .bf16) : FVec F S512x256 .f32 :=
  nextSt st (lastB cX) (lastB cY) v (stack (kdec kY (lastB cY) cY) (over (kdec kX (lastB cX) cX) (lastB cY)))

/-- What a group adds to the accumulator. -/
def outOf (p : FVec F S128x128 .bf16) (v : FVec F S128x512 .bf16) (q : FVec F S128x256 .bf16) (st : FVec F S512x256 .f32) : FVec F S128x512 .f32 :=
  addf (intra p v) (inter q st)

/-- The first state of each direction. -/
def st0 : FVec F S512x256 .f32 :=
  shapeCast S512x256 (VecWindow.window (α := F .f32) (s := S2x512x256) k0_pay14 ![0, 0, 0] S1x512x256.size inb_S2x512x256_S1x512x256_0_0_0) shapeCasts_S1x512x256_S512x256
def st1 : FVec F S512x256 .f32 :=
  shapeCast S512x256 (VecWindow.window (α := F .f32) (s := S2x512x256) k0_pay14 ![1, 0, 0] S1x512x256.size inb_S2x512x256_S1x512x256_1_0_0) shapeCasts_S1x512x256_S512x256

section blocks
variable (x9 x10 : Vec F S256x256 .bf16) (x11 : Vec F S256x512 .bf16) (x12 : Vec F S256x128 .f32) (x14 : Vec F S1x2x128x256 .bf16) (x15 : Vec F S1x2x1x256 .f32)

/-- Direction 0's and direction 1's weights and biases of the log decay. -/
def wD0 : Vec F S1x1x128x256 .bf16 := VecWindow.window (s := S1x2x128x256) x14 ![0, 0, 0, 0] S1x1x128x256.size inb_S1x2x128x256_S1x1x128x256_0_0_0_0
def wD1 : Vec F S1x1x128x256 .bf16 := VecWindow.window (s := S1x2x128x256) x14 ![0, 1, 0, 0] S1x1x128x256.size inb_S1x2x128x256_S1x1x128x256_0_1_0_0
def bD0 : Vec F S1x1x1x256 .f32 := VecWindow.window (s := S1x2x1x256) x15 ![0, 0, 0, 0] S1x1x1x256.size inb_S1x2x1x256_S1x1x1x256_0_0_0_0
def bD1 : Vec F S1x1x1x256 .f32 := VecWindow.window (s := S1x2x1x256) x15 ![0, 1, 0, 0] S1x1x1x256.size inb_S1x2x1x256_S1x1x1x256_0_1_0_0

/-- The high and low words of the forward log decays, and of the backward ones. -/
def hiF : FVec F S256x256 .bf16 := k0_pay20 (k0_pay17 x12 (wD0 x14) (bD0 x15)) k0_pay18
def loF : FVec F S256x256 .bf16 := k0_pay21 (k0_pay17 x12 (wD0 x14) (bD0 x15)) k0_pay18
def hiB : FVec F S256x256 .bf16 := k0_pay24 x12 (wD1 x14) (bD1 x15)
def loB : FVec F S256x256 .bf16 := k0_pay25 x12 (wD1 x14) (bD1 x15)

/-- Chunk 0 of the queries (or keys), and its running sums both ways. -/
def chunk0 (x : Vec F S256x256 .bf16) : Vec F S64x256 .bf16 := VecWindow.window (s := S256x256) x ![0, 0] S64x256.size inb_S256x256_S64x256_0_0
def cF0 : FVec F S64x256 .f32 := cumOf triF (hiF x12 x14 x15) (loF x12 x14 x15) ![0, 0] slices_S256x256_o0_0_S64x256
def cB0 : FVec F S64x256 .f32 := cumOf triB (hiB x12 x14 x15) (loB x12 x14 x15) ![0, 0] slices_S256x256_o0_0_S64x256
/-- Chunk 1 of the queries (or keys), and its running sums both ways. -/
def chunk1 (x : Vec F S256x256 .bf16) : Vec F S64x256 .bf16 := VecWindow.window (s := S256x256) x ![64, 0] S64x256.size inb_S256x256_S64x256_64_0
def cF1 : FVec F S64x256 .f32 := cumOf triF (hiF x12 x14 x15) (loF x12 x14 x15) ![64, 0] slices_S256x256_o64_0_S64x256
def cB1 : FVec F S64x256 .f32 := cumOf triB (hiB x12 x14 x15) (loB x12 x14 x15) ![64, 0] slices_S256x256_o64_0_S64x256
/-- Chunk 2 of the queries (or keys), and its running sums both ways. -/
def chunk2 (x : Vec F S256x256 .bf16) : Vec F S64x256 .bf16 := VecWindow.window (s := S256x256) x ![128, 0] S64x256.size inb_S256x256_S64x256_128_0
def cF2 : FVec F S64x256 .f32 := cumOf triF (hiF x12 x14 x15) (loF x12 x14 x15) ![128, 0] slices_S256x256_o128_0_S64x256
def cB2 : FVec F S64x256 .f32 := cumOf triB (hiB x12 x14 x15) (loB x12 x14 x15) ![128, 0] slices_S256x256_o128_0_S64x256
/-- Chunk 3 of the queries (or keys), and its running sums both ways. -/
def chunk3 (x : Vec F S256x256 .bf16) : Vec F S64x256 .bf16 := VecWindow.window (s := S256x256) x ![192, 0] S64x256.size inb_S256x256_S64x256_192_0
def cF3 : FVec F S64x256 .f32 := cumOf triF (hiF x12 x14 x15) (loF x12 x14 x15) ![192, 0] slices_S256x256_o192_0_S64x256
def cB3 : FVec F S64x256 .f32 := cumOf triB (hiB x12 x14 x15) (loB x12 x14 x15) ![192, 0] slices_S256x256_o192_0_S64x256
/-- Group 0 of the values. -/
def vals0 : Vec F S128x512 .bf16 := VecWindow.window (s := S256x512) x11 ![0, 0] S128x512.size inb_S256x512_S128x512_0_0
/-- Group 1 of the values. -/
def vals1 : Vec F S128x512 .bf16 := VecWindow.window (s := S256x512) x11 ![128, 0] S128x512.size inb_S256x512_S128x512_128_0

/-- The states between the groups. -/
def stMidF : FVec F S512x256 .f32 := stF st0 (cF0 x12 x14 x15) (cF1 x12 x14 x15) (chunk0 x10) (chunk1 x10) (vals0 x11)
def stMidB : FVec F S512x256 .f32 := stB st1 (cB3 x12 x14 x15) (cB2 x12 x14 x15) (chunk3 x10) (chunk2 x10) (vals1 x11)

/-- What the four groups add. -/
def addF0 : FVec F S128x512 .f32 := outOf (pF (cF0 x12 x14 x15) (cF1 x12 x14 x15) (chunk0 x9) (chunk0 x10) (chunk1 x9) (chunk1 x10)) (vals0 x11) (qsF (cF0 x12 x14 x15) (cF1 x12 x14 x15) (chunk0 x9) (chunk1 x9)) st0
def addB1 : FVec F S128x512 .f32 := outOf (pB (cB3 x12 x14 x15) (cB2 x12 x14 x15) (chunk3 x9) (chunk3 x10) (chunk2 x9) (chunk2 x10)) (vals1 x11) (qsB (cB3 x12 x14 x15) (cB2 x12 x14 x15) (chunk3 x9) (chunk2 x9)) st1
def addF1 : FVec F S128x512 .f32 := outOf (pF (cF2 x12 x14 x15) (cF3 x12 x14 x15) (chunk2 x9) (chunk2 x10) (chunk3 x9) (chunk3 x10)) (vals1 x11) (qsF (cF2 x12 x14 x15) (cF3 x12 x14 x15) (chunk2 x9) (chunk3 x9)) (stMidF x10 x11 x12 x14 x15)
def addB0 : FVec F S128x512 .f32 := outOf (pB (cB1 x12 x14 x15) (cB0 x12 x14 x15) (chunk1 x9) (chunk1 x10) (chunk0 x9) (chunk0 x10)) (vals0 x11) (qsB (cB1 x12 x14 x15) (cB0 x12 x14 x15) (chunk1 x9) (chunk0 x9)) (stMidB x10 x11 x12 x14 x15)

/-- The accumulator's two halves after one and after both directions. -/
def half0 : FVec F S128x512 .f32 := shapeCast S128x512 (addf (VecWindow.window (α := F .f32) (s := S256x512) k0_pay16 ![0, 0] S128x512.size inb_S256x512_S128x512_0_0) (addF0 x9 x10 x11 x12 x14 x15)) shapeCasts_S128x512_S128x512
def half1 : FVec F S128x512 .f32 := shapeCast S128x512 (addf (VecWindow.window (α := F .f32) (s := S256x512) k0_pay16 ![128, 0] S128x512.size inb_S256x512_S128x512_128_0) (addB1 x9 x10 x11 x12 x14 x15)) shapeCasts_S128x512_S128x512
def full0 : FVec F S128x512 .f32 := shapeCast S128x512 (addf (half0 x9 x10 x11 x12 x14 x15) (addB0 x9 x10 x11 x12 x14 x15)) shapeCasts_S128x512_S128x512
def full1 : FVec F S128x512 .f32 := shapeCast S128x512 (addf (half1 x9 x10 x11 x12 x14 x15) (addF1 x9 x10 x11 x12 x14 x15)) shapeCasts_S128x512_S128x512

/-- The context's accumulator after block 0. -/
def accV : Vec F S256x512 .f32 :=
  VecWindow.put (s := S256x512) (VecWindow.put (s := S256x512) (VecWindow.put (s := S256x512) (VecWindow.put (s := S256x512) k0_pay16 ![0, 0] S128x512.size (half0 x9 x10 x11 x12 x14 x15)) ![128, 0] S128x512.size (half1 x9 x10 x11 x12 x14 x15))
    ![128, 0] S128x512.size (full1 x9 x10 x11 x12 x14 x15)) ![0, 0] S128x512.size (full0 x9 x10 x11 x12 x14 x15)

end blocks

end Cert.KernelIdeal.Gla

end
-- ==== Proof.Gla.KernelIdeal.RunA.lean ====
/- The attention's body at block 0 of the grid: it runs, gives every operand back as it was,
   and leaves the scanned context in the context's accumulator. -/
module

public import proofs.«01_k».proof.Proof.Gla.KernelIdeal.Runs
public import proofs.«01_k».proof.Proof.Gla.KernelIdeal.Expr

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at block 0. -/
theorem runA (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x128 .f32) (harg10 : arg10.IsWhole) (arg11 : Memref sig .tc .vmem S2048x512 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x512 .bf16) (harg14 : arg14.IsWhole) (arg15 : Memref sig .tc .vmem S256x128 .f32) (harg15 : arg15.IsWhole) (arg16 : Memref sig .tc .vmem S256x512 .bf16) (harg16 : arg16.IsWhole) (arg17 : Memref sig .tc .vmem S1x2x128x256 .bf16) (harg17 : arg17.IsWhole) (arg18 : Memref sig .tc .vmem S1x2x1x256 .f32) (harg18 : arg18.IsWhole) (arg19 : Memref sig .tc .vmem S2048x512 .bf16) (harg19 : arg19.IsWhole) (arg20 : Memref sig .tc .vmem S256x512 .bf16) (harg20 : arg20.IsWhole) (arg21 : Memref sig .tc .vmem S2x512x256 .f32) (harg21 : arg21.IsWhole) (arg22 : Memref sig .tc .vmem S4096x512 .f32) (harg22 : arg22.IsWhole) (arg23 : Memref sig .tc .vmem S256x512 .f32) (harg23 : arg23.IsWhole) (hc1 : k0_cond1 i = 1#1) (hc2 : k0_cond2 i = 1#1) (hc3 : ¬ k0_cond3 i = 1#1) (hc4 : ¬ k0_cond4 i = 1#1)
    (x0 : Vec F S512x256 .bf16) (x1 : Vec F S512x256 .bf16) (x2 : Vec F S512x512 .bf16) (x3 : Vec F S512x128 .f32) (x4 : Vec F S512x256 .bf16) (x5 : Vec F S512x256 .bf16) (x6 : Vec F S512x512 .bf16) (x7 : Vec F S512x128 .f32) (x8 : Vec F S2048x512 .bf16) (x9 : Vec F S256x256 .bf16) (x10 : Vec F S256x256 .bf16) (x11 : Vec F S256x512 .bf16) (x12 : Vec F S256x128 .f32) (x13 : Vec F S256x512 .bf16) (x14 : Vec F S1x2x128x256 .bf16) (x15 : Vec F S1x2x1x256 .f32)  :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare (accV x9 x10 x11 x12 x14 x15)) -∗ K ⟨⟩))
          ⊢ wp frame (wpE (defs₀ (F := F)) Variants.none c none) E (cc0_gla i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    haveI : Fact (k0_cond2 i = 1#1) := ⟨hc2⟩
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _; isplitr; swap; · iexact H20
    ipureintro
    have hq0 : View.readAt (Elt F) arg12.view (Rect.unit (s := S256x256) ![0, 0] S64x256.size inb_S256x256_S64x256_0_0).toLoadRect (harg12.unread x9) = chunk0 x9 := by
      rw [View.readAt_unit _ _ _ rfl inb_S256x256_S64x256_0_0, hf9]; rfl
    have hk0 : View.readAt (Elt F) arg13.view (Rect.unit (s := S256x256) ![0, 0] S64x256.size inb_S256x256_S64x256_0_0).toLoadRect (harg13.unread x10) = chunk0 x10 := by
      rw [View.readAt_unit _ _ _ rfl inb_S256x256_S64x256_0_0, hf10]; rfl
    have hq1 : View.readAt (Elt F) arg12.view (Rect.unit (s := S256x256) ![64, 0] S64x256.size inb_S256x256_S64x256_64_0).toLoadRect (harg12.unread x9) = chunk1 x9 := by
      rw [View.readAt_unit _ _ _ rfl inb_S256x256_S64x256_64_0, hf9]; rfl
    have hk1 : View.readAt (Elt F) arg13.view (Rect.unit (s := S256x256) ![64, 0] S64x256.size inb_S256x256_S64x256_64_0).toLoadRect (harg13.unread x10) = chunk1 x10 := by
      rw [View.readAt_unit _ _ _ rfl inb_S256x256_S64x256_64_0, hf10]; rfl
    have hq2 : View.readAt (Elt F) arg12.view (Rect.unit (s := S256x256) ![128, 0] S64x256.size inb_S256x256_S64x256_128_0).toLoadRect (harg12.unread x9) = chunk2 x9 := by
      rw [View.readAt_unit _ _ _ rfl inb_S256x256_S64x256_128_0, hf9]; rfl
    have hk2 : View.readAt (Elt F) arg13.view (Rect.unit (s := S256x256) ![128, 0] S64x256.size inb_S256x256_S64x256_128_0).toLoadRect (harg13.unread x10) = chunk2 x10 := by
      rw [View.readAt_unit _ _ _ rfl inb_S256x256_S64x256_128_0, hf10]; rfl
    have hq3 : View.readAt (Elt F) arg12.view (Rect.unit (s := S256x256) ![192, 0] S64x256.size inb_S256x256_S64x256_192_0).toLoadRect (harg12.unread x9) = chunk3 x9 := by
      rw [View.readAt_unit _ _ _ rfl inb_S256x256_S64x256_192_0, hf9]; rfl
    have hk3 : View.readAt (Elt F) arg13.view (Rect.unit (s := S256x256) ![192, 0] S64x256.size inb_S256x256_S64x256_192_0).toLoadRect (harg13.unread x10) = chunk3 x10 := by
      rw [View.readAt_unit _ _ _ rfl inb_S256x256_S64x256_192_0, hf10]; rfl
    have hv0 : View.readAt (Elt F) arg14.view (Rect.unit (s := S256x512) ![0, 0] S128x512.size inb_S256x512_S128x512_0_0).toLoadRect (harg14.unread x11) = vals0 x11 := by
      rw [View.readAt_unit _ _ _ rfl inb_S256x512_S128x512_0_0, hf11]; rfl
    have hw0 : View.readAt (Elt F) arg17.view (Rect.unit (s := S1x2x128x256) ![0, 0, 0, 0] S1x1x128x256.size inb_S1x2x128x256_S1x1x128x256_0_0_0_0).toLoadRect (harg17.unread x14) = wD0 x14 := by
      rw [View.readAt_unit _ _ _ rfl inb_S1x2x128x256_S1x1x128x256_0_0_0_0, hf14]; rfl
    have hb0 : View.readAt (Elt F) arg18.view (Rect.unit (s := S1x2x1x256) ![0, 0, 0, 0] S1x1x1x256.size inb_S1x2x1x256_S1x1x1x256_0_0_0_0).toLoadRect (harg18.unread x15) = bD0 x15 := by
      rw [View.readAt_unit _ _ _ rfl inb_S1x2x1x256_S1x1x1x256_0_0_0_0, hf15]; rfl
    have hv1 : View.readAt (Elt F) arg14.view (Rect.unit (s := S256x512) ![128, 0] S128x512.size inb_S256x512_S128x512_128_0).toLoadRect (harg14.unread x11) = vals1 x11 := by
      rw [View.readAt_unit _ _ _ rfl inb_S256x512_S128x512_128_0, hf11]; rfl
    have hw1 : View.readAt (Elt F) arg17.view (Rect.unit (s := S1x2x128x256) ![0, 1, 0, 0] S1x1x128x256.size inb_S1x2x128x256_S1x1x128x256_0_1_0_0).toLoadRect (harg17.unread x14) = wD1 x14 := by
      rw [View.readAt_unit _ _ _ rfl inb_S1x2x128x256_S1x1x128x256_0_1_0_0, hf14]; rfl
    have hb1 : View.readAt (Elt F) arg18.view (Rect.unit (s := S1x2x1x256) ![0, 1, 0, 0] S1x1x1x256.size inb_S1x2x1x256_S1x1x1x256_0_1_0_0).toLoadRect (harg18.unread x15) = bD1 x15 := by
      rw [View.readAt_unit _ _ _ rfl inb_S1x2x1x256_S1x1x1x256_0_1_0_0, hf15]; rfl
    have ha : View.readAt (Elt F) arg15.view (Rect.unit (s := S256x128) ![0, 0] S256x128.size inb_S256x128_S256x128_0_0).toLoadRect (harg15.unread x12) = x12 := by
      rw [View.readAt_full, hf12]
    delta runA.sl.v482 runA.sl.v457 runA.sl.v443 runA.sl.v438 runA.sl.v437 runA.sl.v421 runA.sl.v419 runA.sl.v418 runA.sl.v417 runA.sl.v416 runA.sl.v415 runA.sl.v413 runA.sl.v412 runA.sl.v411 runA.sl.v410 runA.sl.v409 runA.sl.v403 runA.sl.v442 runA.sl.v441 runA.sl.v440 runA.sl.v435 runA.sl.v434 runA.sl.v433 runA.sl.v432 runA.sl.v431 runA.sl.v439 runA.sl.v398 runA.sl.v396 runA.sl.v395 runA.sl.v394 runA.sl.v393 runA.sl.v392 runA.sl.v390 runA.sl.v389 runA.sl.v388 runA.sl.v387 runA.sl.v386 runA.sl.v380 runA.sl.v449 runA.sl.v448 runA.sl.v426 runA.sl.v425 runA.sl.v447 runA.sl.v446 runA.sl.v445 runA.sl.v444 runA.sl.v404 runA.sl.v402 runA.sl.v401 runA.sl.v400 runA.sl.v399 runA.sl.v424 runA.sl.v423 runA.sl.v379 runA.sl.v378 runA.sl.v377 runA.sl.v376 runA.sl.v283 runA.sl.v262 runA.sl.v259 runA.sl.v258 runA.sl.v257 runA.sl.v256 runA.sl.v255 runA.sl.v254 runA.sl.v234 runA.sl.v233 runA.sl.v232 runA.sl.v231 runA.sl.v282 runA.sl.v281 runA.sl.v263 runA.sl.v226 runA.sl.v185 runA.sl.H20_4 runA.sl.v473 runA.sl.v469 runA.sl.v462 runA.sl.v461 runA.sl.v460 runA.sl.v269 runA.sl.v178 runA.sl.cst_71 runA.sl.v175 runA.sl.v174 runA.sl.v154 runA.sl.v153 runA.sl.v152 runA.sl.v151 runA.sl.v173 runA.sl.v172 runA.sl.v171 runA.sl.v170 runA.sl.v268 runA.sl.v267 runA.sl.v179 runA.sl.v142 runA.sl.v124 runA.sl.v365 runA.sl.v364 runA.sl.v363 runA.sl.v362 runA.sl.v361 runA.sl.v360 runA.sl.v340 runA.sl.v339 runA.sl.v373 runA.sl.v359 runA.sl.v358 runA.sl.v357 runA.sl.v337 runA.sl.v335 runA.sl.v334 runA.sl.v333 runA.sl.v332 runA.sl.v331 runA.sl.v329 runA.sl.v328 runA.sl.v327 runA.sl.v326 runA.sl.v325 runA.sl.v319 runA.sl.v356 runA.sl.v351 runA.sl.v346 runA.sl.v345 runA.sl.v344 runA.sl.v343 runA.sl.v297 runA.sl.v355 runA.sl.v342 runA.sl.v341 runA.sl.v318 runA.sl.v317 runA.sl.v316 runA.sl.v315 runA.sl.v354 runA.sl.v353 runA.sl.v314 runA.sl.v312 runA.sl.v311 runA.sl.v310 runA.sl.v309 runA.sl.v308 runA.sl.v306 runA.sl.v305 runA.sl.v304 runA.sl.v303 runA.sl.v302 runA.sl.v296 runA.sl.v295 runA.sl.v294 runA.sl.v293 runA.sl.v292 runA.sl.v468 runA.sl.H20_3 runA.sl.v291 runA.sl.v287 runA.sl.v280 runA.sl.v279 runA.sl.v278 runA.sl.v95 runA.sl.v94 runA.sl.v253 runA.sl.v252 runA.sl.v230 runA.sl.v229 runA.sl.v251 runA.sl.v250 runA.sl.v249 runA.sl.v248 runA.sl.v261 runA.sl.v247 runA.sl.v242 runA.sl.v241 runA.sl.v225 runA.sl.v223 runA.sl.v222 runA.sl.v221 runA.sl.v220 runA.sl.v219 runA.sl.v217 runA.sl.v216 runA.sl.v215 runA.sl.v214 runA.sl.v213 runA.sl.v207 runA.sl.v210 runA.sl.v246 runA.sl.v245 runA.sl.v244 runA.sl.v239 runA.sl.v238 runA.sl.v237 runA.sl.v236 runA.sl.v235 runA.sl.v208 runA.sl.v206 runA.sl.v205 runA.sl.v204 runA.sl.v203 runA.sl.v212 runA.sl.v243 runA.sl.v228 runA.sl.v227 runA.sl.v202 runA.sl.v200 runA.sl.v199 runA.sl.v198 runA.sl.v197 runA.sl.v196 runA.sl.v189 runA.sl.v194 runA.sl.v193 runA.sl.v192 runA.sl.v191 runA.sl.v190 runA.sl.v184 runA.sl.v183 runA.sl.v182 runA.sl.v181 runA.sl.r_4 runA.sl.v180 runA.sl.r_3 runA.sl.v187 runA.sl.v286 runA.sl.H20_2 runA.sl.v277 runA.sl.v273 runA.sl.v266 runA.sl.v265 runA.sl.v264 runA.sl.v93 runA.sl.v92 runA.sl.H18_1 runA.sl.v169 runA.sl.v168 runA.sl.v167 runA.sl.v166 runA.sl.v165 runA.sl.v164 runA.sl.v144 runA.sl.v143 runA.sl.v177 runA.sl.cst_70 runA.sl.v163 runA.sl.v162 runA.sl.v161 runA.sl.v141 runA.sl.v139 runA.sl.v138 runA.sl.v137 runA.sl.v136 runA.sl.v135 runA.sl.v128 runA.sl.v133 runA.sl.v132 runA.sl.v131 runA.sl.v130 runA.sl.v129 runA.sl.v123 runA.sl.v160 runA.sl.v155 runA.sl.v150 runA.sl.v149 runA.sl.v148 runA.sl.v147 runA.sl.v101 runA.sl.v159 runA.sl.v146 runA.sl.v145 runA.sl.v122 runA.sl.v121 runA.sl.v120 runA.sl.v119 runA.sl.v126 runA.sl.v158 runA.sl.v157 runA.sl.v118 runA.sl.v117 runA.sl.cst_59 runA.sl.v116 runA.sl.cst_58 runA.sl.v115 runA.sl.v114 runA.sl.v113 runA.sl.v112 runA.sl.v105 runA.sl.v110 runA.sl.v109 runA.sl.v108 runA.sl.v107 runA.sl.v106 runA.sl.v100 runA.sl.v99 runA.sl.cst_53 runA.sl.v98 runA.sl.v97 runA.sl.r_2 runA.sl.v96 runA.sl.r_1 runA.sl.r runA.sl.v103 runA.sl.v272 runA.sl.H20_1
    rw [hq0, hk0, hq1, hk1, hq2, hk2, hq3, hk3, hv0, hw0, hb0, hv1, hw1, hb1, ha]
    repeat rw [readCov_unit]
    repeat rw [View.read_writes_full]
    repeat rw [read_cons]
    repeat rw [put_full (s := S256x512) (off := ![0, 0]) _ k0_pay16 (by decide)]
    unfold accV full0 full1 half0 half1
    have e1 : ∀ (x : Vec F S256x512 .f32) (w : FVec F S128x512 .f32), VecWindow.window (VecWindow.put x ![0, 0] S128x512.size w) ![128, 0] S128x512.size inb_S256x512_S128x512_128_0 = VecWindow.window x ![128, 0] S128x512.size inb_S256x512_S128x512_128_0 := fun x w => VecWindow.window_put_of_disjoint _ _ _ _ _ _ _ 0 (.inr (by decide))
    have e2 : ∀ (x : Vec F S256x512 .f32) (w : FVec F S128x512 .f32), VecWindow.window (VecWindow.put x ![128, 0] S128x512.size w) ![0, 0] S128x512.size inb_S256x512_S128x512_0_0 = VecWindow.window x ![0, 0] S128x512.size inb_S256x512_S128x512_0_0 := fun x w => VecWindow.window_put_of_disjoint _ _ _ _ _ _ _ 0 (.inl (by decide))
    repeat rw [e1]
    repeat rw [e2]
    repeat rw [VecWindow.window_put_same]
    clear ha hb1 hw1 hv1 hb0 hw0 hv0 hk3 hq3 hk2 hq2 hk1 hq1 hk0 hq0 hf0 hf1 hf2 hf3 hf4 hf5 hf6 hf7 hf8 hf9 hf10 hf11 hf12 hf13 hf14 hf15 e1 e2
    rfl

end Cert.KernelIdeal.Gla

end
-- ==== Proof.Gla.KernelIdeal.RunB.lean ====
/- The attention's body at blocks 1 to 7 of the grid: it runs, gives every operand back as it was,
   and keeps the context's accumulator. -/
module

public import proofs.«01_k».proof.Proof.Gla.KernelIdeal.Runs
public import proofs.«01_k».proof.Proof.Gla.KernelIdeal.Expr

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at blocks 1 to 7. -/
theorem runB (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x128 .f32) (harg10 : arg10.IsWhole) (arg11 : Memref sig .tc .vmem S2048x512 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x512 .bf16) (harg14 : arg14.IsWhole) (arg15 : Memref sig .tc .vmem S256x128 .f32) (harg15 : arg15.IsWhole) (arg16 : Memref sig .tc .vmem S256x512 .bf16) (harg16 : arg16.IsWhole) (arg17 : Memref sig .tc .vmem S1x2x128x256 .bf16) (harg17 : arg17.IsWhole) (arg18 : Memref sig .tc .vmem S1x2x1x256 .f32) (harg18 : arg18.IsWhole) (arg19 : Memref sig .tc .vmem S2048x512 .bf16) (harg19 : arg19.IsWhole) (arg20 : Memref sig .tc .vmem S256x512 .bf16) (harg20 : arg20.IsWhole) (arg21 : Memref sig .tc .vmem S2x512x256 .f32) (harg21 : arg21.IsWhole) (arg22 : Memref sig .tc .vmem S4096x512 .f32) (harg22 : arg22.IsWhole) (arg23 : Memref sig .tc .vmem S256x512 .f32) (harg23 : arg23.IsWhole) (hc1 : ¬ k0_cond1 i = 1#1) (hc2 : k0_cond2 i = 1#1) (hc3 : ¬ k0_cond3 i = 1#1) (hc4 : ¬ k0_cond4 i = 1#1)
    (x0 : Vec F S512x256 .bf16) (x1 : Vec F S512x256 .bf16) (x2 : Vec F S512x512 .bf16) (x3 : Vec F S512x128 .f32) (x4 : Vec F S512x256 .bf16) (x5 : Vec F S512x256 .bf16) (x6 : Vec F S512x512 .bf16) (x7 : Vec F S512x128 .f32) (x8 : Vec F S2048x512 .bf16) (x9 : Vec F S256x256 .bf16) (x10 : Vec F S256x256 .bf16) (x11 : Vec F S256x512 .bf16) (x12 : Vec F S256x128 .f32) (x13 : Vec F S256x512 .bf16) (x14 : Vec F S1x2x128x256 .bf16) (x15 : Vec F S1x2x1x256 .f32) (acc : Vec F S256x512 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare acc) -∗ K ⟨⟩))
          ⊢ wp frame (wpE (defs₀ (F := F)) Variants.none c none) E (cc0_gla i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    haveI : Fact (k0_cond2 i = 1#1) := ⟨hc2⟩
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg23.eq_unread hf20
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    iexists _; isplitr; swap; · iexact H20
    ipureintro; exact harg23.read_unread _

end Cert.KernelIdeal.Gla

end
-- ==== Proof.Gla.KernelIdeal.RunC.lean ====
/- The attention's body at block 8 of the grid: it runs, gives every operand back as it was,
   and writes the context's normed and gated result from the accumulator. -/
module

public import proofs.«01_k».proof.Proof.Gla.KernelIdeal.Runs
public import proofs.«01_k».proof.Proof.Gla.KernelIdeal.Expr

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at block 8. -/
theorem runC (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x128 .f32) (harg10 : arg10.IsWhole) (arg11 : Memref sig .tc .vmem S2048x512 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x512 .bf16) (harg14 : arg14.IsWhole) (arg15 : Memref sig .tc .vmem S256x128 .f32) (harg15 : arg15.IsWhole) (arg16 : Memref sig .tc .vmem S256x512 .bf16) (harg16 : arg16.IsWhole) (arg17 : Memref sig .tc .vmem S1x2x128x256 .bf16) (harg17 : arg17.IsWhole) (arg18 : Memref sig .tc .vmem S1x2x1x256 .f32) (harg18 : arg18.IsWhole) (arg19 : Memref sig .tc .vmem S2048x512 .bf16) (harg19 : arg19.IsWhole) (arg20 : Memref sig .tc .vmem S256x512 .bf16) (harg20 : arg20.IsWhole) (arg21 : Memref sig .tc .vmem S2x512x256 .f32) (harg21 : arg21.IsWhole) (arg22 : Memref sig .tc .vmem S4096x512 .f32) (harg22 : arg22.IsWhole) (arg23 : Memref sig .tc .vmem S256x512 .f32) (harg23 : arg23.IsWhole) (hc1 : ¬ k0_cond1 i = 1#1) (hc2 : ¬ k0_cond2 i = 1#1) (hc3 : k0_cond3 i = 1#1) (hc4 : k0_cond4 i = 1#1)
    (x0 : Vec F S512x256 .bf16) (x1 : Vec F S512x256 .bf16) (x2 : Vec F S512x512 .bf16) (x3 : Vec F S512x128 .f32) (x4 : Vec F S512x256 .bf16) (x5 : Vec F S512x256 .bf16) (x6 : Vec F S512x512 .bf16) (x7 : Vec F S512x128 .f32) (x8 : Vec F S2048x512 .bf16) (x9 : Vec F S256x256 .bf16) (x10 : Vec F S256x256 .bf16) (x11 : Vec F S256x512 .bf16) (x12 : Vec F S256x128 .f32) (x13 : Vec F S256x512 .bf16) (x14 : Vec F S1x2x128x256 .bf16) (x15 : Vec F S1x2x1x256 .f32) (acc : Vec F S256x512 .f32) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ owns (c : Thread nD τ) arg20 fullShare (k0_pay12 acc x13) ∗ (∃ d, owns (c : Thread nD τ) arg21 fullShare d) ∗ (∃ d, owns (c : Thread nD τ) arg22 fullShare d) ∗ owns (c : Thread nD τ) arg23 fullShare acc) -∗ K ⟨⟩))
          ⊢ wp frame (wpE (defs₀ (F := F)) Variants.none c none) E (cc0_gla i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%f20, %hf20, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg23.eq_unread hf20
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _, _; isplitr; swap; · iexact H16
      ipureintro; rfl
    isplitl [H17]
    · iexists _; isplitr; swap; · iexact H17
      ipureintro
      delta runC.sl.H17_1
      rw [View.read_writes_full, View.readAt_full, View.readAt_full, hf20, hf13]
    isplitl [H18]
    · iexists _, _; isplitr; swap; · iexact H18
      ipureintro; rfl
    isplitl [H19]
    · iexists _, _; isplitr; swap; · iexact H19
      ipureintro; rfl
    iexists _; isplitr; swap; · iexact H20
    ipureintro; exact harg23.read_unread _

end Cert.KernelIdeal.Gla

end
-- ==== Proof.Gla.KernelIdeal.RunD.lean ====
/- The attention's body at block 9 of the grid: it runs, gives every operand back as it was,
   and keeps the context's result. -/
module

public import proofs.«01_k».proof.Proof.Gla.KernelIdeal.Runs
public import proofs.«01_k».proof.Proof.Gla.KernelIdeal.Expr

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at block 9. -/
theorem runD (c : Dev nD) (i : grid0.Coords) (arg3 : Memref sig .tc .vmem S512x256 .bf16) (harg3 : arg3.IsWhole) (arg4 : Memref sig .tc .vmem S512x256 .bf16) (harg4 : arg4.IsWhole) (arg5 : Memref sig .tc .vmem S512x512 .bf16) (harg5 : arg5.IsWhole) (arg6 : Memref sig .tc .vmem S512x128 .f32) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x512 .bf16) (harg9 : arg9.IsWhole) (arg10 : Memref sig .tc .vmem S512x128 .f32) (harg10 : arg10.IsWhole) (arg11 : Memref sig .tc .vmem S2048x512 .bf16) (harg11 : arg11.IsWhole) (arg12 : Memref sig .tc .vmem S256x256 .bf16) (harg12 : arg12.IsWhole) (arg13 : Memref sig .tc .vmem S256x256 .bf16) (harg13 : arg13.IsWhole) (arg14 : Memref sig .tc .vmem S256x512 .bf16) (harg14 : arg14.IsWhole) (arg15 : Memref sig .tc .vmem S256x128 .f32) (harg15 : arg15.IsWhole) (arg16 : Memref sig .tc .vmem S256x512 .bf16) (harg16 : arg16.IsWhole) (arg17 : Memref sig .tc .vmem S1x2x128x256 .bf16) (harg17 : arg17.IsWhole) (arg18 : Memref sig .tc .vmem S1x2x1x256 .f32) (harg18 : arg18.IsWhole) (arg19 : Memref sig .tc .vmem S2048x512 .bf16) (harg19 : arg19.IsWhole) (arg20 : Memref sig .tc .vmem S256x512 .bf16) (harg20 : arg20.IsWhole) (arg21 : Memref sig .tc .vmem S2x512x256 .f32) (harg21 : arg21.IsWhole) (arg22 : Memref sig .tc .vmem S4096x512 .f32) (harg22 : arg22.IsWhole) (arg23 : Memref sig .tc .vmem S256x512 .f32) (harg23 : arg23.IsWhole) (hc1 : ¬ k0_cond1 i = 1#1) (hc2 : ¬ k0_cond2 i = 1#1) (hc3 : ¬ k0_cond3 i = 1#1) (hc4 : k0_cond4 i = 1#1)
    (x0 : Vec F S512x256 .bf16) (x1 : Vec F S512x256 .bf16) (x2 : Vec F S512x512 .bf16) (x3 : Vec F S512x128 .f32) (x4 : Vec F S512x256 .bf16) (x5 : Vec F S512x256 .bf16) (x6 : Vec F S512x512 .bf16) (x7 : Vec F S512x128 .f32) (x8 : Vec F S2048x512 .bf16) (x9 : Vec F S256x256 .bf16) (x10 : Vec F S256x256 .bf16) (x11 : Vec F S256x512 .bf16) (x12 : Vec F S256x128 .f32) (x13 : Vec F S256x512 .bf16) (x14 : Vec F S1x2x128x256 .bf16) (x15 : Vec F S1x2x1x256 .f32) (o : Vec F S256x512 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ owns (c : Thread nD τ) arg20 fullShare o ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ (∃ d, owns (c : Thread nD τ) arg19 fullShare d) ∗ owns (c : Thread nD τ) arg20 fullShare o ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_gla i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    intro E K
    simp only [cc0_gla_eq_skeleton]; unfold cc0_gla_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%d18, %f18, -, H18⟩, ⟨%d19, %f19, -, H19⟩, ⟨%d20, %f20, -, H20⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg20.eq_unread hf17
    sl_exec (disch := first | sl_exact hc1 | sl_exact hc2 | sl_exact hc3 | sl_exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _, _; isplitr; swap; · iexact H16
      ipureintro; rfl
    isplitl [H17]
    · iexists _; isplitr; swap; · iexact H17
      ipureintro; exact harg20.read_unread _
    isplitl [H18]
    · iexists _, _; isplitr; swap; · iexact H18
      ipureintro; rfl
    isplitl [H19]
    · iexists _, _; isplitr; swap; · iexact H19
      ipureintro; rfl
    iexists _, _; isplitr; swap; · iexact H20
    ipureintro; rfl

end Cert.KernelIdeal.Gla

end
-- ==== Proof.Gla.ArrRel.lean ====
/- An array under relational data whose write-backs are all of named blocks: it holds what the named blocks make of it. -/
module

public import Idealize.ShloMosaic.Lib.Pipeline.DatRel

@[expose] public section

noncomputable section

namespace Cert.GlaLib

open Idealize.ShloMosaic Idealize.ShloMosaic.TcCoe Idealize.ShloMosaic.Pipeline
open Idealize.SL Idealize.SL.RA

variable {nD : Nat} {τ : Topo} {sig : RefSig} {Val : EltTy → Type} {Λ₀ : Idealize.SL.Sem.Labels}
variable {Ix : Type} [DecidableEq Ix] {Name : Type} [DecidableEq Name] {U : Type} [Idealize.SL.RA.URA U] {Lvl : Type}
variable {cfg : Cfg sig Λ₀} {c : Dev nD}

theorem arr_of_leaves (dat : Dat τ Val Ix Name U Lvl cfg c) (rd : RDat τ Val Ix Name U Lvl cfg c) (w : Fin cfg.W) (hA : rd.A w = dat.A w)
    (h : ∀ (u : Fin cfg.N) X, (cfg.win w).flush u = true → rd.Leaves w u X → X = dat.after w u) :
    ∀ (n : ℕ) G, rd.ArrAt w n G → G = dat.arrAt w n := by
  intro n
  induction n with
  | zero => intro G hG; exact Eq.trans hG hA
  | succ n ih =>
    intro G hG
    unfold RDat.ArrAt at hG
    unfold Dat.arrAt
    dsimp only at hG ⊢
    by_cases hn : n < cfg.N
    · rw [dif_pos hn] at hG ⊢
      by_cases hf : (cfg.win w).flush ⟨n, hn⟩ = true
      · rw [if_pos hf] at hG ⊢
        obtain ⟨G₀, X, h0, hX, rfl⟩ := hG
        rw [ih G₀ h0, h _ X hf hX]
      · rw [if_neg hf] at hG ⊢
        exact ih G hG
    · rw [dif_neg hn] at hG ⊢
      exact ih G hG

end Cert.GlaLib

end
-- ==== Proof.Gla.KernelIdeal.Frame.lean ====
/- The attention's launch: what each block of the context's result holds, the kernel's end, and its frame. -/
module

public import proofs.«01_k».proof.Proof.Gla.KernelIdeal.RunA
public import proofs.«01_k».proof.Proof.Gla.KernelIdeal.RunB
public import proofs.«01_k».proof.Proof.Gla.KernelIdeal.RunC
public import proofs.«01_k».proof.Proof.Gla.KernelIdeal.RunD
public import proofs.«01_k».proof.Proof.Gla.ArrRel
public import Idealize.ShloMosaic.Lib.Claim

@[expose] public section

set_option maxRecDepth 16384

noncomputable section

namespace Cert.KernelIdeal.Gla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two results' windows: the latents' is not followed, the context's is held to a predicate. -/
def forgets0 : Fin 18 → Bool := fun w => 16 ≤ w.val

/-- The first point of point `t`'s run over the blocks of one batch entry and head, where the context is computed, -/
def colAt (n : ℕ) (h : n - n % 10 < cfg0.N) : Fin cfg0.N := ⟨n - n % 10, h⟩

/-- and the point of the run that writes the context's block. -/
theorem run_lt (t : Fin cfg0.N) : t.val - t.val % 10 + 8 < cfg0.N := by
  have h : t.val < 80 := t.isLt
  show t.val - t.val % 10 + 8 < 80
  omega

theorem col_lt (t : Fin cfg0.N) : t.val - t.val % 10 < cfg0.N := Nat.lt_of_le_of_lt (Nat.sub_le _ _) t.isLt

/-- The context's attention, of the blocks at point `t`. -/
def accAt (c : Dev nD) (t : Fin cfg0.N) : Vec F S256x512 .f32 :=
  accV (iblk m c 9 t) (iblk m c 10 t) (iblk m c 11 t) (iblk m c 12 t) (iblk m c 14 t) (iblk m c 15 t)

/-- What the context's result holds in the block of point `t`'s run. -/
def res (c : Dev nD) (t : Fin cfg0.N) : Vec F S256x512 .bf16 :=
  k0_pay12 (accAt m c (colAt t.val (col_lt t))) (iblk m c 13 ⟨t.val - t.val % 10 + 8, run_lt t⟩)

theorem res_eq (c : Dev nD) (t t' : Fin cfg0.N) (h : t.val - t.val % 10 = t'.val - t'.val % 10) : res m c t = res m c t' := by
  unfold res
  rw [show colAt t.val (col_lt t) = colAt t'.val (col_lt t') from Fin.ext h,
    show (⟨t.val - t.val % 10 + 8, run_lt t⟩ : Fin cfg0.N) = ⟨t'.val - t'.val % 10 + 8, run_lt t'⟩ from Fin.ext (by show t.val - t.val % 10 + 8 = t'.val - t'.val % 10 + 8; rw [h])]

/-- The invariant before position `n`: within a run, the third scratch buffer at the context's attention. -/
def PhiS (c : Dev nD) (n : ℕ) (hn : n ≤ cfg0.N) : sProp 𝕄 :=
  if h : n % 10 = 0 then Pipeline.ΦA spec0 c
  else iprop(iprop((∃ d, owns (c : Thread nD τ) sc0 fullShare d) ∗ (∃ d, owns (c : Thread nD τ) sc1 fullShare d)
    ∗ owns (c : Thread nD τ) sc2 fullShare (accAt m c (colAt n (by have h' : n ≤ 80 := hn; show n - n % 10 < 80; omega)))) ∗ (∃ r, prngReg c r))

theorem PhiS_start (c : Dev nD) (n : ℕ) (hn : n ≤ cfg0.N) (h : n % 10 = 0) : PhiS m c n hn = Pipeline.ΦA spec0 c := dif_pos h

theorem PhiS_in (c : Dev nD) (n : ℕ) (hn : n ≤ cfg0.N) (h : ¬ n % 10 = 0) (t : Fin cfg0.N) (ht : t.val = n - n % 10) : PhiS m c n hn =
    iprop(iprop((∃ d, owns (c : Thread nD τ) sc0 fullShare d) ∗ (∃ d, owns (c : Thread nD τ) sc1 fullShare d)
      ∗ owns (c : Thread nD τ) sc2 fullShare (accAt m c t)) ∗ (∃ r, prngReg c r)) := by
  unfold PhiS
  rw [dif_neg h, show colAt n _ = t from Fin.ext ht.symm]

/-- What the body leaves in the context's result: from the run's point 8 on, its block. -/
def Rl (c : Dev nD) (w : Fin cfg0.W) (t : Fin cfg0.N) : ((cfg0.win w).block.Idx → Elt F (cfg0.win w).elt) → Prop :=
  match w with
  | ⟨17, _⟩ => fun X => 8 ≤ t.val % 10 → X = res m c t
  | _ => fun _ => True

/-- The proof data: the arrays as they stand at entry, each operand's buffer left at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, _⟩ => res m c t
    | ⟨_ + 18, h⟩ => absurd h (Nat.not_lt.2 (Nat.le_add_left _ _))
  Φ t := PhiS m c t.val (Nat.le_of_lt_succ t.isLt)
  q w := Pipeline.shareOf spec0 w
  owed _ := 0

/-- The arrays are those at entry. -/
theorem A_eq (c : Dev nD) (w : Fin cfg0.W) : (dats m 0 c).A w = V m c (Pipeline.arrRef spec0 w) := by
  dsimp only [dats]

theorem after0_17 (c : Dev nD) (t : Fin cfg0.N) : (dats m 0 c).after 17 t = res m c t := by dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

/-- The relational data. -/
abbrev rdat (c : Dev nD) : Pipeline.RDat τ (Elt F) Unit ℕ (UR sig nD τ) ℕ cfg0 c := (dats m 0 c).toRRel forgets0 (Rl m c)

/-- At a run's last point the context's result is found at its block. -/
theorem found_17 (c : Dev nD) (t : Fin cfg0.N) (h : t.val % 10 = 9) (Y : Vec F S256x512 .bf16) (hY : (rdat m c).Finds 17 t Y) : Y = res m c t := by
  have hfe : (cfg0.win 17).fetch t = false := (by decide +kernel : ∀ t : Fin grid0.N, (cfg0.win 17).fetch t = false) t
  have hfl : ∀ t : Fin cfg0.N, t.val % 10 ≠ 9 → (cfg0.win 17).flush t = false := (by decide +kernel : ∀ t : Fin grid0.N, t.val % 10 ≠ 9 → (cfg0.win 17).flush t = false)
  rcases ((rdat m c).finds_of_pos hfe (by omega) Y).mp hY with h1 | h1
  · rw [hfl _ (by show (t.val - 1) % 10 ≠ 9; omega)] at h1
    exact absurd h1 (by decide)
  · have h2 := (dats m 0 c).toRRel_leaves (fgt := forgets0) (Rl := Rl m c) (w := 17) (by decide) h1
    exact (h2 (by show 8 ≤ (t.val - 1) % 10; omega)).trans (res_eq m c _ _ (by show t.val - 1 - (t.val - 1) % 10 = _; omega))

/-- Operand 0's buffer is left at its block, -/
theorem after0_0 (c : Dev nD) (t : Fin cfg0.N) : (dats m 0 c).after 0 t = iblk m c 0 t := by dsimp only [dats]
/-- and found at it. -/
theorem before0_0 (c : Dev nD) (t : Fin cfg0.N) (d) : (dats m 0 c).before 0 t d = iblk m c 0 t :=
  before0_0_of m (dats m 0 c) (A_eq m c 0) (after0_0 m c) t d
/-- What the body hands back for operand 0. -/
theorem leaves0_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [show cfg0.idle 0 (grid0.coords t) = false from rfl], after0_0]
/-- Operand 1's buffer is left at its block, -/
theorem after0_1 (c : Dev nD) (t : Fin cfg0.N) : (dats m 0 c).after 1 t = iblk m c 1 t := by dsimp only [dats]
/-- and found at it. -/
theorem before0_1 (c : Dev nD) (t : Fin cfg0.N) (d) : (dats m 0 c).before 1 t d = iblk m c 1 t :=
  before0_1_of m (dats m 0 c) (A_eq m c 1) (after0_1 m c) t d
/-- What the body hands back for operand 1. -/
theorem leaves0_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [show cfg0.idle 1 (grid0.coords t) = false from rfl], after0_1]
/-- Operand 2's buffer is left at its block, -/
theorem after0_2 (c : Dev nD) (t : Fin cfg0.N) : (dats m 0 c).after 2 t = iblk m c 2 t := by dsimp only [dats]
/-- and found at it. -/
theorem before0_2 (c : Dev nD) (t : Fin cfg0.N) (d) : (dats m 0 c).before 2 t d = iblk m c 2 t :=
  before0_2_of m (dats m 0 c) (A_eq m c 2) (after0_2 m c) t d
/-- What the body hands back for operand 2. -/
theorem leaves0_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [show cfg0.idle 2 (grid0.coords t) = false from rfl], after0_2]
/-- Operand 3's buffer is left at its block, -/
theorem after0_3 (c : Dev nD) (t : Fin cfg0.N) : (dats m 0 c).after 3 t = iblk m c 3 t := by dsimp only [dats]
/-- and found at it. -/
theorem before0_3 (c : Dev nD) (t : Fin cfg0.N) (d) : (dats m 0 c).before 3 t d = iblk m c 3 t :=
  before0_3_of m (dats m 0 c) (A_eq m c 3) (after0_3 m c) t d
/-- What the body hands back for operand 3. -/
theorem leaves0_3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [show cfg0.idle 3 (grid0.coords t) = false from rfl], after0_3]
/-- Operand 4's buffer is left at its block, -/
theorem after0_4 (c : Dev nD) (t : Fin cfg0.N) : (dats m 0 c).after 4 t = iblk m c 4 t := by dsimp only [dats]
/-- and found at it. -/
theorem before0_4 (c : Dev nD) (t : Fin cfg0.N) (d) : (dats m 0 c).before 4 t d = iblk m c 4 t :=
  before0_4_of m (dats m 0 c) (A_eq m c 4) (after0_4 m c) t d
/-- What the body hands back for operand 4. -/
theorem leaves0_4 (c : Dev nD) (t : Fin cfg0.N) : (dats m 0 c).leavesExact 4 t = owns (c : Thread nD τ) (ms4 t) fullShare (iblk m c 4 t) := by
  rw [show (dats m 0 c).leavesExact 4 t = owns (c : Thread nD τ) (ms4 t) fullShare ((dats m 0 c).after 4 t) from by
    unfold Dat.leavesExact; rw [show cfg0.idle 4 (grid0.coords t) = false from rfl], after0_4]
/-- Operand 5's buffer is left at its block, -/
theorem after0_5 (c : Dev nD) (t : Fin cfg0.N) : (dats m 0 c).after 5 t = iblk m c 5 t := by dsimp only [dats]
/-- and found at it. -/
theorem before0_5 (c : Dev nD) (t : Fin cfg0.N) (d) : (dats m 0 c).before 5 t d = iblk m c 5 t :=
  before0_5_of m (dats m 0 c) (A_eq m c 5) (after0_5 m c) t d
/-- What the body hands back for operand 5. -/
theorem leaves0_5 (c : Dev nD) (t : Fin cfg0.N) : (dats m 0 c).leavesExact 5 t = owns (c : Thread nD τ) (ms5 t) fullShare (iblk m c 5 t) := by
  rw [show (dats m 0 c).leavesExact 5 t = owns (c : Thread nD τ) (ms5 t) fullShare ((dats m 0 c).after 5 t) from by
    unfold Dat.leavesExact; rw [show cfg0.idle 5 (grid0.coords t) = false from rfl], after0_5]
/-- Operand 6's buffer is left at its block, -/
theorem after0_6 (c : Dev nD) (t : Fin cfg0.N) : (dats m 0 c).after 6 t = iblk m c 6 t := by dsimp only [dats]
/-- and found at it. -/
theorem before0_6 (c : Dev nD) (t : Fin cfg0.N) (d) : (dats m 0 c).before 6 t d = iblk m c 6 t :=
  before0_6_of m (dats m 0 c) (A_eq m c 6) (after0_6 m c) t d
/-- What the body hands back for operand 6. -/
theorem leaves0_6 (c : Dev nD) (t : Fin cfg0.N) : (dats m 0 c).leavesExact 6 t = owns (c : Thread nD τ) (ms6 t) fullShare (iblk m c 6 t) := by
  rw [show (dats m 0 c).leavesExact 6 t = owns (c : Thread nD τ) (ms6 t) fullShare ((dats m 0 c).after 6 t) from by
    unfold Dat.leavesExact; rw [show cfg0.idle 6 (grid0.coords t) = false from rfl], after0_6]
/-- Operand 7's buffer is left at its block, -/
theorem after0_7 (c : Dev nD) (t : Fin cfg0.N) : (dats m 0 c).after 7 t = iblk m c 7 t := by dsimp only [dats]
/-- and found at it. -/
theorem before0_7 (c : Dev nD) (t : Fin cfg0.N) (d) : (dats m 0 c).before 7 t d = iblk m c 7 t :=
  before0_7_of m (dats m 0 c) (A_eq m c 7) (after0_7 m c) t d
/-- What the body hands back for operand 7. -/
theorem leaves0_7 (c : Dev nD) (t : Fin cfg0.N) : (dats m 0 c).leavesExact 7 t = owns (c : Thread nD τ) (ms7 t) fullShare (iblk m c 7 t) := by
  rw [show (dats m 0 c).leavesExact 7 t = owns (c : Thread nD τ) (ms7 t) fullShare ((dats m 0 c).after 7 t) from by
    unfold Dat.leavesExact; rw [show cfg0.idle 7 (grid0.coords t) = false from rfl], after0_7]
/-- Operand 8's buffer is left at its block, -/
theorem after0_8 (c : Dev nD) (t : Fin cfg0.N) : (dats m 0 c).after 8 t = iblk m c 8 t := by dsimp only [dats]
/-- and found at it. -/
theorem before0_8 (c : Dev nD) (t : Fin cfg0.N) (d) : (dats m 0 c).before 8 t d = iblk m c 8 t :=
  before0_8_of m (dats m 0 c) (A_eq m c 8) (after0_8 m c) t d
/-- What the body hands back for operand 8. -/
theorem leaves0_8 (c : Dev nD) (t : Fin cfg0.N) : (dats m 0 c).leavesExact 8 t = owns (c : Thread nD τ) (ms8 t) fullShare (iblk m c 8 t) := by
  rw [show (dats m 0 c).leavesExact 8 t = owns (c : Thread nD τ) (ms8 t) fullShare ((dats m 0 c).after 8 t) from by
    unfold Dat.leavesExact; rw [show cfg0.idle 8 (grid0.coords t) = false from rfl], after0_8]
/-- Operand 9's buffer is left at its block, -/
theorem after0_9 (c : Dev nD) (t : Fin cfg0.N) : (dats m 0 c).after 9 t = iblk m c 9 t := by dsimp only [dats]
/-- and found at it. -/
theorem before0_9 (c : Dev nD) (t : Fin cfg0.N) (d) : (dats m 0 c).before 9 t d = iblk m c 9 t :=
  before0_9_of m (dats m 0 c) (A_eq m c 9) (after0_9 m c) t d
/-- What the body hands back for operand 9. -/
theorem leaves0_9 (c : Dev nD) (t : Fin cfg0.N) : (dats m 0 c).leavesExact 9 t = owns (c : Thread nD τ) (ms9 t) fullShare (iblk m c 9 t) := by
  rw [show (dats m 0 c).leavesExact 9 t = owns (c : Thread nD τ) (ms9 t) fullShare ((dats m 0 c).after 9 t) from by
    unfold Dat.leavesExact; rw [show cfg0.idle 9 (grid0.coords t) = false from rfl], after0_9]
/-- Operand 10's buffer is left at its block, -/
theorem after0_10 (c : Dev nD) (t : Fin cfg0.N) : (dats m 0 c).after 10 t = iblk m c 10 t := by dsimp only [dats]
/-- and found at it. -/
theorem before0_10 (c : Dev nD) (t : Fin cfg0.N) (d) : (dats m 0 c).before 10 t d = iblk m c 10 t :=
  before0_10_of m (dats m 0 c) (A_eq m c 10) (after0_10 m c) t d
/-- What the body hands back for operand 10. -/
theorem leaves0_10 (c : Dev nD) (t : Fin cfg0.N) : (dats m 0 c).leavesExact 10 t = owns (c : Thread nD τ) (ms10 t) fullShare (iblk m c 10 t) := by
  rw [show (dats m 0 c).leavesExact 10 t = owns (c : Thread nD τ) (ms10 t) fullShare ((dats m 0 c).after 10 t) from by
    unfold Dat.leavesExact; rw [show cfg0.idle 10 (grid0.coords t) = false from rfl], after0_10]
/-- Operand 11's buffer is left at its block, -/
theorem after0_11 (c : Dev nD) (t : Fin cfg0.N) : (dats m 0 c).after 11 t = iblk m c 11 t := by dsimp only [dats]
/-- and found at it. -/
theorem before0_11 (c : Dev nD) (t : Fin cfg0.N) (d) : (dats m 0 c).before 11 t d = iblk m c 11 t :=
  before0_11_of m (dats m 0 c) (A_eq m c 11) (after0_11 m c) t d
/-- What the body hands back for operand 11. -/
theorem leaves0_11 (c : Dev nD) (t : Fin cfg0.N) : (dats m 0 c).leavesExact 11 t = owns (c : Thread nD τ) (ms11 t) fullShare (iblk m c 11 t) := by
  rw [show (dats m 0 c).leavesExact 11 t = owns (c : Thread nD τ) (ms11 t) fullShare ((dats m 0 c).after 11 t) from by
    unfold Dat.leavesExact; rw [show cfg0.idle 11 (grid0.coords t) = false from rfl], after0_11]
/-- Operand 12's buffer is left at its block, -/
theorem after0_12 (c : Dev nD) (t : Fin cfg0.N) : (dats m 0 c).after 12 t = iblk m c 12 t := by dsimp only [dats]
/-- and found at it. -/
theorem before0_12 (c : Dev nD) (t : Fin cfg0.N) (d) : (dats m 0 c).before 12 t d = iblk m c 12 t :=
  before0_12_of m (dats m 0 c) (A_eq m c 12) (after0_12 m c) t d
/-- What the body hands back for operand 12. -/
theorem leaves0_12 (c : Dev nD) (t : Fin cfg0.N) : (dats m 0 c).leavesExact 12 t = owns (c : Thread nD τ) (ms12 t) fullShare (iblk m c 12 t) := by
  rw [show (dats m 0 c).leavesExact 12 t = owns (c : Thread nD τ) (ms12 t) fullShare ((dats m 0 c).after 12 t) from by
    unfold Dat.leavesExact; rw [show cfg0.idle 12 (grid0.coords t) = false from rfl], after0_12]
/-- Operand 13's buffer is left at its block, -/
theorem after0_13 (c : Dev nD) (t : Fin cfg0.N) : (dats m 0 c).after 13 t = iblk m c 13 t := by dsimp only [dats]
/-- and found at it. -/
theorem before0_13 (c : Dev nD) (t : Fin cfg0.N) (d) : (dats m 0 c).before 13 t d = iblk m c 13 t :=
  before0_13_of m (dats m 0 c) (A_eq m c 13) (after0_13 m c) t d
/-- What the body hands back for operand 13. -/
theorem leaves0_13 (c : Dev nD) (t : Fin cfg0.N) : (dats m 0 c).leavesExact 13 t = owns (c : Thread nD τ) (ms13 t) fullShare (iblk m c 13 t) := by
  rw [show (dats m 0 c).leavesExact 13 t = owns (c : Thread nD τ) (ms13 t) fullShare ((dats m 0 c).after 13 t) from by
    unfold Dat.leavesExact; rw [show cfg0.idle 13 (grid0.coords t) = false from rfl], after0_13]
/-- Operand 14's buffer is left at its block, -/
theorem after0_14 (c : Dev nD) (t : Fin cfg0.N) : (dats m 0 c).after 14 t = iblk m c 14 t := by dsimp only [dats]
/-- and found at it. -/
theorem before0_14 (c : Dev nD) (t : Fin cfg0.N) (d) : (dats m 0 c).before 14 t d = iblk m c 14 t :=
  before0_14_of m (dats m 0 c) (A_eq m c 14) (after0_14 m c) t d
/-- What the body hands back for operand 14. -/
theorem leaves0_14 (c : Dev nD) (t : Fin cfg0.N) : (dats m 0 c).leavesExact 14 t = owns (c : Thread nD τ) (ms14 t) fullShare (iblk m c 14 t) := by
  rw [show (dats m 0 c).leavesExact 14 t = owns (c : Thread nD τ) (ms14 t) fullShare ((dats m 0 c).after 14 t) from by
    unfold Dat.leavesExact; rw [show cfg0.idle 14 (grid0.coords t) = false from rfl], after0_14]
/-- Operand 15's buffer is left at its block, -/
theorem after0_15 (c : Dev nD) (t : Fin cfg0.N) : (dats m 0 c).after 15 t = iblk m c 15 t := by dsimp only [dats]
/-- and found at it. -/
theorem before0_15 (c : Dev nD) (t : Fin cfg0.N) (d) : (dats m 0 c).before 15 t d = iblk m c 15 t :=
  before0_15_of m (dats m 0 c) (A_eq m c 15) (after0_15 m c) t d
/-- What the body hands back for operand 15. -/
theorem leaves0_15 (c : Dev nD) (t : Fin cfg0.N) : (dats m 0 c).leavesExact 15 t = owns (c : Thread nD τ) (ms15 t) fullShare (iblk m c 15 t) := by
  rw [show (dats m 0 c).leavesExact 15 t = owns (c : Thread nD τ) (ms15 t) fullShare ((dats m 0 c).after 15 t) from by
    unfold Dat.leavesExact; rw [show cfg0.idle 15 (grid0.coords t) = false from rfl], after0_15]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ Y, ⌜(rdat m c).Finds 16 t Y⌝ ∗ owns (c : Thread nD τ) (ms16 t) fullShare Y)
    ∗ (∃ Y, ⌜(rdat m c).Finds 17 t Y⌝ ∗ owns (c : Thread nD τ) (ms17 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ X, ⌜True⌝ ∗ owns (c : Thread nD τ) (ms16 t) fullShare X)
    ∗ (∃ X, ⌜8 ≤ t.val % 10 → X = res m c t⌝ ∗ owns (c : Thread nD τ) (ms17 t) fullShare X))

set_option maxHeartbeats 4000000 in
/-- The body at any point, by the run of the point's case. -/
theorem sound_body (c : Dev nD) (t : Fin cfg0.N) :
    bodyPre m c t ⊢ wp frame (wpE (defs₀ (F := F)) Variants.none c none) Set.univ (bodyAt0 t) (fun _ => bodyPost m c t) := by
  have ht : t.val < 80 := t.isLt
  unfold bodyPre bodyPost bodyAt0
  simp only [before0_0, before0_1, before0_2, before0_3, before0_4, before0_5, before0_6, before0_7, before0_8, before0_9, before0_10, before0_11, before0_12, before0_13, before0_14, before0_15, leaves0_0, leaves0_1, leaves0_2, leaves0_3, leaves0_4, leaves0_5, leaves0_6, leaves0_7, leaves0_8, leaves0_9, leaves0_10, leaves0_11, leaves0_12, leaves0_13, leaves0_14, leaves0_15]
  rw [show (dats m 0 c).owesAt () t.succ = (dats m 0 c).owesAt () t.castSucc from rfl]
  rw [show (dats m 0 c).Φ t.succ = PhiS m c (t.val + 1) t.isLt from rfl, Phi_castSucc]
  by_cases h0 : t.val % 10 = 0
  · rw [PhiS_start m c t.val _ h0, PhiS_in m c (t.val + 1) _ (by omega) t (by omega), Phi_eq]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%Y16, -, H16⟩, ⟨%Y17, %hY, H17⟩⟩
    iapply ((runA c (grid0.coords t) _ _ _ _ _ _ _ _ _ _ _ _ _ _ _ _ _ _ _ _ _ _ _ _ _ _ _ _ _ _ _ _ _ _ _ _ _ _ _ _ _ _ ((hcond1 t).mpr (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [S0]; · iexact S0
    isplitl [S1]; · iexact S1
    isplitl [S2]; · iexact S2
    iintro ⟨H0, H1, H2, H3, H4, H5, H6, H7, H8, H9, H10, H11, H12, H13, H14, H15, ⟨%e16, H16⟩, ⟨%e17, H17⟩, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · iexists _; isplitr; · ipureintro; trivial
      iexact H16
    iexists _; isplitr; swap; · iexact H17
    ipureintro; intro h; omega
  by_cases h1 : t.val % 10 < 8
  · rw [PhiS_in m c t.val _ (by omega) (colAt t.val (col_lt t)) rfl, PhiS_in m c (t.val + 1) _ (by omega) (colAt t.val (col_lt t)) (by show t.val - t.val % 10 = _; omega)]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%Y16, -, H16⟩, ⟨%Y17, %hY, H17⟩⟩
    iapply ((runB c (grid0.coords t) _ _ _ _ _ _ _ _ _ _ _ _ _ _ _ _ _ _ _ _ _ _ _ _ _ _ _ _ _ _ _ _ _ _ _ _ _ _ _ _ _ _ (fun h => absurd ((hcond1 t).mp h) (by omega)) ((hcond2 t).mpr (by omega)) (fun h => absurd ((hcond3 t).mp h) (by omega)) (fun h => absurd ((hcond4 t).mp h) (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (accAt m c (colAt t.val (col_lt t)))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [S0]; · iexact S0
    isplitl [S1]; · iexact S1
    isplitl [S2]; · iexact S2
    iintro ⟨H0, H1, H2, H3, H4, H5, H6, H7, H8, H9, H10, H11, H12, H13, H14, H15, ⟨%e16, H16⟩, ⟨%e17, H17⟩, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · iexists _; isplitr; · ipureintro; trivial
      iexact H16
    iexists _; isplitr; swap; · iexact H17
    ipureintro; intro h; omega
  by_cases h2 : t.val % 10 = 8
  · rw [PhiS_in m c t.val _ (by omega) (colAt t.val (col_lt t)) rfl, PhiS_in m c (t.val + 1) _ (by omega) (colAt t.val (col_lt t)) (by show t.val - t.val % 10 = _; omega)]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%Y16, -, H16⟩, ⟨%Y17, %hY, H17⟩⟩
    have hr : k0_pay12 (accAt m c (colAt t.val (col_lt t))) (iblk m c 13 t) = res m c t := by
      unfold res
      rw [show (⟨t.val - t.val % 10 + 8, run_lt t⟩ : Fin cfg0.N) = t from Fin.ext (by show t.val - t.val % 10 + 8 = t.val; omega)]
    iapply ((runC c (grid0.coords t) _ _ _ _ _ _ _ _ _ _ _ _ _ _ _ _ _ _ _ _ _ _ _ _ _ _ _ _ _ _ _ _ _ _ _ _ _ _ _ _ _ _ (fun h => absurd ((hcond1 t).mp h) (by omega)) (fun h => absurd ((hcond2 t).mp h) (by omega)) ((hcond3 t).mpr (by omega)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (accAt m c (colAt t.val (col_lt t)))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [S0]; · iexact S0
    isplitl [S1]; · iexact S1
    isplitl [S2]; · iexact S2
    iintro ⟨H0, H1, H2, H3, H4, H5, H6, H7, H8, H9, H10, H11, H12, H13, H14, H15, ⟨%e16, H16⟩, H17, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · iexists _; isplitr; · ipureintro; trivial
      iexact H16
    iexists _; isplitr; swap; · iexact H17
    ipureintro; exact fun _ => hr
  rw [PhiS_in m c t.val _ (by omega) (colAt t.val (col_lt t)) rfl, PhiS_start m c (t.val + 1) _ (by omega), Phi_eq]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%Y16, -, H16⟩, ⟨%Y17, %hY, H17⟩⟩
  have hY' := found_17 m c t (by omega) Y17 hY
  subst hY'
  iapply ((runD c (grid0.coords t) _ _ _ _ _ _ _ _ _ _ _ _ _ _ _ _ _ _ _ _ _ _ _ _ _ _ _ _ _ _ _ _ _ _ _ _ _ _ _ _ _ _ (fun h => absurd ((hcond1 t).mp h) (by omega)) (fun h => absurd ((hcond2 t).mp h) (by omega)) (fun h => absurd ((hcond3 t).mp h) (by omega)) ((hcond4 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (res m c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [S0]; · iexact S0
  isplitl [S1]; · iexact S1
  isplitl [S2]; · iexists _; iexact S2
  iintro ⟨H0, H1, H2, H3, H4, H5, H6, H7, H8, H9, H10, H11, H12, H13, H14, H15, ⟨%e16, H16⟩, H17, S0, S1, S2⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · iexists _; isplitr; · ipureintro; trivial
    iexact H16
  iexists _; isplitr; swap; · iexact H17
  ipureintro; exact fun _ => rfl

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligationRel (dats (F := F) m 0 c) (defs₀ (F := F)) Variants.none () Set.univ forgets0 (Rl m c) := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_start m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiS_start m c _ _ (show (Fin.last cfg0.N).val % 10 = 0 from rfl)]
  try exact Idealize.SL.BI.Entails.refl _

set_option backward.isDefEq.respectTransparency.types false in
/-- The launch: it ends, every array as the relational data say, every counter at zero. -/
theorem run_main_quiescent : θ_run defs (onTc (τ := τ) (main (F := F))) (s₀ m ρ) (fun r => (Pipeline.RDat.FramePost (cfgs 0) (rdat m) (V m)) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl)
    (howed := fun _ _ => rfl) (V := V m) (hmain := hmain m Variants.none) (hA := A_eq m) (hin := hin m) (hout := hout m)

/-- What the context's array may hold after the points below `n`: what the named blocks make of it. -/
theorem arr_17 (c : Dev nD) : ∀ (n : ℕ) (G : Buf (Elt F) ((cfg0.win 17).arr.view.loc (c.tc : Thread nD τ))),
    (rdat m c).ArrAt 17 n G → G = (dats m 0 c).arrAt 17 n :=
  Cert.GlaLib.arr_of_leaves (dats m 0 c) (rdat m c) 17 rfl fun u X hf hX => by
    have hu : u.val % 10 = 9 := (by decide +kernel : ∀ t : Fin grid0.N, (cfg0.win 17).flush t = true → t.val % 10 = 9) u hf
    have e := (dats m 0 c).toRRel_leaves (fgt := forgets0) (Rl := Rl m c) (w := 17) (by decide) hX
    exact (e (by omega)).trans (after0_17 m c u).symm

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 8 rfl).trans ((A_eq m c 8).trans (V_main_arg0 m c)),
      (Pipeline.RDat.FramePost.arr_in h.1 c 7 rfl).trans ((A_eq m c 7).trans (V_main_arg1 m c)),
      (Pipeline.RDat.FramePost.arr_in h.1 c 13 rfl).trans ((A_eq m c 13).trans (V_main_arg2 m c)),
      (Pipeline.RDat.FramePost.arr_in h.1 c 12 rfl).trans ((A_eq m c 12).trans (V_main_arg3 m c)),
      (Pipeline.RDat.FramePost.arr_in h.1 c 14 rfl).trans ((A_eq m c 14).trans (V_main_arg4 m c)),
      (Pipeline.RDat.FramePost.arr_in h.1 c 15 rfl).trans ((A_eq m c 15).trans (V_main_arg5 m c))⟩, h.2⟩) (run_main_quiescent m ρ)

end Cert.KernelIdeal.Gla

end
-- ==== Proof.Ffn.Value.lean ====
/- The first feed-forward product with its gate, what the call computes: the array after the run is the
   reference's term of the arguments. The weights' two blocks are kept in scratch over the eight row blocks of a
   column; at every point the scratch holds the point's own weight blocks. -/
module
public import proofs.«01_k».proof.Proof.Gen.FfnIdeal.Value
public import proofs.«01_k».proof.Proof.Gen.FfnRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)

namespace Cert.FfnIdeal.Val
open Cert.FfnIdeal Cert.FfnIdeal.Gen
variable (m : (ℓ : Loc nD τ sig) → Buf (Elt Ideal) ℓ)

/-- The reference's term over the two arguments. -/
abbrev REF (X : FVec Ideal S8192x2048 .bf16) (W : FVec Ideal S4x2048x11264 .f32) : FVec Ideal S8192x5632 .bf16 :=
  truncf .bf16 (mulf (mulf (extractStridedSlice Cert.FfnRefIdeal.S8192x5632 ![0, 0] (Host.dotGeneral Cert.FfnRefIdeal.dot_S8192x2048_S2048x11264_S8192x11264_1_0_0_1_n_n none (extf .f32 X Cert.FfnRefIdeal.Gen.bitsLt_bf16_f32) (shapeCast _ (extractStridedSlice Cert.FfnRefIdeal.S1x2048x11264 ![0, 0, 0] W Cert.FfnRefIdeal.Gen.slices_S4x2048x11264_S1x2048x11264_0_0_0) Cert.FfnRefIdeal.Gen.shapeCasts_S1x2048x11264_S2048x11264)) Cert.FfnRefIdeal.Gen.slices_S8192x11264_S8192x5632_0_0) (Host.divf (broadcastInDim Cert.FfnRefIdeal.S8192x5632 ![] Cert.FfnRefIdeal.Gen.bcast_S_S8192x5632 (constant Cert.FfnRefIdeal.S_ .f32 0x3F800000#32)) (addf (broadcastInDim Cert.FfnRefIdeal.S8192x5632 ![] Cert.FfnRefIdeal.Gen.bcast_S_S8192x5632 (constant Cert.FfnRefIdeal.S_ .f32 0x3F800000#32)) (Host.exp (Host.negf (extractStridedSlice Cert.FfnRefIdeal.S8192x5632 ![0, 0] (Host.dotGeneral Cert.FfnRefIdeal.dot_S8192x2048_S2048x11264_S8192x11264_1_0_0_1_n_n none (extf .f32 X Cert.FfnRefIdeal.Gen.bitsLt_bf16_f32) (shapeCast _ (extractStridedSlice Cert.FfnRefIdeal.S1x2048x11264 ![0, 0, 0] W Cert.FfnRefIdeal.Gen.slices_S4x2048x11264_S1x2048x11264_0_0_0) Cert.FfnRefIdeal.Gen.shapeCasts_S1x2048x11264_S2048x11264)) Cert.FfnRefIdeal.Gen.slices_S8192x11264_S8192x5632_0_0)))))) (extractStridedSlice Cert.FfnRefIdeal.S8192x5632 ![0, 5632] (Host.dotGeneral Cert.FfnRefIdeal.dot_S8192x2048_S2048x11264_S8192x11264_1_0_0_1_n_n none (extf .f32 X Cert.FfnRefIdeal.Gen.bitsLt_bf16_f32) (shapeCast _ (extractStridedSlice Cert.FfnRefIdeal.S1x2048x11264 ![0, 0, 0] W Cert.FfnRefIdeal.Gen.slices_S4x2048x11264_S1x2048x11264_0_0_0) Cert.FfnRefIdeal.Gen.shapeCasts_S1x2048x11264_S2048x11264)) Cert.FfnRefIdeal.Gen.slices_S8192x11264_S8192x5632_0_5632)) Cert.FfnRefIdeal.Gen.bitsLt_bf16_f32

/-- The windows' block indices: the column block is the point's number over 8, the row block the rest. -/
theorem idx : ∀ t : Fin cfg0.N, win0_0.index t = ![t.val % 8, 0] ∧ win0_1.index t = ![0, 0, t.val / 8]
    ∧ win0_2.index t = ![0, 0, t.val / 8 + 11] ∧ win0_3.index t = ![t.val % 8, t.val / 8] :=
  (by decide +kernel : ∀ t : Fin grid0.N, _)

/-- The point before the point `t`. -/
abbrev prev (t : Fin cfg0.N) : Fin cfg0.N := ⟨t.val - 1, lt_of_le_of_lt (Nat.sub_le _ _) t.isLt⟩

/-- Inside a column, the weight block of the point before is the point's own. -/
theorem same1 (c : Dev nD) (t : Fin cfg0.N) (h : 1 ≤ t.val % 8) : iblk m c 1 (prev t) = iblk m c 1 t := by
  funext y
  have e : (t.val - 1) / 8 = t.val / 8 := by omega
  blk_ext [iblk, V, idx t, idx (prev t), e]

theorem same2 (c : Dev nD) (t : Fin cfg0.N) (h : 1 ≤ t.val % 8) : iblk m c 2 (prev t) = iblk m c 2 t := by
  funext y
  have e : (t.val - 1) / 8 = t.val / 8 := by omega
  blk_ext [iblk, V, idx t, idx (prev t), e]

/-- What the two scratches hold after every point: the casts of the point's weight blocks. -/
theorem scratch (c : Dev nD) : ∀ (n : ℕ) (hn : n < cfg0.N),
    (outsAt0 m c n hn).2.1 = k0_pay3 (iblk m c 1 ⟨n, hn⟩) ∧ (outsAt0 m c n hn).2.2 = k0_pay4 (iblk m c 2 ⟨n, hn⟩) := by
  intro n
  induction n with
  | zero =>
    intro hn
    rw [outsAt0_A m c ⟨0, hn⟩ (Nat.zero_mod _) (by show ¬ 1 ≤ 0 % 8; omega)]
    constructor
    · frame_out
    · frame_out
  | succ n ih =>
    intro hn
    by_cases h : (n + 1) % 8 = 0
    · rw [outsAt0_A m c ⟨n + 1, hn⟩ h (by show ¬ 1 ≤ (n + 1) % 8; omega)]
      constructor
      · frame_out
      · frame_out
    · have h1 : 1 ≤ (n + 1) % 8 := by omega
      have e := ih (Nat.lt_of_succ_lt hn)
      rw [outsAt0_B m c ⟨n + 1, hn⟩ h h1, ← same1 m c ⟨n + 1, hn⟩ h1, ← same2 m c ⟨n + 1, hn⟩ h1]
      exact e

/-- What the body stores at block index `y` of point `t`. -/
theorem point (c : Dev nD) (t : Fin cfg0.N) (y) : k0_pay5 (iblk m c 1 t) (iblk m c 2 t) (iblk m c 0 t) y
    = REF (m ((c : Thread nD τ).loc main_arg0)) (m ((c : Thread nD τ).loc main_arg1)) (((cfg0.win 3).blk t).view.emb y) := by
  pointwise [k0_pay5, k0_pay1, k0_pay2, REF]
  unfold Ideal.logistic
  blk_point [iblk, V, idx t]

/-- The result array after the run. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3]
  by_cases h : t.val % 8 = 0
  · rw [outsAt0_A m c t h (by omega)]
    frame_out
    exact point m c t y
  · have h1 : 1 ≤ t.val % 8 := by omega
    rw [outsAt0_B m c t h h1]
    frame_out
    simp only [read_unread_whole]
    rw [(scratch m c (t.val - 1) _).1, (scratch m c (t.val - 1) _).2]
    refine Eq.trans ?_ (point m c t y)
    rw [show iblk m c 1 ⟨t.val - 1, _⟩ = iblk m c 1 t from same1 m c t h1,
      show iblk m c 2 ⟨t.val - 1, _⟩ = iblk m c 2 t from same2 m c t h1]
    pointwise [k0_pay6, k0_pay5, k0_pay1, k0_pay2, k0_pay3, k0_pay4]

end Cert.FfnIdeal.Val
end
end
-- ==== Proof.Ffn.Claim.lean ====
/- The claims about the gated feed-forward product: the reference runs and leaves its arguments as they were, and the call's
   result is the reference's at the ideal instance. -/
module
public import proofs.«01_k».proof.Defs
public import proofs.«01_k».proof.Proof.Ffn.Value
public import Idealize.ShloMosaic.Lib.Quiescent
public import Idealize.ShloMosaic.Lib.Claim
@[expose] public section
set_option maxRecDepth 16384
noncomputable section
open Idealize.ShloMosaic Idealize.ShloMosaic.TcCoe Idealize.SL.Sem

namespace Cert.FfnClaim

attribute [local instance] Cert.FfnIdeal.Gen.facts Cert.FfnRefIdeal.Gen.facts

/-- The reference runs, its arguments and every counter as at the start. -/
theorem refFrame : Cert.quiescent_FfnRefIdeal := fun m g _ =>
  (θ_run Cert.FfnRefIdeal.defs _ _).mono (fun r h => ⟨fun c => (h c).2, sem_eq_zero_of_no_sems rfl r.2⟩)
    (Cert.FfnRefIdeal.Value.run m g)

/-- The call and the reference end with equal results. -/
theorem algebraic : Cert.algebraic_FfnIdeal_FfnRefIdeal := by
  pair_intro
  · run_from Cert.FfnIdeal.Gen.run_main m g
  · run_from Cert.FfnRefIdeal.Value.run m' g'
    exact (Cert.FfnIdeal.Val.final m c).symm

end Cert.FfnClaim
end
end
-- ==== Proof.Proj.ProjIdeal.Runs.lean ====
/- The body of the input projection in its six cases: what it leaves in the result's block and in the
   scratch that carries the weight block. -/
module

public import proofs.«01_k».proof.Proof.Gen.ProjIdeal.Frame
public import proofs.«01_k».proof.Proof.Gen.ProjIdeal.Skeleton

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Condition 1: first row block of a query column block. -/
theorem hcond1 : ∀ t : Fin cfg0.N, k0_cond1 (grid0.coords t) = 1#1 ↔ t.val % 8 = 0 ∧ t.val / 8 < 1 :=
  (by decide +kernel : ∀ t : Fin grid0.N, k0_cond1 (grid0.coords t) = 1#1 ↔ t.val % 8 = 0 ∧ t.val / 8 < 1)

/-- Condition 2: first row block of a gated column block. -/
theorem hcond2 : ∀ t : Fin cfg0.N, k0_cond2 (grid0.coords t) = 1#1 ↔ t.val % 8 = 0 ∧ 4 ≤ t.val / 8 ∧ t.val / 8 < 6 :=
  (by decide +kernel : ∀ t : Fin grid0.N, k0_cond2 (grid0.coords t) = 1#1 ↔ t.val % 8 = 0 ∧ 4 ≤ t.val / 8 ∧ t.val / 8 < 6)

/-- Condition 3: first row block of a plain column block. -/
theorem hcond3 : ∀ t : Fin cfg0.N, k0_cond3 (grid0.coords t) = 1#1 ↔ t.val % 8 = 0 ∧ (1 ≤ t.val / 8 ∧ t.val / 8 < 4 ∨ 6 ≤ t.val / 8) :=
  (by decide +kernel : ∀ t : Fin grid0.N, k0_cond3 (grid0.coords t) = 1#1 ↔ t.val % 8 = 0 ∧ (1 ≤ t.val / 8 ∧ t.val / 8 < 4 ∨ 6 ≤ t.val / 8))

/-- Condition 4: later row block of a query column block. -/
theorem hcond4 : ∀ t : Fin cfg0.N, k0_cond4 (grid0.coords t) = 1#1 ↔ 1 ≤ t.val % 8 ∧ t.val / 8 < 1 :=
  (by decide +kernel : ∀ t : Fin grid0.N, k0_cond4 (grid0.coords t) = 1#1 ↔ 1 ≤ t.val % 8 ∧ t.val / 8 < 1)

/-- Condition 5: later row block of a gated column block. -/
theorem hcond5 : ∀ t : Fin cfg0.N, k0_cond5 (grid0.coords t) = 1#1 ↔ 1 ≤ t.val % 8 ∧ 4 ≤ t.val / 8 ∧ t.val / 8 < 6 :=
  (by decide +kernel : ∀ t : Fin grid0.N, k0_cond5 (grid0.coords t) = 1#1 ↔ 1 ≤ t.val % 8 ∧ 4 ≤ t.val / 8 ∧ t.val / 8 < 6)

/-- Condition 6: later row block of a plain column block. -/
theorem hcond6 : ∀ t : Fin cfg0.N, k0_cond6 (grid0.coords t) = 1#1 ↔ 1 ≤ t.val % 8 ∧ (1 ≤ t.val / 8 ∧ t.val / 8 < 4 ∨ 6 ≤ t.val / 8) :=
  (by decide +kernel : ∀ t : Fin grid0.N, k0_cond6 (grid0.coords t) = 1#1 ↔ 1 ≤ t.val % 8 ∧ (1 ≤ t.val / 8 ∧ t.val / 8 < 4 ∨ 6 ≤ t.val / 8))

end Cert.ProjIdeal.Proj

end
-- ==== Proof.Proj.ProjIdeal.Run1.lean ====
/- The body of the input projection at the first row block of a query column block. -/
module

public import proofs.«01_k».proof.Proof.Proj.ProjIdeal.Runs
public import Idealize.ShloMosaic.Lib.VecWindow

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first row block of a query column block. -/
theorem run1 (c : Dev nD) (i : grid0.Coords) (arg2 : Memref sig .tc .vmem S1024x2048 .bf16) (harg2 : arg2.IsWhole) (arg3 : Memref sig .tc .vmem S1x1024x2048 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1024x2048 .bf16) (harg6 : arg6.IsWhole) (hc1 : k0_cond1 i = 1#1) (hc2 : ¬ k0_cond2 i = 1#1) (hc3 : ¬ k0_cond3 i = 1#1) (hc4 : ¬ k0_cond4 i = 1#1) (hc5 : ¬ k0_cond5 i = 1#1) (hc6 : ¬ k0_cond6 i = 1#1)
    (x0 : Vec F S1024x2048 .bf16) (x1 : Vec F S1x1024x2048 .f32) (x2 : Vec F S1x1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay3 x1 x0) ∗ owns (c : Thread nD τ) arg6 fullShare (k0_pay2 x1)) -∗ K ⟨⟩))
          ⊢ wp frame (wpE (defs₀ (F := F)) Variants.none c none) E (cc0_in_proj i arg2 harg2 arg3 harg3 arg4 harg4 arg5 harg5 arg6 harg6) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; rw [View.read_writes_full]; repeat rw [View.readAt_full]
      simp only [hf0, hf1, hf2]
    iexists _; isplitr; swap; · iexact H4
    ipureintro; rw [View.read_writes_full]; repeat rw [View.readAt_full]
    simp only [hf0, hf1, hf2]

end Cert.ProjIdeal.Proj

end
-- ==== Proof.Proj.ProjIdeal.Run2.lean ====
/- The body of the input projection at the first row block of a gated column block. -/
module

public import proofs.«01_k».proof.Proof.Proj.ProjIdeal.Runs
public import Idealize.ShloMosaic.Lib.VecWindow

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first row block of a gated column block. -/
theorem run2 (c : Dev nD) (i : grid0.Coords) (arg2 : Memref sig .tc .vmem S1024x2048 .bf16) (harg2 : arg2.IsWhole) (arg3 : Memref sig .tc .vmem S1x1024x2048 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1024x2048 .bf16) (harg6 : arg6.IsWhole) (hc1 : ¬ k0_cond1 i = 1#1) (hc2 : k0_cond2 i = 1#1) (hc3 : ¬ k0_cond3 i = 1#1) (hc4 : ¬ k0_cond4 i = 1#1) (hc5 : ¬ k0_cond5 i = 1#1) (hc6 : ¬ k0_cond6 i = 1#1)
    (x0 : Vec F S1024x2048 .bf16) (x1 : Vec F S1x1024x2048 .f32) (x2 : Vec F S1x1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay6 x1 x0 x2) ∗ owns (c : Thread nD τ) arg6 fullShare (k0_pay5 x1)) -∗ K ⟨⟩))
          ⊢ wp frame (wpE (defs₀ (F := F)) Variants.none c none) E (cc0_in_proj i arg2 harg2 arg3 harg3 arg4 harg4 arg5 harg5 arg6 harg6) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; rw [View.read_writes_full]; repeat rw [View.readAt_full]
      simp only [hf0, hf1, hf2]
    iexists _; isplitr; swap; · iexact H4
    ipureintro; rw [View.read_writes_full]; repeat rw [View.readAt_full]
    simp only [hf0, hf1, hf2]

end Cert.ProjIdeal.Proj

end
-- ==== Proof.Proj.ProjIdeal.Run3.lean ====
/- The body of the input projection at the first row block of a plain column block. -/
module

public import proofs.«01_k».proof.Proof.Proj.ProjIdeal.Runs
public import Idealize.ShloMosaic.Lib.VecWindow

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first row block of a plain column block. -/
theorem run3 (c : Dev nD) (i : grid0.Coords) (arg2 : Memref sig .tc .vmem S1024x2048 .bf16) (harg2 : arg2.IsWhole) (arg3 : Memref sig .tc .vmem S1x1024x2048 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1024x2048 .bf16) (harg6 : arg6.IsWhole) (hc1 : ¬ k0_cond1 i = 1#1) (hc2 : ¬ k0_cond2 i = 1#1) (hc3 : k0_cond3 i = 1#1) (hc4 : ¬ k0_cond4 i = 1#1) (hc5 : ¬ k0_cond5 i = 1#1) (hc6 : ¬ k0_cond6 i = 1#1)
    (x0 : Vec F S1024x2048 .bf16) (x1 : Vec F S1x1024x2048 .f32) (x2 : Vec F S1x1x1024 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay9 x1 x0) ∗ owns (c : Thread nD τ) arg6 fullShare (k0_pay8 x1)) -∗ K ⟨⟩))
          ⊢ wp frame (wpE (defs₀ (F := F)) Variants.none c none) E (cc0_in_proj i arg2 harg2 arg3 harg3 arg4 harg4 arg5 harg5 arg6 harg6) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; rw [View.read_writes_full]; repeat rw [View.readAt_full]
      simp only [hf0, hf1, hf2]
    iexists _; isplitr; swap; · iexact H4
    ipureintro; rw [View.read_writes_full]; repeat rw [View.readAt_full]
    simp only [hf0, hf1, hf2]

end Cert.ProjIdeal.Proj

end
-- ==== Proof.Proj.ProjIdeal.Run4.lean ====
/- The body of the input projection at the later row block of a query column block. -/
module

public import proofs.«01_k».proof.Proof.Proj.ProjIdeal.Runs
public import Idealize.ShloMosaic.Lib.VecWindow

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the later row block of a query column block. -/
theorem run4 (c : Dev nD) (i : grid0.Coords) (arg2 : Memref sig .tc .vmem S1024x2048 .bf16) (harg2 : arg2.IsWhole) (arg3 : Memref sig .tc .vmem S1x1024x2048 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1024x2048 .bf16) (harg6 : arg6.IsWhole) (hc1 : ¬ k0_cond1 i = 1#1) (hc2 : ¬ k0_cond2 i = 1#1) (hc3 : ¬ k0_cond3 i = 1#1) (hc4 : k0_cond4 i = 1#1) (hc5 : ¬ k0_cond5 i = 1#1) (hc6 : ¬ k0_cond6 i = 1#1)
    (x0 : Vec F S1024x2048 .bf16) (x1 : Vec F S1x1024x2048 .f32) (x2 : Vec F S1x1x1024 .f32) (xs : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare (k0_pay10 xs x0) ∗ owns (c : Thread nD τ) arg6 fullShare (xs)) -∗ K ⟨⟩))
          ⊢ wp frame (wpE (defs₀ (F := F)) Variants.none c none) E (cc0_in_proj i arg2 harg2 arg3 harg3 arg4 harg4 arg5 harg5 arg6 harg6) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; rw [View.read_writes_full]; repeat rw [View.readAt_full]
      simp only [hf0, hf1, hf2, hf4]
    iexists _; isplitr; · ipureintro; exact harg6.read_unread _
    iexact H4

end Cert.ProjIdeal.Proj

end
-- ==== Proof.Proj.ProjIdeal.Run5.lean ====
/- The body of the input projection at the later row block of a gated column block. -/
module

public import proofs.«01_k».proof.Proof.Proj.ProjIdeal.Runs
public import Idealize.ShloMosaic.Lib.VecWindow

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the later row block of a gated column block. -/
theorem run5 (c : Dev nD) (i : grid0.Coords) (arg2 : Memref sig .tc .vmem S1024x2048 .bf16) (harg2 : arg2.IsWhole) (arg3 : Memref sig .tc .vmem S1x1024x2048 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1024x2048 .bf16) (harg6 : arg6.IsWhole) (hc1 : ¬ k0_cond1 i = 1#1) (hc2 : ¬ k0_cond2 i = 1#1) (hc3 : ¬ k0_cond3 i = 1#1) (hc4 : ¬ k0_cond4 i = 1#1) (hc5 : k0_cond5 i = 1#1) (hc6 : ¬ k0_cond6 i = 1#1)
    (x0 : Vec F S1024x2048 .bf16) (x1 : Vec F S1x1024x2048 .f32) (x2 : Vec F S1x1x1024 .f32) (xs : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare (k0_pay11 xs x0 x2) ∗ owns (c : Thread nD τ) arg6 fullShare (xs)) -∗ K ⟨⟩))
          ⊢ wp frame (wpE (defs₀ (F := F)) Variants.none c none) E (cc0_in_proj i arg2 harg2 arg3 harg3 arg4 harg4 arg5 harg5 arg6 harg6) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; rw [View.read_writes_full]; repeat rw [View.readAt_full]
      simp only [hf0, hf1, hf2, hf4]
    iexists _; isplitr; · ipureintro; exact harg6.read_unread _
    iexact H4

end Cert.ProjIdeal.Proj

end
-- ==== Proof.Proj.ProjIdeal.Run6.lean ====
/- The body of the input projection at the later row block of a plain column block. -/
module

public import proofs.«01_k».proof.Proof.Proj.ProjIdeal.Runs
public import Idealize.ShloMosaic.Lib.VecWindow

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the later row block of a plain column block. -/
theorem run6 (c : Dev nD) (i : grid0.Coords) (arg2 : Memref sig .tc .vmem S1024x2048 .bf16) (harg2 : arg2.IsWhole) (arg3 : Memref sig .tc .vmem S1x1024x2048 .f32) (harg3 : arg3.IsWhole) (arg4 : Memref sig .tc .vmem S1x1x1024 .f32) (harg4 : arg4.IsWhole) (arg5 : Memref sig .tc .vmem S1024x1024 .bf16) (harg5 : arg5.IsWhole) (arg6 : Memref sig .tc .vmem S1024x2048 .bf16) (harg6 : arg6.IsWhole) (hc1 : ¬ k0_cond1 i = 1#1) (hc2 : ¬ k0_cond2 i = 1#1) (hc3 : ¬ k0_cond3 i = 1#1) (hc4 : ¬ k0_cond4 i = 1#1) (hc5 : ¬ k0_cond5 i = 1#1) (hc6 : k0_cond6 i = 1#1)
    (x0 : Vec F S1024x2048 .bf16) (x1 : Vec F S1x1024x2048 .f32) (x2 : Vec F S1x1x1024 .f32) (xs : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare (k0_pay12 xs x0) ∗ owns (c : Thread nD τ) arg6 fullShare (xs)) -∗ K ⟨⟩))
          ⊢ wp frame (wpE (defs₀ (F := F)) Variants.none c none) E (cc0_in_proj i arg2 harg2 arg3 harg3 arg4 harg4 arg5 harg5 arg6 harg6) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg2.eq_unread hf0; obtain rfl := harg3.eq_unread hf1; obtain rfl := harg4.eq_unread hf2; obtain rfl := harg6.eq_unread hf4
    sl_exec (disch := first | sl_exact hc1 | sl_exact hc2 | sl_exact hc3 | sl_exact hc4 | sl_exact hc5 | sl_exact hc6)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro; rw [View.read_writes_full]; repeat rw [View.readAt_full]
      simp only [hf0, hf1, hf2, hf4]
    iexists _; isplitr; · ipureintro; exact harg6.read_unread _
    iexact H4

end Cert.ProjIdeal.Proj

end
-- ==== Proof.Proj.ProjIdeal.Frame.lean ====
/- The input projection's launch: what each block of the result holds, the kernel's end, and its frame. -/
module

public import proofs.«01_k».proof.Proof.Proj.ProjIdeal.Run1
public import proofs.«01_k».proof.Proof.Proj.ProjIdeal.Run2
public import proofs.«01_k».proof.Proof.Proj.ProjIdeal.Run3
public import proofs.«01_k».proof.Proof.Proj.ProjIdeal.Run4
public import proofs.«01_k».proof.Proof.Proj.ProjIdeal.Run5
public import proofs.«01_k».proof.Proof.Proj.ProjIdeal.Run6
public import Idealize.ShloMosaic.Lib.Claim

@[expose] public section

set_option maxRecDepth 16384

noncomputable section

namespace Cert.ProjIdeal.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window 0's buffer at point `t`, and that it is whole. -/
abbrev ms0 (t : Fin cfg0.N) : Memref sig .tc .vmem S1024x2048 .bf16 := win0_0.stage (cfg0.slots t 0)
theorem hs0 (t : Fin cfg0.N) : (ms0 t).IsWhole := hstage0_0 ((cfg0.slots t 0).cast nbuf0_0)
/-- Window 1's buffer at point `t`, and that it is whole. -/
abbrev ms1 (t : Fin cfg0.N) : Memref sig .tc .vmem S1x1024x2048 .f32 := win0_1.stage (cfg0.slots t 1)
theorem hs1 (t : Fin cfg0.N) : (ms1 t).IsWhole := hstage0_1 ((cfg0.slots t 1).cast nbuf0_1)
/-- Window 2's buffer at point `t`, and that it is whole. -/
abbrev ms2 (t : Fin cfg0.N) : Memref sig .tc .vmem S1x1x1024 .f32 := win0_2.stage (cfg0.slots t 2)
theorem hs2 (t : Fin cfg0.N) : (ms2 t).IsWhole := hstage0_2 ((cfg0.slots t 2).cast nbuf0_2)
/-- Window 3's buffer at point `t`, and that it is whole. -/
abbrev ms3 (t : Fin cfg0.N) : Memref sig .tc .vmem S1024x1024 .bf16 := win0_3.stage (cfg0.slots t 3)
theorem hs3 (t : Fin cfg0.N) : (ms3 t).IsWhole := hstage0_3 ((cfg0.slots t 3).cast nbuf0_3)
/-- The scratch buffer. -/
abbrev sc : Memref sig .tc .vmem S1024x2048 .bf16 := Memref.whole cc0_scratch0

/-- The launch's own invariant: the scratch at some contents and the generator register. -/
theorem PhiA_eq (c : Dev nD) :
    (Pipeline.ΦA spec0 c : sProp 𝕄) = iprop((∃ d, owns (c : Thread nD τ) sc fullShare d) ∗ (∃ r, prngReg c r)) := by
  unfold Pipeline.ΦA; rw [scopedRest0_eq]; simp only [sc, owns_whole]; try rfl

/-- The first row block of position `n`'s column block: where its weights are cast. -/
def col (n : ℕ) (hn : n < cfg0.N) : Fin cfg0.N := ⟨n - n % 8, Nat.lt_of_le_of_lt (Nat.sub_le _ _) hn⟩

theorem col_first (t : Fin cfg0.N) (h : t.val % 8 = 0) : col t.val t.isLt = t := Fin.ext (by show t.val - t.val % 8 = t.val; omega)

theorem col_later (n : ℕ) (hn : n < cfg0.N) (h : 1 ≤ n % 8) : col (n - 1) (Nat.lt_of_le_of_lt (Nat.sub_le _ _) hn) = col n hn :=
  Fin.ext (by show n - 1 - (n - 1) % 8 = n - n % 8; omega)

/-- The weights cast for position `n`'s column block: what the scratch holds after it. -/
def wcol (c : Dev nD) (n : ℕ) (hn : n < cfg0.N) : Vec F S1024x2048 .bf16 := k0_pay2 (iblk m c 1 (col n hn))

theorem wcol_first (c : Dev nD) (t : Fin cfg0.N) (h : t.val % 8 = 0) : wcol m c t.val t.isLt = k0_pay2 (iblk m c 1 t) := by
  rw [wcol, col_first t h]

theorem wcol_later (c : Dev nD) (n : ℕ) (hn : n < cfg0.N) (h : 1 ≤ n % 8) :
    wcol m c (n - 1) (Nat.lt_of_le_of_lt (Nat.sub_le _ _) hn) = wcol m c n hn := by rw [wcol, col_later n hn h, wcol]

/-- What the body leaves in the result's buffer at point `t`. -/
def res (c : Dev nD) (t : Fin cfg0.N) : Vec F S1024x1024 .bf16 :=
  if t.val % 8 = 0 then
    if t.val / 8 < 1 then k0_pay3 (iblk m c 1 t) (iblk m c 0 t)
    else if 4 ≤ t.val / 8 ∧ t.val / 8 < 6 then k0_pay6 (iblk m c 1 t) (iblk m c 0 t) (iblk m c 2 t)
    else k0_pay9 (iblk m c 1 t) (iblk m c 0 t)
  else
    if t.val / 8 < 1 then k0_pay10 (wcol m c t.val t.isLt) (iblk m c 0 t)
    else if 4 ≤ t.val / 8 ∧ t.val / 8 < 6 then k0_pay11 (wcol m c t.val t.isLt) (iblk m c 0 t) (iblk m c 2 t)
    else k0_pay12 (wcol m c t.val t.isLt) (iblk m c 0 t)

/-- The invariant before position `n`: the scratch at the weights cast last. -/
def PhiS (c : Dev nD) : (n : ℕ) → n ≤ cfg0.N → sProp 𝕄
  | 0, _ => Pipeline.ΦA spec0 c
  | n + 1, hn => iprop(owns (c : Thread nD τ) sc fullShare (wcol m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) sc fullShare (wcol m c n hn) ∗ (∃ r, prngReg c r)) := rfl

theorem PhiS_pos (c : Dev nD) (n : ℕ) (h : n ≤ cfg0.N) (hz : n ≠ 0) :
    PhiS m c n h = iprop(owns (c : Thread nD τ) sc fullShare (wcol m c (n - 1) (by omega)) ∗ (∃ r, prngReg c r)) := by
  cases n with
  | zero => exact absurd rfl hz
  | succ n => rfl

/-- Whatever the position, the scratch holds something. -/
theorem PhiS_any (c : Dev nD) (n : ℕ) (h : n ≤ cfg0.N) : PhiS m c n h ⊢ Pipeline.ΦA spec0 c := by
  by_cases hz : n = 0
  · rw [PhiS_zero m c n h hz]
    try exact Idealize.SL.BI.Entails.refl _
  · rw [PhiS_pos m c n h hz, PhiA_eq]
    iintro ⟨HS, Hg⟩
    isplitl [HS]
    · iexists _; iexact HS
    iexact Hg

theorem PhiS_start (c : Dev nD) (n : ℕ) (h : n ≤ cfg0.N) {R Q : sProp 𝕄} (hq : iprop(Pipeline.ΦA spec0 c ∗ R) ⊢ Q) :
    iprop(PhiS m c n h ∗ R) ⊢ Q :=
  Idealize.SL.BI.Entails.trans (Idealize.SL.BI.Laws.sep_mono (PhiS_any m c n h) (Idealize.SL.BI.Entails.refl _)) hq

/-- The proof data: the arrays as they stand at entry, each operand's buffer left at its block, the result's at `res`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => res m c t
  Φ t := PhiS m c t.val (Nat.le_of_lt_succ t.isLt)
  q _ := fullShare
  owed _ := 0

/-- The arrays are those at entry. -/
theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0's buffer. -/
theorem after0_0 (c : Dev nD) (t : Fin cfg0.N) : (dats m 0 c).after 0 t = iblk m c 0 t := by dsimp only [dats]
/-- What it finds there. -/
theorem before0_0 (c : Dev nD) (t : Fin cfg0.N) (d) : (dats m 0 c).before 0 t d = iblk m c 0 t :=
  before0_0_of m (dats m 0 c) (A_eq m c 0) (after0_0 m c) t d
/-- What the body hands back for window 0. -/
theorem leaves0_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [show cfg0.idle 0 (grid0.coords t) = false from rfl], after0_0]
/-- What the body leaves in window 1's buffer. -/
theorem after0_1 (c : Dev nD) (t : Fin cfg0.N) : (dats m 0 c).after 1 t = iblk m c 1 t := by dsimp only [dats]
/-- What it finds there. -/
theorem before0_1 (c : Dev nD) (t : Fin cfg0.N) (d) : (dats m 0 c).before 1 t d = iblk m c 1 t :=
  before0_1_of m (dats m 0 c) (A_eq m c 1) (after0_1 m c) t d
/-- What the body hands back for window 1. -/
theorem leaves0_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [show cfg0.idle 1 (grid0.coords t) = false from rfl], after0_1]
/-- What the body leaves in window 2's buffer. -/
theorem after0_2 (c : Dev nD) (t : Fin cfg0.N) : (dats m 0 c).after 2 t = iblk m c 2 t := by dsimp only [dats]
/-- What it finds there. -/
theorem before0_2 (c : Dev nD) (t : Fin cfg0.N) (d) : (dats m 0 c).before 2 t d = iblk m c 2 t :=
  before0_2_of m (dats m 0 c) (A_eq m c 2) (after0_2 m c) t d
/-- What the body hands back for window 2. -/
theorem leaves0_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [show cfg0.idle 2 (grid0.coords t) = false from rfl], after0_2]
/-- What the body leaves in window 3's buffer. -/
theorem after0_3 (c : Dev nD) (t : Fin cfg0.N) : (dats m 0 c).after 3 t = res m c t := by dsimp only [dats]
/-- Every point writes the result's block. -/
theorem live3 : ∀ t : Fin cfg0.N, cfg0.idle 3 (grid0.coords t) = false :=
  (by decide +kernel : ∀ t : Fin grid0.N, cfg0.idle 3 (grid0.coords t) = false)
/-- What the body hands back for window 3. -/
theorem leaves0_3 (c : Dev nD) (t : Fin cfg0.N) : (dats m 0 c).leavesExact 3 t = owns (c : Thread nD τ) (ms3 t) fullShare (res m c t) := by
  rw [show (dats m 0 c).leavesExact 3 t = owns (c : Thread nD τ) (ms3 t) fullShare ((dats m 0 c).after 3 t) from by
    unfold Dat.leavesExact; rw [show cfg0.idle 3 (grid0.coords t) = false from live3 t], after0_3]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 3200000 in
/-- The body at any point, by the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, leaves0_0, leaves0_1, leaves0_2, leaves0_3]
  rw [show (dats m 0 c).owesAt () t.succ = (dats m 0 c).owesAt () t.castSucc from rfl]
  rw [show (dats m 0 c).Φ t.succ = PhiS m c (t.val + 1) t.isLt from rfl, PhiS_succ, Phi_castSucc]
  by_cases h0 : t.val % 8 = 0
  · refine PhiS_start m c _ _ ?_
    rw [PhiA_eq, wcol_first m c t h0]
    by_cases h1 : t.val / 8 < 1
    · have hr : res m c t = k0_pay3 (iblk m c 1 t) (iblk m c 0 t) := by simp only [res]; rw [if_pos h0, if_pos h1]
      rw [hr]
      iintro ⟨⟨HS, Hg⟩, Ho, ⟨%d0, H0⟩, ⟨%d1, H1⟩, ⟨%d2, H2⟩, ⟨%d3, H3⟩⟩
      iapply ((run1 c (grid0.coords t) _ _ _ _ _ _ _ _ _ _ ((hcond1 t).mpr (by omega)) (fun h => absurd ((hcond2 t).mp h) (by omega)) (fun h => absurd ((hcond3 t).mp h) (by omega)) (fun h => absurd ((hcond4 t).mp h) (by omega)) (fun h => absurd ((hcond5 t).mp h) (by omega)) (fun h => absurd ((hcond6 t).mp h) (by omega)) (iblk m c 0 t) (iblk m c 1 t) (iblk m c 2 t)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    by_cases h2 : 4 ≤ t.val / 8 ∧ t.val / 8 < 6
    · have hr : res m c t = k0_pay6 (iblk m c 1 t) (iblk m c 0 t) (iblk m c 2 t) := by simp only [res]; rw [if_pos h0, if_neg h1, if_pos h2]
      rw [hr]
      iintro ⟨⟨HS, Hg⟩, Ho, ⟨%d0, H0⟩, ⟨%d1, H1⟩, ⟨%d2, H2⟩, ⟨%d3, H3⟩⟩
      iapply ((run2 c (grid0.coords t) _ _ _ _ _ _ _ _ _ _ (fun h => absurd ((hcond1 t).mp h) (by omega)) ((hcond2 t).mpr (by omega)) (fun h => absurd ((hcond3 t).mp h) (by omega)) (fun h => absurd ((hcond4 t).mp h) (by omega)) (fun h => absurd ((hcond5 t).mp h) (by omega)) (fun h => absurd ((hcond6 t).mp h) (by omega)) (iblk m c 0 t) (iblk m c 1 t) (iblk m c 2 t)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    have hr : res m c t = k0_pay9 (iblk m c 1 t) (iblk m c 0 t) := by simp only [res]; rw [if_pos h0, if_neg h1, if_neg h2]
    rw [hr]
    iintro ⟨⟨HS, Hg⟩, Ho, ⟨%d0, H0⟩, ⟨%d1, H1⟩, ⟨%d2, H2⟩, ⟨%d3, H3⟩⟩
    iapply ((run3 c (grid0.coords t) _ _ _ _ _ _ _ _ _ _ (fun h => absurd ((hcond1 t).mp h) (by omega)) (fun h => absurd ((hcond2 t).mp h) (by omega)) ((hcond3 t).mpr (by omega)) (fun h => absurd ((hcond4 t).mp h) (by omega)) (fun h => absurd ((hcond5 t).mp h) (by omega)) (fun h => absurd ((hcond6 t).mp h) (by omega)) (iblk m c 0 t) (iblk m c 1 t) (iblk m c 2 t)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3
  · rw [PhiS_pos m c _ _ (by omega), wcol_later m c t.val t.isLt (by omega)]
    by_cases h1 : t.val / 8 < 1
    · have hr : res m c t = k0_pay10 (wcol m c t.val t.isLt) (iblk m c 0 t) := by simp only [res]; rw [if_neg h0, if_pos h1]
      rw [hr]
      iintro ⟨⟨HS, Hg⟩, Ho, ⟨%d0, H0⟩, ⟨%d1, H1⟩, ⟨%d2, H2⟩, ⟨%d3, H3⟩⟩
      iapply ((run4 c (grid0.coords t) _ _ _ _ _ _ _ _ _ _ (fun h => absurd ((hcond1 t).mp h) (by omega)) (fun h => absurd ((hcond2 t).mp h) (by omega)) (fun h => absurd ((hcond3 t).mp h) (by omega)) ((hcond4 t).mpr (by omega)) (fun h => absurd ((hcond5 t).mp h) (by omega)) (fun h => absurd ((hcond6 t).mp h) (by omega)) (iblk m c 0 t) (iblk m c 1 t) (iblk m c 2 t) (wcol m c t.val t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    by_cases h2 : 4 ≤ t.val / 8 ∧ t.val / 8 < 6
    · have hr : res m c t = k0_pay11 (wcol m c t.val t.isLt) (iblk m c 0 t) (iblk m c 2 t) := by simp only [res]; rw [if_neg h0, if_neg h1, if_pos h2]
      rw [hr]
      iintro ⟨⟨HS, Hg⟩, Ho, ⟨%d0, H0⟩, ⟨%d1, H1⟩, ⟨%d2, H2⟩, ⟨%d3, H3⟩⟩
      iapply ((run5 c (grid0.coords t) _ _ _ _ _ _ _ _ _ _ (fun h => absurd ((hcond1 t).mp h) (by omega)) (fun h => absurd ((hcond2 t).mp h) (by omega)) (fun h => absurd ((hcond3 t).mp h) (by omega)) (fun h => absurd ((hcond4 t).mp h) (by omega)) ((hcond5 t).mpr (by omega)) (fun h => absurd ((hcond6 t).mp h) (by omega)) (iblk m c 0 t) (iblk m c 1 t) (iblk m c 2 t) (wcol m c t.val t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    have hr : res m c t = k0_pay12 (wcol m c t.val t.isLt) (iblk m c 0 t) := by simp only [res]; rw [if_neg h0, if_neg h1, if_neg h2]
    rw [hr]
    iintro ⟨⟨HS, Hg⟩, Ho, ⟨%d0, H0⟩, ⟨%d1, H1⟩, ⟨%d2, H2⟩, ⟨%d3, H3⟩⟩
    iapply ((run6 c (grid0.coords t) _ _ _ _ _ _ _ _ _ _ (fun h => absurd ((hcond1 t).mp h) (by omega)) (fun h => absurd ((hcond2 t).mp h) (by omega)) (fun h => absurd ((hcond3 t).mp h) (by omega)) (fun h => absurd ((hcond4 t).mp h) (by omega)) (fun h => absurd ((hcond5 t).mp h) (by omega)) ((hcond6 t).mpr (by omega)) (iblk m c 0 t) (iblk m c 1 t) (iblk m c 2 t) (wcol m c t.val t.isLt)) Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]; · iexact HS
      iexact Hg
    isplitl [Ho]; · iexact Ho
    isplitl [H0]; · iexact H0
    isplitl [H1]; · iexact H1
    isplitl [H2]; · iexact H2
    iexact H3

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

set_option backward.isDefEq.respectTransparency.types false in
/-- The launch: it ends, every array as the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.ProjIdeal.Proj

end
-- ==== Proof.Proj.Value.lean ====
/- The input projection, what the call computes: the array after the run is the reference's term of the arguments.
   The cast weight block is kept in scratch over the eight row blocks of a column block. -/
module
public import proofs.«01_k».proof.Proof.Proj.ProjIdeal.Frame
public import proofs.«01_k».proof.Proof.Gen.ProjRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)

namespace Cert.ProjIdeal.Val
open Cert.ProjIdeal Cert.ProjIdeal.Gen Cert.ProjIdeal.Proj
variable (m : (ℓ : Loc nD τ sig) → Buf (Elt Ideal) ℓ)

/-- The reference's term over the three arguments. -/
abbrev REF (X : FVec Ideal S8192x2048 .bf16) (W : FVec Ideal S4x2048x11296 .f32) (G : FVec Ideal S4x2048 .f32) : FVec Ideal S8192x11264 .bf16 :=
  truncf .bf16 ((concatenate Cert.ProjRefIdeal.S8192x11264 1 [⟨Cert.ProjRefIdeal.S8192x1024, ((mulf (extractStridedSlice Cert.ProjRefIdeal.S8192x1024 ![0, 0] (Host.dotGeneral Cert.ProjRefIdeal.dot_S8192x2048_S2048x11296_S8192x11296_1_0_0_1_n_n none (extf .f32 X Cert.ProjRefIdeal.Gen.bitsLt_bf16_f32) (shapeCast _ (extractStridedSlice Cert.ProjRefIdeal.S1x2048x11296 ![0, 0, 0] W Cert.ProjRefIdeal.Gen.slices_S4x2048x11296_S1x2048x11296_0_0_0) Cert.ProjRefIdeal.Gen.shapeCasts_S1x2048x11296_S2048x11296)) Cert.ProjRefIdeal.Gen.slices_S8192x11296_S8192x1024_0_0) (broadcastInDim Cert.ProjRefIdeal.S8192x1024 ![] Cert.ProjRefIdeal.Gen.bcast_S_S8192x1024 (constant Cert.ProjRefIdeal.S_ .f32 0x3D800000#32))) : (⟨Cert.ProjRefIdeal.S8192x1024, .f32⟩ : BufTy).Contents (Elt Ideal))⟩, ⟨Cert.ProjRefIdeal.S8192x1024, ((extractStridedSlice Cert.ProjRefIdeal.S8192x1024 ![0, 1024] (Host.dotGeneral Cert.ProjRefIdeal.dot_S8192x2048_S2048x11296_S8192x11296_1_0_0_1_n_n none (extf .f32 X Cert.ProjRefIdeal.Gen.bitsLt_bf16_f32) (shapeCast _ (extractStridedSlice Cert.ProjRefIdeal.S1x2048x11296 ![0, 0, 0] W Cert.ProjRefIdeal.Gen.slices_S4x2048x11296_S1x2048x11296_0_0_0) Cert.ProjRefIdeal.Gen.shapeCasts_S1x2048x11296_S2048x11296)) Cert.ProjRefIdeal.Gen.slices_S8192x11296_S8192x1024_0_1024) : (⟨Cert.ProjRefIdeal.S8192x1024, .f32⟩ : BufTy).Contents (Elt Ideal))⟩, ⟨Cert.ProjRefIdeal.S8192x2048, ((extractStridedSlice Cert.ProjRefIdeal.S8192x2048 ![0, 2048] (Host.dotGeneral Cert.ProjRefIdeal.dot_S8192x2048_S2048x11296_S8192x11296_1_0_0_1_n_n none (extf .f32 X Cert.ProjRefIdeal.Gen.bitsLt_bf16_f32) (shapeCast _ (extractStridedSlice Cert.ProjRefIdeal.S1x2048x11296 ![0, 0, 0] W Cert.ProjRefIdeal.Gen.slices_S4x2048x11296_S1x2048x11296_0_0_0) Cert.ProjRefIdeal.Gen.shapeCasts_S1x2048x11296_S2048x11296)) Cert.ProjRefIdeal.Gen.slices_S8192x11296_S8192x2048_0_2048) : (⟨Cert.ProjRefIdeal.S8192x2048, .f32⟩ : BufTy).Contents (Elt Ideal))⟩, ⟨Cert.ProjRefIdeal.S8192x2048, ((mulf (broadcastInDim Cert.ProjRefIdeal.S8192x2048 ![0, 1] Cert.ProjRefIdeal.Gen.bcast_S1x2048_S8192x2048_0_1 (broadcastInDim Cert.ProjRefIdeal.S1x2048 ![1] Cert.ProjRefIdeal.Gen.bcast_S2048_S1x2048_1 (shapeCast _ (extractStridedSlice Cert.ProjRefIdeal.S1x2048 ![0, 0] G Cert.ProjRefIdeal.Gen.slices_S4x2048_S1x2048_0_0) Cert.ProjRefIdeal.Gen.shapeCasts_S1x2048_S2048))) (mulf (extractStridedSlice Cert.ProjRefIdeal.S8192x2048 ![0, 4096] (Host.dotGeneral Cert.ProjRefIdeal.dot_S8192x2048_S2048x11296_S8192x11296_1_0_0_1_n_n none (extf .f32 X Cert.ProjRefIdeal.Gen.bitsLt_bf16_f32) (shapeCast _ (extractStridedSlice Cert.ProjRefIdeal.S1x2048x11296 ![0, 0, 0] W Cert.ProjRefIdeal.Gen.slices_S4x2048x11296_S1x2048x11296_0_0_0) Cert.ProjRefIdeal.Gen.shapeCasts_S1x2048x11296_S2048x11296)) Cert.ProjRefIdeal.Gen.slices_S8192x11296_S8192x2048_0_4096) (Host.divf (broadcastInDim Cert.ProjRefIdeal.S8192x2048 ![] Cert.ProjRefIdeal.Gen.bcast_S_S8192x2048 (constant Cert.ProjRefIdeal.S_ .f32 0x3F800000#32)) (addf (broadcastInDim Cert.ProjRefIdeal.S8192x2048 ![] Cert.ProjRefIdeal.Gen.bcast_S_S8192x2048 (constant Cert.ProjRefIdeal.S_ .f32 0x3F800000#32)) (Host.exp (Host.negf (extractStridedSlice Cert.ProjRefIdeal.S8192x2048 ![0, 4096] (Host.dotGeneral Cert.ProjRefIdeal.dot_S8192x2048_S2048x11296_S8192x11296_1_0_0_1_n_n none (extf .f32 X Cert.ProjRefIdeal.Gen.bitsLt_bf16_f32) (shapeCast _ (extractStridedSlice Cert.ProjRefIdeal.S1x2048x11296 ![0, 0, 0] W Cert.ProjRefIdeal.Gen.slices_S4x2048x11296_S1x2048x11296_0_0_0) Cert.ProjRefIdeal.Gen.shapeCasts_S1x2048x11296_S2048x11296)) Cert.ProjRefIdeal.Gen.slices_S8192x11296_S8192x2048_0_4096))))))) : (⟨Cert.ProjRefIdeal.S8192x2048, .f32⟩ : BufTy).Contents (Elt Ideal))⟩, ⟨Cert.ProjRefIdeal.S8192x1024, ((extractStridedSlice Cert.ProjRefIdeal.S8192x1024 ![0, 6176] (Host.dotGeneral Cert.ProjRefIdeal.dot_S8192x2048_S2048x11296_S8192x11296_1_0_0_1_n_n none (extf .f32 X Cert.ProjRefIdeal.Gen.bitsLt_bf16_f32) (shapeCast _ (extractStridedSlice Cert.ProjRefIdeal.S1x2048x11296 ![0, 0, 0] W Cert.ProjRefIdeal.Gen.slices_S4x2048x11296_S1x2048x11296_0_0_0) Cert.ProjRefIdeal.Gen.shapeCasts_S1x2048x11296_S2048x11296)) Cert.ProjRefIdeal.Gen.slices_S8192x11296_S8192x1024_0_6176) : (⟨Cert.ProjRefIdeal.S8192x1024, .f32⟩ : BufTy).Contents (Elt Ideal))⟩, ⟨Cert.ProjRefIdeal.S8192x4096, ((extractStridedSlice Cert.ProjRefIdeal.S8192x4096 ![0, 7200] (Host.dotGeneral Cert.ProjRefIdeal.dot_S8192x2048_S2048x11296_S8192x11296_1_0_0_1_n_n none (extf .f32 X Cert.ProjRefIdeal.Gen.bitsLt_bf16_f32) (shapeCast _ (extractStridedSlice Cert.ProjRefIdeal.S1x2048x11296 ![0, 0, 0] W Cert.ProjRefIdeal.Gen.slices_S4x2048x11296_S1x2048x11296_0_0_0) Cert.ProjRefIdeal.Gen.shapeCasts_S1x2048x11296_S2048x11296)) Cert.ProjRefIdeal.Gen.slices_S8192x11296_S8192x4096_0_7200) : (⟨Cert.ProjRefIdeal.S8192x4096, .f32⟩ : BufTy).Contents (Elt Ideal))⟩] Cert.ProjRefIdeal.Gen.concatenates_S8192x1024_S8192x1024_S8192x2048_S8192x2048_S8192x1024_S8192x4096_S8192x11264_d1 : (⟨Cert.ProjRefIdeal.S8192x11264, .f32⟩ : BufTy).Contents (Elt Ideal))) Cert.ProjRefIdeal.Gen.bitsLt_bf16_f32

/-- The reference at a query column. -/
theorem REF_q (X : FVec Ideal S8192x2048 .bf16) (W : FVec Ideal S4x2048x11296 .f32) (G : FVec Ideal S4x2048 .f32) (r : Fin 8192) (n : Fin 11264)
    (p : Fin 11296) (h : n.val < 1024) (hp : p.val = n.val) :
    REF X W G (ix2 r n) = (∑ x : Fin 2048, X (ix2 r x) * W (ix3 0 x p)) * Ideal.ofBits .f32 0x3D800000#32 := by
  pointwise [REF]
  have e : (⟨n.val, by omega⟩ : Fin 11296) = p := Fin.ext hp.symm
  rw [dif_pos h]
  exact congrArg (fun q => (∑ x : Fin 2048, X (ix2 r x) * W (ix3 0 x q)) * Ideal.ofBits .f32 0x3D800000#32) e

/-- The reference at a gated column. -/
theorem REF_g (X : FVec Ideal S8192x2048 .bf16) (W : FVec Ideal S4x2048x11296 .f32) (G : FVec Ideal S4x2048 .f32) (r : Fin 8192) (n : Fin 11264)
    (p : Fin 11296) (g : Fin 2048) (h : 4096 ≤ n.val ∧ n.val < 6144) (hp : p.val = n.val) (hg : g.val = n.val - 4096) :
    REF X W G (ix2 r n) = G (ix2 0 g) * ((∑ x : Fin 2048, X (ix2 r x) * W (ix3 0 x p)) * Ideal.div 1 (1 + Ideal.exp (-(∑ x : Fin 2048, X (ix2 r x) * W (ix3 0 x p))))) := by
  pointwise [REF]
  obtain ⟨h0, h1⟩ := h
  rw [dif_neg (by omega), dif_neg (by omega), dif_neg (by omega), dif_pos (by omega)]
  have e : (⟨4096 + (n.val - 1024 - 1024 - 2048), by omega⟩ : Fin 11296) = p := Fin.ext (by show 4096 + (n.val - 1024 - 1024 - 2048) = p.val; omega)
  have e' : (⟨n.val - 1024 - 1024 - 2048, by omega⟩ : Fin 2048) = g := Fin.ext (by show n.val - 1024 - 1024 - 2048 = g.val; omega)
  exact congrArg₂ (fun q g => G (ix2 0 g) * ((∑ x : Fin 2048, X (ix2 r x) * W (ix3 0 x q)) * Ideal.div 1 (1 + Ideal.exp (-(∑ x : Fin 2048, X (ix2 r x) * W (ix3 0 x q)))))) e e'

/-- The reference at a plain column. -/
theorem REF_p (X : FVec Ideal S8192x2048 .bf16) (W : FVec Ideal S4x2048x11296 .f32) (G : FVec Ideal S4x2048 .f32) (r : Fin 8192) (n : Fin 11264)
    (p : Fin 11296) (h : 1024 ≤ n.val ∧ n.val < 4096 ∧ p.val = n.val ∨ 6144 ≤ n.val ∧ p.val = n.val + 32) :
    REF X W G (ix2 r n) = (∑ x : Fin 2048, X (ix2 r x) * W (ix3 0 x p)) := by
  pointwise [REF]
  rw [dif_neg (by omega)]
  by_cases h1 : n.val < 2048
  · have e : (⟨1024 + (n.val - 1024), by omega⟩ : Fin 11296) = p := Fin.ext (by show 1024 + (n.val - 1024) = p.val; omega)
    rw [dif_pos (by omega)]
    exact congrArg (fun q => (∑ x : Fin 2048, X (ix2 r x) * W (ix3 0 x q))) e
  by_cases h2 : n.val < 4096
  · have e : (⟨2048 + (n.val - 1024 - 1024), by omega⟩ : Fin 11296) = p := Fin.ext (by show 2048 + (n.val - 1024 - 1024) = p.val; omega)
    rw [dif_neg (by omega), dif_pos (by omega)]
    exact congrArg (fun q => (∑ x : Fin 2048, X (ix2 r x) * W (ix3 0 x q))) e
  by_cases h3 : n.val < 7168
  · have e0 : 6176 + (n.val - 1024 - 1024 - 2048 - 2048) = p.val := by omega
    have e : (⟨6176 + (n.val - 1024 - 1024 - 2048 - 2048), by omega⟩ : Fin 11296) = p := Fin.ext e0
    rw [dif_neg (by omega), dif_neg (by omega), dif_neg (by omega), dif_pos (by omega)]
    exact congrArg (fun q => (∑ x : Fin 2048, X (ix2 r x) * W (ix3 0 x q))) e
  · have e0 : 7200 + (n.val - 1024 - 1024 - 2048 - 2048 - 1024) = p.val := by omega
    have e : (⟨7200 + (n.val - 1024 - 1024 - 2048 - 2048 - 1024), by omega⟩ : Fin 11296) = p := Fin.ext e0
    rw [dif_neg (by omega), dif_neg (by omega), dif_neg (by omega), dif_neg (by omega)]
    exact congrArg (fun q => (∑ x : Fin 2048, X (ix2 r x) * W (ix3 0 x q))) e

/-- The windows' block indices: the column block is the point's number over 8, the row block the rest. The weights'
    rows are counted one by one, and skip the 32 rows of the gate's low-rank part. -/
theorem idx : ∀ t : Fin cfg0.N, win0_0.index t = ![t.val % 8, 0]
    ∧ win0_1.index t = ![0, 1024 * (t.val / 8) + (if 6 ≤ t.val / 8 then 32 else 0), 0]
    ∧ win0_2.index t = ![0, 0, if t.val / 8 < 5 then 0 else 1] ∧ win0_3.index t = ![t.val % 8, t.val / 8] :=
  (by decide +kernel : ∀ t : Fin grid0.N, _)

/-- An entry of the weight block, in the layer's weights. -/
theorem wread (c : Dev nD) (t : Fin cfg0.N) (j : Fin 1024) (k : Fin 2048) (n : Fin 11296)
    (hn : n.val = 1024 * (t.val / 8) + (if 6 ≤ t.val / 8 then 32 else 0) + j.val) :
    iblk m c 1 t (ix3 0 j k) = m ((c : Thread nD τ).loc main_arg1) (ix3 0 k n) := by
  have e : ((cfg0.win 1).blk t).view.emb (ix3 0 j k) = (ix3 0 n k : S4x11296x2048.Idx) := by
    funext a
    apply Fin.ext
    refine (Pipeline.Window.rect_emb_val_off win0_1 t (ix3 0 j k) a).trans ?_
    rw [(idx t).2.1]
    fin_cases a
    · rfl
    · exact hn.symm
    · exact Nat.zero_add _
  show V m c main_v0 (((cfg0.win 1).blk t).view.emb (ix3 0 j k)) = _
  rw [e]
  entry_read
  pointwise

/-- The weights' column that entry `j` of point `t`'s weight block is taken from. -/
def wcolumn (t : Fin cfg0.N) (j : Fin 1024) : Fin 11296 :=
  ⟨1024 * (t.val / 8) + (if 6 ≤ t.val / 8 then 32 else 0) + j.val, by
    have hN : t.val < 88 := lt_of_lt_of_eq t.isLt (show cfg0.N = 88 from N_0)
    split <;> omega⟩

theorem wread' (c : Dev nD) (t : Fin cfg0.N) (j : Fin 1024) (k : Fin 2048) :
    iblk m c 1 t (ix3 0 j k) = m ((c : Thread nD τ).loc main_arg1) (ix3 0 k (wcolumn t j)) := wread m c t j k _ rfl

/-- The row and the column of the result that entry `y` of point `t`'s block is. -/
def row (t : Fin cfg0.N) (i : Fin 1024) : Fin 8192 := ⟨1024 * (t.val % 8) + i.val, by omega⟩
def column (t : Fin cfg0.N) (j : Fin 1024) : Fin 11264 :=
  ⟨1024 * (t.val / 8) + j.val, by
    have hN : t.val < 88 := lt_of_lt_of_eq t.isLt (show cfg0.N = 88 from N_0)
    omega⟩

theorem place (t : Fin cfg0.N) (i j : Fin 1024) : ((cfg0.win 3).blk t).view.emb (ix2 i j) = (ix2 (row t i) (column t j) : S8192x11264.Idx) := by
  funext a
  apply Fin.ext
  refine (Pipeline.Window.rect_emb_val win0_3 t (ix2 i j) a).trans ?_
  rw [(idx t).2.2.2]
  fin_cases a
  · exact congrArg (· + i.val) (Nat.mul_comm _ _)
  · exact congrArg (· + j.val) (Nat.mul_comm _ _)

theorem hread (c : Dev nD) (t : Fin cfg0.N) (i : Fin 1024) (k : Fin 2048) :
    iblk m c 0 t (ix2 i k) = m ((c : Thread nD τ).loc main_arg0) (ix2 (row t i) k) := by
  blk_ext [iblk, V_main_arg0, idx t, row]

/-- The weight block of the column block's first point is the point's own. -/
theorem same (c : Dev nD) (t : Fin cfg0.N) : iblk m c 1 (col t.val t.isLt) = iblk m c 1 t := by
  funext y
  have e : (col t.val t.isLt).val / 8 = t.val / 8 := by show (t.val - t.val % 8) / 8 = t.val / 8; omega
  obtain ⟨i, j, k, rfl⟩ : ∃ (i : Fin 1) (j : Fin 1024) (k : Fin 2048), y = (ix3 i j k : S1x1024x2048.Idx) :=
    ⟨y 0, y 1, y 2, by funext a; fin_cases a <;> rfl⟩
  obtain rfl : i = 0 := Subsingleton.elim _ _
  refine (wread' m c _ j k).trans (Eq.trans ?_ (wread' m c t j k).symm)
  rw [wcolumn, wcolumn]
  simp only [e]

variable (c : Dev nD) (t : Fin cfg0.N)
/-- The reference's term of the run's arguments. -/
abbrev RT : FVec Ideal S8192x11264 .bf16 :=
  REF (m ((c : Thread nD τ).loc main_arg0)) (m ((c : Thread nD τ).loc main_arg1)) (m ((c : Thread nD τ).loc main_arg2))

/-- A query column block: the product over sixteen. -/
theorem point_q (h : t.val / 8 < 1) (i j : Fin 1024) : k0_pay3 (iblk m c 1 t) (iblk m c 0 t) (ix2 i j)
    = RT m c (((cfg0.win 3).blk t).view.emb (ix2 i j)) := by
  have h1 : (column t j).val < 1024 := by show 1024 * (t.val / 8) + j.val < 1024; have := j.isLt; omega
  have h2 : (wcolumn t j).val = (column t j).val := by
    show 1024 * (t.val / 8) + (if 6 ≤ t.val / 8 then 32 else 0) + j.val = 1024 * (t.val / 8) + j.val
    rw [if_neg (by omega)]
    rfl
  rw [place, RT, REF_q _ _ _ _ _ (wcolumn t j) h1 h2]
  pointwise [k0_pay3, k0_pay1]
  simp only [hread, wread']

/-- A gated column block: the product's SiLU times the gain. -/
theorem point_g (h : 4 ≤ t.val / 8 ∧ t.val / 8 < 6) (i j : Fin 1024) : k0_pay6 (iblk m c 1 t) (iblk m c 0 t) (iblk m c 2 t) (ix2 i j)
    = RT m c (((cfg0.win 3).blk t).view.emb (ix2 i j)) := by
  have hy := j.isLt
  have h1 : 4096 ≤ (column t j).val ∧ (column t j).val < 6144 := by
    show 4096 ≤ 1024 * (t.val / 8) + j.val ∧ 1024 * (t.val / 8) + j.val < 6144
    have hy : j.val < 1024 := j.isLt
    omega
  have h2 : (wcolumn t j).val = (column t j).val := by
    show 1024 * (t.val / 8) + (if 6 ≤ t.val / 8 then 32 else 0) + j.val = 1024 * (t.val / 8) + j.val
    rw [if_neg (by omega)]
    rfl
  rw [place, RT, REF_g _ _ _ _ _ (wcolumn t j) ⟨(column t j).val - 4096, by omega⟩ h1 h2 rfl]
  have hg : iblk m c 2 t (ix3 0 0 j) = m ((c : Thread nD τ).loc main_arg2) (ix2 0 ⟨(column t j).val - 4096, by omega⟩) := by
    have e : (column t j).val = 1024 * (t.val / 8) + j.val := rfl
    blk_point [iblk, idx t]
    split <;> omega
  pointwise [k0_pay6, k0_pay4]
  unfold Ideal.logistic
  simp only [hread, wread', hg]
  rw [mul_comm]

/-- A plain column block: the product. -/
theorem point_p (h : 1 ≤ t.val / 8 ∧ t.val / 8 < 4 ∨ 6 ≤ t.val / 8) (i j : Fin 1024) : k0_pay9 (iblk m c 1 t) (iblk m c 0 t) (ix2 i j)
    = RT m c (((cfg0.win 3).blk t).view.emb (ix2 i j)) := by
  have h1 : 1024 ≤ (column t j).val ∧ (column t j).val < 4096 ∧ (wcolumn t j).val = (column t j).val
      ∨ 6144 ≤ (column t j).val ∧ (wcolumn t j).val = (column t j).val + 32 := by
    have hy : j.val < 1024 := j.isLt
    have e : (column t j).val = 1024 * (t.val / 8) + j.val := rfl
    have e' : (wcolumn t j).val = 1024 * (t.val / 8) + (if 6 ≤ t.val / 8 then 32 else 0) + j.val := rfl
    split_ifs at e' <;> omega
  rw [place, RT, REF_p _ _ _ _ _ (wcolumn t j) h1]
  pointwise [k0_pay9, k0_pay7]
  simp only [hread, wread']

/-- The result array after the run. -/
theorem final (c : Dev nD) : (dats m 0 c).arrAt 3 (cfgs 0).N = RT m c := by
  refine (dats m 0 c).arrAt_eq_of_covers 3 _ (by decide +kernel) fun t _ y => ?_
  blk_simp
  rw [after0_3, res, wcol, same]
  obtain ⟨i, j, rfl⟩ : ∃ (i j : Fin 1024), y = (ix2 i j : S1024x1024.Idx) := ⟨y 0, y 1, by funext a; fin_cases a <;> rfl⟩
  have hN : t.val < 88 := lt_of_lt_of_eq t.isLt (show cfg0.N = 88 from N_0)
  split_ifs with h0 h1 h2 h1 h2
  · exact point_q m c t h1 i j
  · exact point_g m c t h2 i j
  · exact point_p m c t (by omega) i j
  · refine Eq.trans ?_ (point_q m c t h1 i j)
    pointwise [k0_pay10, k0_pay3, k0_pay2, k0_pay1]
  · refine Eq.trans ?_ (point_g m c t h2 i j)
    pointwise [k0_pay11, k0_pay6, k0_pay4, k0_pay2, k0_pay1]
  · refine Eq.trans ?_ (point_p m c t (by omega) i j)
    pointwise [k0_pay12, k0_pay9, k0_pay7, k0_pay2, k0_pay1]

end Cert.ProjIdeal.Val
end
end
-- ==== Proof.Proj.Claim.lean ====
/- The claims about the input projection: the reference runs and leaves its arguments as they were, and the call's
   result is the reference's at the ideal instance. -/
module
public import proofs.«01_k».proof.Defs
public import proofs.«01_k».proof.Proof.Proj.Value
public import Idealize.ShloMosaic.Lib.Quiescent
public import Idealize.ShloMosaic.Lib.Claim
@[expose] public section
set_option maxRecDepth 16384
noncomputable section
open Idealize.ShloMosaic Idealize.ShloMosaic.TcCoe Idealize.SL.Sem

namespace Cert.ProjClaim

attribute [local instance] Cert.ProjIdeal.Gen.facts Cert.ProjRefIdeal.Gen.facts

/-- The reference runs, its arguments and every counter as at the start. -/
theorem refFrame : Cert.quiescent_ProjRefIdeal := fun m g _ =>
  (θ_run Cert.ProjRefIdeal.defs _ _).mono (fun r h => ⟨fun c => (h c).2, sem_eq_zero_of_no_sems rfl r.2⟩)
    (Cert.ProjRefIdeal.Value.run m g)

/-- The call and the reference end with equal results. -/
theorem algebraic : Cert.algebraic_ProjIdeal_ProjRefIdeal := by
  pair_intro
  · run_from Cert.ProjIdeal.Proj.run_main m g
  · run_from Cert.ProjRefIdeal.Value.run m' g'
    refine Eq.trans ?_ (Cert.ProjIdeal.Val.final m c).symm
    exact congrArg (Cert.ProjIdeal.Val.REF _ _) (hagree c).2.2

end Cert.ProjClaim
end
end
-- ==== Proof.Merge.Value.lean ====
/- The gated sum of the two branches, what the call computes: the array after the run is the reference's term of
   the arguments. The two weight blocks are kept in scratch over the sixteen row blocks of a column; at every
   point the scratch holds the point's own weight blocks. -/
module
public import proofs.«01_k».proof.Proof.Gen.MergeIdeal.Value
public import proofs.«01_k».proof.Proof.Gen.MergeRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)

namespace Cert.MergeIdeal.Val
open Cert.MergeIdeal Cert.MergeIdeal.Gen
variable (m : (ℓ : Loc nD τ sig) → Buf (Elt Ideal) ℓ)

/-- The reference's term over the five arguments: the two activations, the projection, the two weights. -/
abbrev REF (X0 : FVec Ideal S8192x2048 .bf16) (X1 : FVec Ideal S8192x1024 .bf16) (X2 : FVec Ideal S8192x11264 .bf16)
    (X3 : FVec Ideal S4x2048x2048 .f32) (X4 : FVec Ideal S4x1024x2048 .f32) : FVec Ideal S8192x2048 .bf16 :=
  truncf .bf16 (addf (mulf (extractStridedSlice Cert.MergeRefIdeal.S8192x2048 ![0, 0] (Host.divf (broadcastInDim Cert.MergeRefIdeal.S8192x4096 ![] Cert.MergeRefIdeal.Gen.bcast_S_S8192x4096 (constant Cert.MergeRefIdeal.S_ .f32 0x3F800000#32)) (addf (broadcastInDim Cert.MergeRefIdeal.S8192x4096 ![] Cert.MergeRefIdeal.Gen.bcast_S_S8192x4096 (constant Cert.MergeRefIdeal.S_ .f32 0x3F800000#32)) (Host.exp (Host.negf (extf .f32 (extractStridedSlice Cert.MergeRefIdeal.S8192x4096 ![0, 7168] X2 Cert.MergeRefIdeal.Gen.slices_S8192x11264_S8192x4096_0_7168) Cert.MergeRefIdeal.Gen.bitsLt_bf16_f32))))) Cert.MergeRefIdeal.Gen.slices_S8192x4096_S8192x2048_0_0) (Host.dotGeneral Cert.MergeRefIdeal.dot_S8192x2048_S2048x2048_S8192x2048_1_0_0_1_n_n none (extf .f32 X0 Cert.MergeRefIdeal.Gen.bitsLt_bf16_f32) (shapeCast _ (extractStridedSlice Cert.MergeRefIdeal.S1x2048x2048 ![0, 0, 0] X3 Cert.MergeRefIdeal.Gen.slices_S4x2048x2048_S1x2048x2048_0_0_0) Cert.MergeRefIdeal.Gen.shapeCasts_S1x2048x2048_S2048x2048))) (mulf (extractStridedSlice Cert.MergeRefIdeal.S8192x2048 ![0, 2048] (Host.divf (broadcastInDim Cert.MergeRefIdeal.S8192x4096 ![] Cert.MergeRefIdeal.Gen.bcast_S_S8192x4096 (constant Cert.MergeRefIdeal.S_ .f32 0x3F800000#32)) (addf (broadcastInDim Cert.MergeRefIdeal.S8192x4096 ![] Cert.MergeRefIdeal.Gen.bcast_S_S8192x4096 (constant Cert.MergeRefIdeal.S_ .f32 0x3F800000#32)) (Host.exp (Host.negf (extf .f32 (extractStridedSlice Cert.MergeRefIdeal.S8192x4096 ![0, 7168] X2 Cert.MergeRefIdeal.Gen.slices_S8192x11264_S8192x4096_0_7168) Cert.MergeRefIdeal.Gen.bitsLt_bf16_f32))))) Cert.MergeRefIdeal.Gen.slices_S8192x4096_S8192x2048_0_2048) (Host.dotGeneral Cert.MergeRefIdeal.dot_S8192x1024_S1024x2048_S8192x2048_1_0_0_1_n_n none (extf .f32 X1 Cert.MergeRefIdeal.Gen.bitsLt_bf16_f32) (shapeCast _ (extractStridedSlice Cert.MergeRefIdeal.S1x1024x2048 ![0, 0, 0] X4 Cert.MergeRefIdeal.Gen.slices_S4x1024x2048_S1x1024x2048_0_0_0) Cert.MergeRefIdeal.Gen.shapeCasts_S1x1024x2048_S1024x2048)))) Cert.MergeRefIdeal.Gen.bitsLt_bf16_f32

/-- The windows' block indices: the column block is the point's number over 16, the row block the rest. -/
theorem idx : ∀ t : Fin cfg0.N, win0_0.index t = ![t.val % 16, 0] ∧ win0_1.index t = ![t.val % 16, 0]
    ∧ win0_2.index t = ![t.val % 16, t.val / 16 + 7] ∧ win0_3.index t = ![t.val % 16, t.val / 16 + 9]
    ∧ win0_4.index t = ![0, 0, t.val / 16] ∧ win0_5.index t = ![0, 0, t.val / 16]
    ∧ win0_6.index t = ![t.val % 16, t.val / 16] :=
  (by decide +kernel : ∀ t : Fin grid0.N, _)

/-- The point before the point `t`. -/
abbrev prev (t : Fin cfg0.N) : Fin cfg0.N := ⟨t.val - 1, lt_of_le_of_lt (Nat.sub_le _ _) t.isLt⟩

/-- Inside a column, the weight block of the point before is the point's own. -/
theorem same4 (c : Dev nD) (t : Fin cfg0.N) (h : 1 ≤ t.val % 16) : iblk m c 4 (prev t) = iblk m c 4 t := by
  funext y
  have e : (t.val - 1) / 16 = t.val / 16 := by omega
  blk_ext [iblk, V, idx t, idx (prev t), e]

theorem same5 (c : Dev nD) (t : Fin cfg0.N) (h : 1 ≤ t.val % 16) : iblk m c 5 (prev t) = iblk m c 5 t := by
  funext y
  have e : (t.val - 1) / 16 = t.val / 16 := by omega
  blk_ext [iblk, V, idx t, idx (prev t), e]

/-- What the two scratches hold after every point: the casts of the point's weight blocks. -/
theorem scratch (c : Dev nD) : ∀ (n : ℕ) (hn : n < cfg0.N),
    (outsAt0 m c n hn).2.1 = k0_pay3 (iblk m c 4 ⟨n, hn⟩) ∧ (outsAt0 m c n hn).2.2 = k0_pay4 (iblk m c 5 ⟨n, hn⟩) := by
  intro n
  induction n with
  | zero =>
    intro hn
    rw [outsAt0_A m c ⟨0, hn⟩ (Nat.zero_mod _) (by show ¬ 1 ≤ 0 % 16; omega)]
    constructor
    · frame_out
    · frame_out
  | succ n ih =>
    intro hn
    by_cases h : (n + 1) % 16 = 0
    · rw [outsAt0_A m c ⟨n + 1, hn⟩ h (by show ¬ 1 ≤ (n + 1) % 16; omega)]
      constructor
      · frame_out
      · frame_out
    · have h1 : 1 ≤ (n + 1) % 16 := by omega
      have e := ih (Nat.lt_of_succ_lt hn)
      rw [outsAt0_B m c ⟨n + 1, hn⟩ h h1, ← same4 m c ⟨n + 1, hn⟩ h1, ← same5 m c ⟨n + 1, hn⟩ h1]
      exact e

/-- What the body stores at block index `y` of point `t`. -/
theorem point (c : Dev nD) (t : Fin cfg0.N) (y) :
    k0_pay5 (iblk m c 4 t) (iblk m c 5 t) (iblk m c 0 t) (iblk m c 1 t) (iblk m c 2 t) (iblk m c 3 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  pointwise [k0_pay5, k0_pay1, k0_pay2, REF]
  unfold Ideal.logistic
  blk_point [iblk, V, idx t]

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  by_cases h : t.val % 16 = 0
  · rw [outsAt0_A m c t h (by omega)]
    frame_out
    exact point m c t y
  · have h1 : 1 ≤ t.val % 16 := by omega
    rw [outsAt0_B m c t h h1]
    frame_out
    simp only [read_unread_whole]
    rw [(scratch m c (t.val - 1) _).1, (scratch m c (t.val - 1) _).2]
    refine Eq.trans ?_ (point m c t y)
    rw [show iblk m c 4 ⟨t.val - 1, _⟩ = iblk m c 4 t from same4 m c t h1,
      show iblk m c 5 ⟨t.val - 1, _⟩ = iblk m c 5 t from same5 m c t h1]
    pointwise [k0_pay6, k0_pay5, k0_pay1, k0_pay2, k0_pay3, k0_pay4]

end Cert.MergeIdeal.Val
end
end
-- ==== Proof.Merge.Claim.lean ====
/- The claims about the gated sum of the two branches: the reference runs and leaves its arguments as they were, and the call's
   result is the reference's at the ideal instance. -/
module
public import proofs.«01_k».proof.Defs
public import proofs.«01_k».proof.Proof.Merge.Value
public import Idealize.ShloMosaic.Lib.Quiescent
public import Idealize.ShloMosaic.Lib.Claim
@[expose] public section
set_option maxRecDepth 16384
noncomputable section
open Idealize.ShloMosaic Idealize.ShloMosaic.TcCoe Idealize.SL.Sem

namespace Cert.MergeClaim

attribute [local instance] Cert.MergeIdeal.Gen.facts Cert.MergeRefIdeal.Gen.facts

/-- The reference runs, its arguments and every counter as at the start. -/
theorem refFrame : Cert.quiescent_MergeRefIdeal := fun m g _ =>
  (θ_run Cert.MergeRefIdeal.defs _ _).mono (fun r h => ⟨fun c => (h c).2, sem_eq_zero_of_no_sems rfl r.2⟩)
    (Cert.MergeRefIdeal.Value.run m g)

/-- The call and the reference end with equal results. -/
theorem algebraic : Cert.algebraic_MergeIdeal_MergeRefIdeal := by
  pair_intro
  · run_from Cert.MergeIdeal.Gen.run_main m g
  · run_from Cert.MergeRefIdeal.Value.run m' g'
    exact (Cert.MergeIdeal.Val.final m c).symm

end Cert.MergeClaim
end
end
-- ==== Proof.Gla.Math.Lift.lean ====
/- Matrices whose entries are all finite: a matrix of extended reals is the coercion of a real function of
   its two coordinates, and so is what each operation of the attention's body makes of such matrices. -/
module

public import proofs.«01_k».proof.Proof.Gla.KernelIdeal.Expr
public import Idealize.ShloMosaic.Lib.MatmulPlain
public import Idealize.ShloMosaic.Lib.Pipeline.ValueKit
public import Idealize.ShloMosaic.Lib.Pointwise

@[expose] public section

set_option maxRecDepth 16384

noncomputable section

namespace Cert.KernelIdeal.Gla

open Cert.KernelIdeal Cert.KernelIdeal.Gen
open Idealize.ShloMosaic Idealize.ShloMosaic.TcCoe Idealize.ShloMosaic.ValueIdx
open scoped BigOperators

/-- The matrix `x` is the real function `f` of its row and column. -/
def M2 {n m : ℕ} (x : (⟨2, ![n, m]⟩ : Shape).Idx → EReal) (f : ℕ → ℕ → ℝ) : Prop :=
  ∀ y, x y = ((f (y 0).val (y 1).val : ℝ) : EReal)

theorem M2.congr {n m : ℕ} {x : (⟨2, ![n, m]⟩ : Shape).Idx → EReal} {f g : ℕ → ℕ → ℝ} (h : M2 x f)
    (e : ∀ i j, i < n → j < m → f i j = g i j) : M2 x g :=
  fun y => (h y).trans (congrArg _ (e _ _ (y 0).isLt (y 1).isLt))

section ops
variable {n m : ℕ} {φ ψ : FTy} {x x' : FVec Ideal ⟨2, ![n, m]⟩ φ} {f g : ℕ → ℕ → ℝ}

theorem M2.mul (hx : M2 x f) (hx' : M2 x' g) : M2 (mulf x x') (fun i j => f i j * g i j) :=
  fun y => (congrArg₂ (fun a b : EReal => a * b) (hx y) (hx' y)).trans (EReal.coe_mul _ _).symm
theorem M2.add (hx : M2 x f) (hx' : M2 x' g) : M2 (addf x x') (fun i j => f i j + g i j) :=
  fun y => (congrArg₂ (fun a b : EReal => a + b) (hx y) (hx' y)).trans (EReal.coe_add _ _).symm
theorem M2.sub (hx : M2 x f) (hx' : M2 x' g) : M2 (subf x x') (fun i j => f i j - g i j) :=
  fun y => (congrArg₂ (fun a b : EReal => a - b) (hx y) (hx' y)).trans (EReal.coe_sub _ _).symm
theorem M2.pow2 (hx : M2 x f) : M2 (exp2 x) (fun i j => (2 : ℝ) ^ f i j) :=
  fun y => congrArg Ideal.exp2 (hx y)
theorem M2.trunc (h : ψ.bits < φ.bits) (hx : M2 x f) : M2 (truncf ψ x h) f := fun y => hx y
theorem M2.ext (h : φ.bits < ψ.bits) (hx : M2 x f) : M2 (extf ψ x h) f := fun y => hx y
theorem M2.slice {n' m' o₀ o₁ : ℕ} (h : (⟨2, ![n, m]⟩ : Shape).Slices ![o₀, o₁] ⟨2, ![n', m']⟩) (hx : M2 x f) :
    M2 (extractStridedSlice ⟨2, ![n', m']⟩ ![o₀, o₁] x h) (fun i j => f (o₀ + i) (o₁ + j)) := fun y => hx _
theorem M2.window {n' m' o₀ o₁ : ℕ} (h : ∀ a, (![o₀, o₁] : Fin 2 → ℕ) a + (![n', m'] : Fin 2 → ℕ) a ≤ (⟨2, ![n, m]⟩ : Shape).size a) (hx : M2 x f) :
    M2 (n := n') (m := m') (VecWindow.window (s := ⟨2, ![n, m]⟩) x ![o₀, o₁] ![n', m'] h) (fun i j => f (o₀ + i) (o₁ + j)) := fun y =>
  (hx _).trans (congrArg _ (congrArg₂ f (congrArg (o₀ + ·) (Nat.one_mul _)) (congrArg (o₁ + ·) (Nat.one_mul _))))

theorem eta2 (y : (⟨2, ![n, m]⟩ : Shape).Idx) : ∃ (i : Fin n) (j : Fin m), y = ValueIdx.ix2 i j := by
  refine ⟨y 0, y 1, ?_⟩
  funext a
  match a with
  | ⟨0, _⟩ => rfl
  | ⟨1, _⟩ => rfl

theorem coe_sum (K : ℕ) (h : ℕ → ℝ) : (∑ k : Fin K, ((h k.val : ℝ) : EReal)) = ((∑ k ∈ Finset.range K, h k : ℝ) : EReal) := by
  rw [Finset.sum_range]
  induction K with
  | zero => simp
  | succ K ih =>
    rw [Fin.sum_univ_castSucc, Fin.sum_univ_castSucc, EReal.coe_add]
    exact congrArg (· + ((h K : ℝ) : EReal)) ih

theorem zero_const {s : Shape} (i : s.Idx) : (constant (F := Ideal) s .f32 0x00000000#32) i = (0 : EReal) := by
  show Ideal.ofBits .f32 0x00000000#32 = 0
  simp

end ops

section products
variable {M K N : ℕ} {φ₁ φ₂ : FTy} {f g : ℕ → ℕ → ℝ}

theorem M2.plain {a : FVec Ideal ⟨2, ![M, K]⟩ φ₁} {b : FVec Ideal ⟨2, ![K, N]⟩ φ₂} (ha : M2 a f) (hb : M2 b g) :
    M2 (n := M) (m := N) (matmul (DotDims.plain M K N) none a b (constant ⟨2, ![M, N]⟩ .f32 0x00000000#32)) (fun i j => ∑ k ∈ Finset.range K, f i k * g k j) := fun y => by
  obtain ⟨i, j, rfl⟩ := eta2 y
  refine (Ideal.matmul_plain_apply none a b _ i j).trans ?_
  rw [zero_const, zero_add]
  refine Eq.trans ?_ (coe_sum K (fun k => f i.val k * g k j.val))
  exact Finset.sum_congr rfl fun k _ => (congrArg₂ (fun a b : EReal => a * b) (ha _) (hb _)).trans (EReal.coe_mul _ _).symm

theorem M2.transR {a : FVec Ideal ⟨2, ![M, K]⟩ φ₁} {b : FVec Ideal ⟨2, ![N, K]⟩ φ₂} (ha : M2 a f) (hb : M2 b g) :
    M2 (n := M) (m := N) (matmul (DotDims.transposedRhs M K N) none a b (constant ⟨2, ![M, N]⟩ .f32 0x00000000#32)) (fun i j => ∑ k ∈ Finset.range K, f i k * g j k) := fun y => by
  obtain ⟨i, j, rfl⟩ := eta2 y
  refine (Ideal.matmul_transposedRhs_apply none a b _ i j).trans ?_
  rw [zero_const, zero_add]
  refine Eq.trans ?_ (coe_sum K (fun k => f i.val k * g j.val k))
  exact Finset.sum_congr rfl fun k _ => (congrArg₂ (fun a b : EReal => a * b) (ha _) (hb _)).trans (EReal.coe_mul _ _).symm

theorem M2.transL {a : FVec Ideal S128x512 φ₁} {b : FVec Ideal S128x256 φ₂} (ha : M2 (n := 128) (m := 512) a f) (hb : M2 (n := 128) (m := 256) b g) :
    M2 (n := 512) (m := 256) (matmul dot_S128x512_S128x256_S512x256_0_0_1_1_n_n none a b (constant S512x256 .f32 0x00000000#32))
      (fun i j => ∑ k ∈ Finset.range 128, f k i * g k j) := fun y => by
  have hr : (dot_S128x512_S128x256_S512x256_0_0_1_1_n_n).contr.rank = 1 := rfl
  have hs : (dot_S128x512_S128x256_S512x256_0_0_1_1_n_n).contr.size ⟨0, by rw [hr]; exact Nat.one_pos⟩ = 128 := rfl
  refine (Ideal.matmul_apply _ none a b _ y).trans ?_
  rw [zero_const, zero_add]
  refine Eq.trans ?_ (coe_sum 128 (fun k => f k (y 0).val * g k (y 1).val))
  rw [← Equiv.sum_comp (contrEquiv1 _ 128 hr hs).symm]
  refine Finset.sum_congr rfl fun k _ => ?_
  have hk := contrEquiv1_symm_val _ 128 hr hs k
  refine ((congrArg₂ (fun a b : EReal => a * b) (ha _) (hb _)).trans (EReal.coe_mul _ _).symm).trans ?_
  refine congrArg _ (congrArg₂ (fun a b : ℝ => a * b) (congrArg₂ f hk rfl) (congrArg₂ g hk rfl))

end products

section pieces
variable {f g : ℕ → ℕ → ℝ}

theorem M2.rows {φ : FTy} {n m : ℕ} {a b : FVec Ideal ⟨2, ![n, m]⟩ φ} (h : Shape.Concatenates [⟨2, ![n, m]⟩, ⟨2, ![n, m]⟩] ⟨2, ![n + n, m]⟩ 0)
    (ha : M2 a f) (hb : M2 b g) :
    M2 (n := n + n) (m := m) (concatenate ⟨2, ![n + n, m]⟩ 0 [⟨⟨2, ![n, m]⟩, a⟩, ⟨⟨2, ![n, m]⟩, b⟩] h)
      (fun i j => if i < n then f i j else g (i - n) j) := fun y => by
  obtain ⟨i, j, rfl⟩ := eta2 y
  by_cases hi : i.val < n
  · refine (concatenate_pair_apply_left (t := ⟨2, ![n + n, m]⟩) (0 : Fin 2) a b _ _ rfl (ValueIdx.ix2 ⟨i.val, hi⟩ j) (fun c => ?_)).trans ((ha _).trans ?_)
    · match c with
      | ⟨0, _⟩ => rfl
      | ⟨1, _⟩ => rfl
    · exact congrArg _ (if_pos hi).symm
  · have h' : i.val - n < n := by have := i.isLt; omega
    refine (concatenate_pair_apply_right (t := ⟨2, ![n + n, m]⟩) (0 : Fin 2) a b _ _ rfl rfl (ValueIdx.ix2 ⟨i.val - n, h'⟩ j) (fun c hc => ?_) ?_).trans ((hb _).trans ?_)
    · match c with
      | ⟨0, _⟩ => exact absurd rfl hc
      | ⟨1, _⟩ => rfl
    · show i.val - n + n = i.val
      omega
    · exact congrArg _ (if_neg hi).symm

theorem M2.cols {φ : FTy} {n m : ℕ} {a b : FVec Ideal ⟨2, ![n, m]⟩ φ} (h : Shape.Concatenates [⟨2, ![n, m]⟩, ⟨2, ![n, m]⟩] ⟨2, ![n, m + m]⟩ 1)
    (ha : M2 a f) (hb : M2 b g) :
    M2 (n := n) (m := m + m) (concatenate ⟨2, ![n, m + m]⟩ 1 [⟨⟨2, ![n, m]⟩, a⟩, ⟨⟨2, ![n, m]⟩, b⟩] h)
      (fun i j => if j < m then f i j else g i (j - m)) := fun y => by
  obtain ⟨i, j, rfl⟩ := eta2 y
  by_cases hj : j.val < m
  · refine (concatenate_pair_apply_left (t := ⟨2, ![n, m + m]⟩) (1 : Fin 2) a b _ _ rfl (ValueIdx.ix2 i ⟨j.val, hj⟩) (fun c => ?_)).trans ((ha _).trans ?_)
    · match c with
      | ⟨0, _⟩ => rfl
      | ⟨1, _⟩ => rfl
    · exact congrArg _ (if_pos hj).symm
  · have h' : j.val - m < m := by have := j.isLt; omega
    refine (concatenate_pair_apply_right (t := ⟨2, ![n, m + m]⟩) (1 : Fin 2) a b _ _ rfl rfl (ValueIdx.ix2 i ⟨j.val - m, h'⟩) (fun c hc => ?_) ?_).trans ((hb _).trans ?_)
    · match c with
      | ⟨0, _⟩ => rfl
      | ⟨1, _⟩ => exact absurd rfl hc
    · show j.val - m + m = j.val
      omega
    · exact congrArg _ (if_neg hj).symm

theorem M2.bc64 {φ : FTy} {a : FVec Ideal S1x256 φ} (ha : M2 (n := 1) (m := 256) a f) :
    M2 (n := 64) (m := 256) (broadcastTo S64x256 a broadcasts_S1x256_S64x256) (fun _ j => f 0 j) := fun y => ha _
theorem M2.bc512 {φ : FTy} {a : FVec Ideal S1x256 φ} (ha : M2 (n := 1) (m := 256) a f) :
    M2 (n := 512) (m := 256) (broadcastTo S512x256 a broadcasts_S1x256_S512x256) (fun _ j => f 0 j) := fun y => ha _
theorem M2.bc256 {φ : FTy} {a : FVec Ideal S1x256 φ} (ha : M2 (n := 1) (m := 256) a f) :
    M2 (n := 256) (m := 256) (broadcastTo S256x256 a broadcasts_S1x256_S256x256) (fun _ j => f 0 j) := fun y => ha _

end pieces

end Cert.KernelIdeal.Gla

end
-- ==== Proof.Gla.Ref.Inputs.lean ====
/- The reference's queries, keys, values and log decays, on finite arguments. -/
module

public import proofs.«01_k».proof.Proof.Gen.ReferenceIdeal.Read
public import proofs.«01_k».proof.Proof.Gla.Math.Lift
public import Idealize.ShloMosaic.Lib.IdealHost

@[expose] public section

set_option maxRecDepth 16384

noncomputable section

namespace Cert.ReferenceIdeal.GlaRef

open Cert.ReferenceIdeal Cert.ReferenceIdeal.Gen Cert.ReferenceIdeal.Read
open Idealize.ShloMosaic Idealize.ShloMosaic.TcCoe Idealize.ShloMosaic.ValueIdx
open Cert.KernelIdeal.Gla (M2 coe_sum)
open scoped BigOperators

/-- Finite tensors of rank three and four. -/
def M3 {a b c : ℕ} (x : (⟨3, ![a, b, c]⟩ : Shape).Idx → EReal) (f : ℕ → ℕ → ℕ → ℝ) : Prop :=
  ∀ y, x y = ((f (y 0).val (y 1).val (y 2).val : ℝ) : EReal)
def M4 {a b c d : ℕ} (x : (⟨4, ![a, b, c, d]⟩ : Shape).Idx → EReal) (f : ℕ → ℕ → ℕ → ℕ → ℝ) : Prop :=
  ∀ y, x y = ((f (y 0).val (y 1).val (y 2).val (y 3).val : ℝ) : EReal)

/-- The logarithm of the logistic function. -/
def lsig (z : ℝ) : ℝ := -(max (-z) 0 + Real.log (1 + Real.exp (-|z|)))

/-- A log decay before the logistic, at a row and a column of direction `k`. -/
def zval (α : ℕ → ℕ → ℝ) (w β : ℕ → ℕ → ℕ → ℕ → ℝ) (k r c : ℕ) : ℝ := (∑ l ∈ Finset.range 128, α r l * w 0 k l c) + β 0 k 0 c

/-- A log decay. -/
def lgate (α : ℕ → ℕ → ℝ) (w β : ℕ → ℕ → ℕ → ℕ → ℝ) (k r c : ℕ) : ℝ := lsig (zval α w β k r c) * (1 / 16)

/-- The reference's log decay of an element, as its operations spell it. -/
def lsE (x : EReal) : EReal :=
  Ideal.div (-(if Ideal.cmp .une (-x - Ideal.ofBits .f32 0x00000000#32) (-x - Ideal.ofBits .f32 0x00000000#32) = 1 then -x + Ideal.ofBits .f32 0x00000000#32
    else max (-x) (Ideal.ofBits .f32 0x00000000#32) +
      Ideal.log1p (Ideal.exp (-(max (-x - Ideal.ofBits .f32 0x00000000#32) (-(-x - Ideal.ofBits .f32 0x00000000#32)))))))
    (Ideal.ofBits .f32 0x41800000#32)

theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem lsE_coe (z : ℝ) : lsE (z : EReal) = ((lsig z * (1 / 16) : ℝ) : EReal) := by
  have e0 : Ideal.ofBits .f32 0x00000000#32 = ((0 : ℝ) : EReal) := Ideal.ofBits_zero_f32
  have e16 : Ideal.ofBits .f32 0x41800000#32 = ((16 : ℝ) : EReal) := by
    simp [Ideal.ofBits, Ideal.ieee, -EReal.coe_mul]; norm_num
  have hc : ∀ a : EReal, Ideal.cmp .une a a ≠ (1 : BitVec 1) := fun a => by simp [Ideal.cmp]
  unfold lsE
  rw [if_neg (hc _), e0, e16, ← EReal.coe_neg, ← EReal.coe_sub, sub_zero, coe_max, ← EReal.coe_neg, coe_max, ← EReal.coe_neg, Ideal.exp_coe, Ideal.log1p,
    ← EReal.coe_one, ← EReal.coe_add, Ideal.log_coe, if_neg (not_le.2 (by positivity)), ← EReal.coe_add, ← EReal.coe_neg, Ideal.div_coe (by norm_num), ← EReal.coe_mul]
  refine congrArg _ (congrArg (· * (1 / 16)) ?_)
  unfold lsig
  rw [neg_neg, show max (-z) z = |z| from (max_comm _ _).trans (abs_eq_max_neg).symm]

section inputs
variable {x2 : FVec Ideal S512x11264 .bf16} {x3 : FVec Ideal S512x128 .f32} {x4 : FVec Ideal S4x2x128x1024 .bf16} {x5 : FVec Ideal S4x2x1x1024 .f32}
variable {p α : ℕ → ℕ → ℝ} {w β : ℕ → ℕ → ℕ → ℕ → ℝ}
variable (hp : M2 (n := 512) (m := 11264) x2 p) (hα : M2 (n := 512) (m := 128) x3 α) (hw : M4 (a := 4) (b := 2) (c := 128) (d := 1024) x4 w) (hβ : M4 (a := 4) (b := 2) (c := 1) (d := 1024) x5 β)

include hp in
theorem v0_val : M2 (n := 512) (m := 11264) (val_main_v0 (F := Ideal) x2) p := fun y => hp y

include hp in
theorem v1_val : M3 (val_main_v1 (F := Ideal) x2) (fun b r c => p (b * 256 + r) c) := fun y => by
  have h0 : (y 0).val < 2 := (y 0).isLt
  have h1 : (y 1).val < 256 := (y 1).isLt
  have h2 : (y 2).val < 11264 := (y 2).isLt
  refine (val_main_v1_apply (F := Ideal) x2 y).trans ((v0_val hp (idx_main_v1 y)).trans (congrArg (fun t : ℝ => (t : EReal)) ?_))
  show p ((((y 0).val * 256 + (y 1).val) * 11264 + (y 2).val) / 11264) ((((y 0).val * 256 + (y 1).val) * 11264 + (y 2).val) % 11264) = p ((y 0).val * 256 + (y 1).val) (y 2).val
  exact congrArg₂ (p) (show ((((y 0).val * 256 + (y 1).val) * 11264 + (y 2).val) / 11264) = ((y 0).val * 256 + (y 1).val) by omega) (show ((((y 0).val * 256 + (y 1).val) * 11264 + (y 2).val) % 11264) = (y 2).val by omega)

include hp in
theorem v3_val : M3 (val_main_v3 (F := Ideal) x2) (fun b r c => p (b * 256 + r) c) := fun y => by
  have h0 : (y 0).val < 2 := (y 0).isLt
  have h1 : (y 1).val < 256 := (y 1).isLt
  have h2 : (y 2).val < 1024 := (y 2).isLt
  refine (val_main_v3_apply (F := Ideal) x2 y).trans ((v1_val hp (idx_main_v3 y)).trans (congrArg (fun t : ℝ => (t : EReal)) ?_))
  show p (((y 0).val) * 256 + ((y 1).val)) ((y 2).val) = p ((y 0).val * 256 + (y 1).val) (y 2).val
  exact congrArg₂ (p) (show (((y 0).val) * 256 + ((y 1).val)) = ((y 0).val * 256 + (y 1).val) by omega) rfl

include hp in
theorem v4_val : M3 (val_main_v4 (F := Ideal) x2) (fun b r c => p (b * 256 + r) (1024 + c)) := fun y => by
  have h0 : (y 0).val < 2 := (y 0).isLt
  have h1 : (y 1).val < 256 := (y 1).isLt
  have h2 : (y 2).val < 1024 := (y 2).isLt
  refine (val_main_v4_apply (F := Ideal) x2 y).trans ((v1_val hp (idx_main_v4 y)).trans (congrArg (fun t : ℝ => (t : EReal)) ?_))
  show p (((y 0).val) * 256 + ((y 1).val)) (1024 + (y 2).val) = p ((y 0).val * 256 + (y 1).val) (1024 + (y 2).val)
  exact congrArg₂ (p) (show (((y 0).val) * 256 + ((y 1).val)) = ((y 0).val * 256 + (y 1).val) by omega) rfl

include hp in
theorem v5_val : M3 (val_main_v5 (F := Ideal) x2) (fun b r c => p (b * 256 + r) (2048 + c)) := fun y => by
  have h0 : (y 0).val < 2 := (y 0).isLt
  have h1 : (y 1).val < 256 := (y 1).isLt
  have h2 : (y 2).val < 2048 := (y 2).isLt
  refine (val_main_v5_apply (F := Ideal) x2 y).trans ((v1_val hp (idx_main_v5 y)).trans (congrArg (fun t : ℝ => (t : EReal)) ?_))
  show p (((y 0).val) * 256 + ((y 1).val)) (2048 + (y 2).val) = p ((y 0).val * 256 + (y 1).val) (2048 + (y 2).val)
  exact congrArg₂ (p) (show (((y 0).val) * 256 + ((y 1).val)) = ((y 0).val * 256 + (y 1).val) by omega) rfl

include hp in
theorem v6_val : M3 (val_main_v6 (F := Ideal) x2) (fun b r c => p (b * 256 + r) (4096 + c)) := fun y => by
  have h0 : (y 0).val < 2 := (y 0).isLt
  have h1 : (y 1).val < 256 := (y 1).isLt
  have h2 : (y 2).val < 2048 := (y 2).isLt
  refine (val_main_v6_apply (F := Ideal) x2 y).trans ((v1_val hp (idx_main_v6 y)).trans (congrArg (fun t : ℝ => (t : EReal)) ?_))
  show p (((y 0).val) * 256 + ((y 1).val)) (4096 + (y 2).val) = p ((y 0).val * 256 + (y 1).val) (4096 + (y 2).val)
  exact congrArg₂ (p) (show (((y 0).val) * 256 + ((y 1).val)) = ((y 0).val * 256 + (y 1).val) by omega) rfl

include hp in
theorem v7_val : M4 (val_main_v7 (F := Ideal) x2) (fun b h r c => p (b * 256 + h) (r * 256 + c)) := fun y => by
  have h0 : (y 0).val < 2 := (y 0).isLt
  have h1 : (y 1).val < 256 := (y 1).isLt
  have h2 : (y 2).val < 4 := (y 2).isLt
  have h3 : (y 3).val < 256 := (y 3).isLt
  refine (val_main_v7_apply (F := Ideal) x2 y).trans ((v3_val hp (idx_main_v7 y)).trans (congrArg (fun t : ℝ => (t : EReal)) ?_))
  show p ((((((y 0).val * 256 + (y 1).val) * 4 + (y 2).val) * 256 + (y 3).val) / 262144) * 256 + (((((y 0).val * 256 + (y 1).val) * 4 + (y 2).val) * 256 + (y 3).val) / 1024 % 256)) (((((y 0).val * 256 + (y 1).val) * 4 + (y 2).val) * 256 + (y 3).val) % 1024) = p ((y 0).val * 256 + (y 1).val) ((y 2).val * 256 + (y 3).val)
  exact congrArg₂ (p) (show ((((((y 0).val * 256 + (y 1).val) * 4 + (y 2).val) * 256 + (y 3).val) / 262144) * 256 + (((((y 0).val * 256 + (y 1).val) * 4 + (y 2).val) * 256 + (y 3).val) / 1024 % 256)) = ((y 0).val * 256 + (y 1).val) by omega) (show (((((y 0).val * 256 + (y 1).val) * 4 + (y 2).val) * 256 + (y 3).val) % 1024) = ((y 2).val * 256 + (y 3).val) by omega)

include hp in
theorem v8_val : M4 (val_main_v8 (F := Ideal) x2) (fun b h r c => p (b * 256 + r) (h * 256 + c)) := fun y => by
  have h0 : (y 0).val < 2 := (y 0).isLt
  have h1 : (y 1).val < 4 := (y 1).isLt
  have h2 : (y 2).val < 256 := (y 2).isLt
  have h3 : (y 3).val < 256 := (y 3).isLt
  refine (val_main_v8_apply (F := Ideal) x2 y).trans ((v7_val hp (idx_main_v8 y)).trans (congrArg (fun t : ℝ => (t : EReal)) ?_))
  show p (((y 0).val) * 256 + ((y 2).val)) (((y 1).val) * 256 + ((y 3).val)) = p ((y 0).val * 256 + (y 2).val) ((y 1).val * 256 + (y 3).val)
  exact congrArg₂ (p) (show (((y 0).val) * 256 + ((y 2).val)) = ((y 0).val * 256 + (y 2).val) by omega) (show (((y 1).val) * 256 + ((y 3).val)) = ((y 1).val * 256 + (y 3).val) by omega)

include hp in
theorem v9_val : M4 (val_main_v9 (F := Ideal) x2) (fun b h r c => p (b * 256 + h) (1024 + (r * 256 + c))) := fun y => by
  have h0 : (y 0).val < 2 := (y 0).isLt
  have h1 : (y 1).val < 256 := (y 1).isLt
  have h2 : (y 2).val < 4 := (y 2).isLt
  have h3 : (y 3).val < 256 := (y 3).isLt
  refine (val_main_v9_apply (F := Ideal) x2 y).trans ((v4_val hp (idx_main_v9 y)).trans (congrArg (fun t : ℝ => (t : EReal)) ?_))
  show p ((((((y 0).val * 256 + (y 1).val) * 4 + (y 2).val) * 256 + (y 3).val) / 262144) * 256 + (((((y 0).val * 256 + (y 1).val) * 4 + (y 2).val) * 256 + (y 3).val) / 1024 % 256)) (1024 + (((((y 0).val * 256 + (y 1).val) * 4 + (y 2).val) * 256 + (y 3).val) % 1024)) = p ((y 0).val * 256 + (y 1).val) (1024 + ((y 2).val * 256 + (y 3).val))
  exact congrArg₂ (p) (show ((((((y 0).val * 256 + (y 1).val) * 4 + (y 2).val) * 256 + (y 3).val) / 262144) * 256 + (((((y 0).val * 256 + (y 1).val) * 4 + (y 2).val) * 256 + (y 3).val) / 1024 % 256)) = ((y 0).val * 256 + (y 1).val) by omega) (show (1024 + (((((y 0).val * 256 + (y 1).val) * 4 + (y 2).val) * 256 + (y 3).val) % 1024)) = (1024 + ((y 2).val * 256 + (y 3).val)) by omega)

include hp in
theorem v10_val : M4 (val_main_v10 (F := Ideal) x2) (fun b h r c => p (b * 256 + r) (1024 + (h * 256 + c))) := fun y => by
  have h0 : (y 0).val < 2 := (y 0).isLt
  have h1 : (y 1).val < 4 := (y 1).isLt
  have h2 : (y 2).val < 256 := (y 2).isLt
  have h3 : (y 3).val < 256 := (y 3).isLt
  refine (val_main_v10_apply (F := Ideal) x2 y).trans ((v9_val hp (idx_main_v10 y)).trans (congrArg (fun t : ℝ => (t : EReal)) ?_))
  show p (((y 0).val) * 256 + ((y 2).val)) (1024 + (((y 1).val) * 256 + ((y 3).val))) = p ((y 0).val * 256 + (y 2).val) (1024 + ((y 1).val * 256 + (y 3).val))
  exact congrArg₂ (p) (show (((y 0).val) * 256 + ((y 2).val)) = ((y 0).val * 256 + (y 2).val) by omega) (show (1024 + (((y 1).val) * 256 + ((y 3).val))) = (1024 + ((y 1).val * 256 + (y 3).val)) by omega)

include hp in
theorem v11_val : M4 (val_main_v11 (F := Ideal) x2) (fun b h r c => p (b * 256 + h) (2048 + (r * 512 + c))) := fun y => by
  have h0 : (y 0).val < 2 := (y 0).isLt
  have h1 : (y 1).val < 256 := (y 1).isLt
  have h2 : (y 2).val < 4 := (y 2).isLt
  have h3 : (y 3).val < 512 := (y 3).isLt
  refine (val_main_v11_apply (F := Ideal) x2 y).trans ((v5_val hp (idx_main_v11 y)).trans (congrArg (fun t : ℝ => (t : EReal)) ?_))
  show p ((((((y 0).val * 256 + (y 1).val) * 4 + (y 2).val) * 512 + (y 3).val) / 524288) * 256 + (((((y 0).val * 256 + (y 1).val) * 4 + (y 2).val) * 512 + (y 3).val) / 2048 % 256)) (2048 + (((((y 0).val * 256 + (y 1).val) * 4 + (y 2).val) * 512 + (y 3).val) % 2048)) = p ((y 0).val * 256 + (y 1).val) (2048 + ((y 2).val * 512 + (y 3).val))
  exact congrArg₂ (p) (show ((((((y 0).val * 256 + (y 1).val) * 4 + (y 2).val) * 512 + (y 3).val) / 524288) * 256 + (((((y 0).val * 256 + (y 1).val) * 4 + (y 2).val) * 512 + (y 3).val) / 2048 % 256)) = ((y 0).val * 256 + (y 1).val) by omega) (show (2048 + (((((y 0).val * 256 + (y 1).val) * 4 + (y 2).val) * 512 + (y 3).val) % 2048)) = (2048 + ((y 2).val * 512 + (y 3).val)) by omega)

include hp in
theorem v12_val : M4 (val_main_v12 (F := Ideal) x2) (fun b h r c => p (b * 256 + r) (2048 + (h * 512 + c))) := fun y => by
  have h0 : (y 0).val < 2 := (y 0).isLt
  have h1 : (y 1).val < 4 := (y 1).isLt
  have h2 : (y 2).val < 256 := (y 2).isLt
  have h3 : (y 3).val < 512 := (y 3).isLt
  refine (val_main_v12_apply (F := Ideal) x2 y).trans ((v11_val hp (idx_main_v12 y)).trans (congrArg (fun t : ℝ => (t : EReal)) ?_))
  show p (((y 0).val) * 256 + ((y 2).val)) (2048 + (((y 1).val) * 512 + ((y 3).val))) = p ((y 0).val * 256 + (y 2).val) (2048 + ((y 1).val * 512 + (y 3).val))
  exact congrArg₂ (p) (show (((y 0).val) * 256 + ((y 2).val)) = ((y 0).val * 256 + (y 2).val) by omega) (show (2048 + (((y 1).val) * 512 + ((y 3).val))) = (2048 + ((y 1).val * 512 + (y 3).val)) by omega)

include hα in
theorem v2_val : M3 (val_main_v2 (F := Ideal) x3) (fun b r c => α (b * 256 + r) c) := fun y => by
  have h0 : (y 0).val < 2 := (y 0).isLt
  have h1 : (y 1).val < 256 := (y 1).isLt
  have h2 : (y 2).val < 128 := (y 2).isLt
  refine (val_main_v2_apply (F := Ideal) x3 y).trans ((hα (idx_main_v2 y)).trans (congrArg (fun t : ℝ => (t : EReal)) ?_))
  show α ((((y 0).val * 256 + (y 1).val) * 128 + (y 2).val) / 128) ((((y 0).val * 256 + (y 1).val) * 128 + (y 2).val) % 128) = α ((y 0).val * 256 + (y 1).val) (y 2).val
  exact congrArg₂ (α) (show ((((y 0).val * 256 + (y 1).val) * 128 + (y 2).val) / 128) = ((y 0).val * 256 + (y 1).val) by omega) (show ((((y 0).val * 256 + (y 1).val) * 128 + (y 2).val) % 128) = (y 2).val by omega)

include hw in
theorem v13_val : M4 (val_main_v13 (F := Ideal) x4) (fun b h r c => w b h r c) := fun y => by
  have h0 : (y 0).val < 1 := (y 0).isLt
  have h1 : (y 1).val < 1 := (y 1).isLt
  have h2 : (y 2).val < 128 := (y 2).isLt
  have h3 : (y 3).val < 1024 := (y 3).isLt
  refine (val_main_v13_apply (F := Ideal) x4 y).trans ((hw (idx_main_v13 y)).trans (congrArg (fun t : ℝ => (t : EReal)) ?_))
  show w ((y 0).val) ((y 1).val) ((y 2).val) ((y 3).val) = w (y 0).val (y 1).val (y 2).val (y 3).val
  rfl

include hw in
theorem v14_val : M2 (val_main_v14 (F := Ideal) x4) (fun r c => w 0 0 r c) := fun y => by
  have h0 : (y 0).val < 128 := (y 0).isLt
  have h1 : (y 1).val < 1024 := (y 1).isLt
  refine (val_main_v14_apply (F := Ideal) x4 y).trans ((v13_val hw (idx_main_v14 y)).trans (congrArg (fun t : ℝ => (t : EReal)) ?_))
  show w (0) (0) (((y 0).val * 1024 + (y 1).val) / 1024 % 128) (((y 0).val * 1024 + (y 1).val) % 1024) = w 0 0 (y 0).val (y 1).val
  rw [show (((y 0).val * 1024 + (y 1).val) / 1024 % 128) = (y 0).val by omega, show (((y 0).val * 1024 + (y 1).val) % 1024) = (y 1).val by omega]

include hw in
theorem v15_val : M2 (val_main_v15 (F := Ideal) x4) (fun r c => w 0 0 r c) := fun y => v14_val hw y

include hβ in
theorem v17_val : M4 (val_main_v17 (F := Ideal) x5) (fun b h r c => β b h r c) := fun y => by
  have h0 : (y 0).val < 1 := (y 0).isLt
  have h1 : (y 1).val < 1 := (y 1).isLt
  have h2 : (y 2).val < 1 := (y 2).isLt
  have h3 : (y 3).val < 1024 := (y 3).isLt
  refine (val_main_v17_apply (F := Ideal) x5 y).trans ((hβ (idx_main_v17 y)).trans (congrArg (fun t : ℝ => (t : EReal)) ?_))
  show β ((y 0).val) ((y 1).val) ((y 2).val) ((y 3).val) = β (y 0).val (y 1).val (y 2).val (y 3).val
  rfl

include hβ in
theorem v18_val : M2 (val_main_v18 (F := Ideal) x5) (fun r c => β 0 0 0 c) := fun y => by
  have h0 : (y 0).val < 1 := (y 0).isLt
  have h1 : (y 1).val < 1024 := (y 1).isLt
  refine (val_main_v18_apply (F := Ideal) x5 y).trans ((v17_val hβ (idx_main_v18 y)).trans (congrArg (fun t : ℝ => (t : EReal)) ?_))
  show β (0) (0) (0) (((y 0).val * 1024 + (y 1).val) % 1024) = β 0 0 0 (y 1).val
  rw [show (((y 0).val * 1024 + (y 1).val) % 1024) = (y 1).val by omega]

include hβ in
theorem v19_val : M3 (val_main_v19 (F := Ideal) x5) (fun b r c => β 0 0 0 c) := fun y => by
  have h0 : (y 0).val < 1 := (y 0).isLt
  have h1 : (y 1).val < 1 := (y 1).isLt
  have h2 : (y 2).val < 1024 := (y 2).isLt
  refine (val_main_v19_apply (F := Ideal) x5 y).trans ((v18_val hβ (idx_main_v19 y)).trans (congrArg (fun t : ℝ => (t : EReal)) ?_))
  show β 0 0 0 ((y 2).val) = β 0 0 0 (y 2).val
  rfl

include hβ in
theorem v20_val : M3 (val_main_v20 (F := Ideal) x5) (fun b r c => β 0 0 0 c) := fun y => by
  have h0 : (y 0).val < 2 := (y 0).isLt
  have h1 : (y 1).val < 256 := (y 1).isLt
  have h2 : (y 2).val < 1024 := (y 2).isLt
  refine (val_main_v20_apply (F := Ideal) x5 y).trans ((v19_val hβ (idx_main_v20 y)).trans (congrArg (fun t : ℝ => (t : EReal)) ?_))
  show β 0 0 0 ((y 2).val) = β 0 0 0 (y 2).val
  rfl

include hα hw in
theorem v16_val : M3 (val_main_v16 (F := Ideal) x3 x4) (fun b r c => ∑ l ∈ Finset.range 128, α (b * 256 + r) l * w 0 0 l c) := fun y => by
  refine (val_main_v16_apply x3 x4 y).trans (Eq.trans (Finset.sum_congr rfl fun l _ => ?_) (coe_sum 128 (fun l => α ((y 0).val * 256 + (y 1).val) l * w 0 0 l (y 2).val)))
  exact (congrArg₂ (fun a b : EReal => a * b) (v2_val hα _) (v15_val hw _)).trans (EReal.coe_mul _ _).symm
include hα hw hβ in
theorem v21_val : M3 (val_main_v21 (F := Ideal) x3 x4 x5) (fun b r c => zval α w β 0 (b * 256 + r) c) := fun y =>
  (congrArg₂ (fun a b : EReal => a + b) (v16_val hα hw y) (v20_val hβ y)).trans (EReal.coe_add _ _).symm
include hα hw hβ in
theorem v24_val : M3 (val_main_v24 (F := Ideal) x3 x4 x5) (fun b r c => lsig (zval α w β 0 (b * 256 + r) c) * (1 / 16)) := fun y => by
  show lsE (val_main_v21 (F := Ideal) x3 x4 x5 y) = _
  exact (congrArg lsE (v21_val hα hw hβ y)).trans (lsE_coe _)

include hα hw hβ in
theorem v25_val : M4 (val_main_v25 (F := Ideal) x3 x4 x5) (fun b h r c => lgate α w β 0 (b * 256 + h) (r * 256 + c)) := fun y => by
  have h0 : (y 0).val < 2 := (y 0).isLt
  have h1 : (y 1).val < 256 := (y 1).isLt
  have h2 : (y 2).val < 4 := (y 2).isLt
  have h3 : (y 3).val < 256 := (y 3).isLt
  refine (val_main_v25_apply (F := Ideal) x3 x4 x5 y).trans ((v24_val hα hw hβ (idx_main_v25 y)).trans (congrArg (fun t : ℝ => (t : EReal)) ?_))
  show lgate α w β 0 ((((((y 0).val * 256 + (y 1).val) * 4 + (y 2).val) * 256 + (y 3).val) / 262144) * 256 + (((((y 0).val * 256 + (y 1).val) * 4 + (y 2).val) * 256 + (y 3).val) / 1024 % 256)) (((((y 0).val * 256 + (y 1).val) * 4 + (y 2).val) * 256 + (y 3).val) % 1024) = lgate α w β 0 ((y 0).val * 256 + (y 1).val) ((y 2).val * 256 + (y 3).val)
  exact congrArg₂ (lgate α w β 0) (show ((((((y 0).val * 256 + (y 1).val) * 4 + (y 2).val) * 256 + (y 3).val) / 262144) * 256 + (((((y 0).val * 256 + (y 1).val) * 4 + (y 2).val) * 256 + (y 3).val) / 1024 % 256)) = ((y 0).val * 256 + (y 1).val) by omega) (show (((((y 0).val * 256 + (y 1).val) * 4 + (y 2).val) * 256 + (y 3).val) % 1024) = ((y 2).val * 256 + (y 3).val) by omega)

include hα hw hβ in
theorem v26_val : M4 (val_main_v26 (F := Ideal) x3 x4 x5) (fun b h r c => lgate α w β 0 (b * 256 + r) (h * 256 + c)) := fun y => by
  have h0 : (y 0).val < 2 := (y 0).isLt
  have h1 : (y 1).val < 4 := (y 1).isLt
  have h2 : (y 2).val < 256 := (y 2).isLt
  have h3 : (y 3).val < 256 := (y 3).isLt
  refine (val_main_v26_apply (F := Ideal) x3 x4 x5 y).trans ((v25_val hα hw hβ (idx_main_v26 y)).trans (congrArg (fun t : ℝ => (t : EReal)) ?_))
  show lgate α w β 0 (((y 0).val) * 256 + ((y 2).val)) (((y 1).val) * 256 + ((y 3).val)) = lgate α w β 0 ((y 0).val * 256 + (y 2).val) ((y 1).val * 256 + (y 3).val)
  exact congrArg₂ (lgate α w β 0) (show (((y 0).val) * 256 + ((y 2).val)) = ((y 0).val * 256 + (y 2).val) by omega) (show (((y 1).val) * 256 + ((y 3).val)) = ((y 1).val * 256 + (y 3).val) by omega)

include hw in
theorem v27_val : M4 (val_main_v27 (F := Ideal) x4) (fun b h r c => w b (1 + h) r c) := fun y => by
  have h0 : (y 0).val < 1 := (y 0).isLt
  have h1 : (y 1).val < 1 := (y 1).isLt
  have h2 : (y 2).val < 128 := (y 2).isLt
  have h3 : (y 3).val < 1024 := (y 3).isLt
  refine (val_main_v27_apply (F := Ideal) x4 y).trans ((hw (idx_main_v27 y)).trans (congrArg (fun t : ℝ => (t : EReal)) ?_))
  show w ((y 0).val) (1 + (y 1).val) ((y 2).val) ((y 3).val) = w (y 0).val (1 + (y 1).val) (y 2).val (y 3).val
  rfl

include hw in
theorem v28_val : M2 (val_main_v28 (F := Ideal) x4) (fun r c => w 0 1 r c) := fun y => by
  have h0 : (y 0).val < 128 := (y 0).isLt
  have h1 : (y 1).val < 1024 := (y 1).isLt
  refine (val_main_v28_apply (F := Ideal) x4 y).trans ((v27_val hw (idx_main_v28 y)).trans (congrArg (fun t : ℝ => (t : EReal)) ?_))
  show w (0) (1 + (0)) (((y 0).val * 1024 + (y 1).val) / 1024 % 128) (((y 0).val * 1024 + (y 1).val) % 1024) = w 0 1 (y 0).val (y 1).val
  rw [show (1 + (0)) = 1 by omega, show (((y 0).val * 1024 + (y 1).val) / 1024 % 128) = (y 0).val by omega, show (((y 0).val * 1024 + (y 1).val) % 1024) = (y 1).val by omega]

include hw in
theorem v29_val : M2 (val_main_v29 (F := Ideal) x4) (fun r c => w 0 1 r c) := fun y => v28_val hw y

include hβ in
theorem v31_val : M4 (val_main_v31 (F := Ideal) x5) (fun b h r c => β b (1 + h) r c) := fun y => by
  have h0 : (y 0).val < 1 := (y 0).isLt
  have h1 : (y 1).val < 1 := (y 1).isLt
  have h2 : (y 2).val < 1 := (y 2).isLt
  have h3 : (y 3).val < 1024 := (y 3).isLt
  refine (val_main_v31_apply (F := Ideal) x5 y).trans ((hβ (idx_main_v31 y)).trans (congrArg (fun t : ℝ => (t : EReal)) ?_))
  show β ((y 0).val) (1 + (y 1).val) ((y 2).val) ((y 3).val) = β (y 0).val (1 + (y 1).val) (y 2).val (y 3).val
  rfl

include hβ in
theorem v32_val : M2 (val_main_v32 (F := Ideal) x5) (fun r c => β 0 1 0 c) := fun y => by
  have h0 : (y 0).val < 1 := (y 0).isLt
  have h1 : (y 1).val < 1024 := (y 1).isLt
  refine (val_main_v32_apply (F := Ideal) x5 y).trans ((v31_val hβ (idx_main_v32 y)).trans (congrArg (fun t : ℝ => (t : EReal)) ?_))
  show β (0) (1 + (0)) (0) (((y 0).val * 1024 + (y 1).val) % 1024) = β 0 1 0 (y 1).val
  rw [show (1 + (0)) = 1 by omega, show (((y 0).val * 1024 + (y 1).val) % 1024) = (y 1).val by omega]

include hβ in
theorem v33_val : M3 (val_main_v33 (F := Ideal) x5) (fun b r c => β 0 1 0 c) := fun y => by
  have h0 : (y 0).val < 1 := (y 0).isLt
  have h1 : (y 1).val < 1 := (y 1).isLt
  have h2 : (y 2).val < 1024 := (y 2).isLt
  refine (val_main_v33_apply (F := Ideal) x5 y).trans ((v32_val hβ (idx_main_v33 y)).trans (congrArg (fun t : ℝ => (t : EReal)) ?_))
  show β 0 1 0 ((y 2).val) = β 0 1 0 (y 2).val
  rfl

include hβ in
theorem v34_val : M3 (val_main_v34 (F := Ideal) x5) (fun b r c => β 0 1 0 c) := fun y => by
  have h0 : (y 0).val < 2 := (y 0).isLt
  have h1 : (y 1).val < 256 := (y 1).isLt
  have h2 : (y 2).val < 1024 := (y 2).isLt
  refine (val_main_v34_apply (F := Ideal) x5 y).trans ((v33_val hβ (idx_main_v34 y)).trans (congrArg (fun t : ℝ => (t : EReal)) ?_))
  show β 0 1 0 ((y 2).val) = β 0 1 0 (y 2).val
  rfl

include hα hw in
theorem v30_val : M3 (val_main_v30 (F := Ideal) x3 x4) (fun b r c => ∑ l ∈ Finset.range 128, α (b * 256 + r) l * w 0 1 l c) := fun y => by
  refine (val_main_v30_apply x3 x4 y).trans (Eq.trans (Finset.sum_congr rfl fun l _ => ?_) (coe_sum 128 (fun l => α ((y 0).val * 256 + (y 1).val) l * w 0 1 l (y 2).val)))
  exact (congrArg₂ (fun a b : EReal => a * b) (v2_val hα _) (v29_val hw _)).trans (EReal.coe_mul _ _).symm
include hα hw hβ in
theorem v35_val : M3 (val_main_v35 (F := Ideal) x3 x4 x5) (fun b r c => zval α w β 1 (b * 256 + r) c) := fun y =>
  (congrArg₂ (fun a b : EReal => a + b) (v30_val hα hw y) (v34_val hβ y)).trans (EReal.coe_add _ _).symm
include hα hw hβ in
theorem v38_val : M3 (val_main_v38 (F := Ideal) x3 x4 x5) (fun b r c => lsig (zval α w β 1 (b * 256 + r) c) * (1 / 16)) := fun y => by
  show lsE (val_main_v35 (F := Ideal) x3 x4 x5 y) = _
  exact (congrArg lsE (v35_val hα hw hβ y)).trans (lsE_coe _)

include hα hw hβ in
theorem v39_val : M4 (val_main_v39 (F := Ideal) x3 x4 x5) (fun b h r c => lgate α w β 1 (b * 256 + h) (r * 256 + c)) := fun y => by
  have h0 : (y 0).val < 2 := (y 0).isLt
  have h1 : (y 1).val < 256 := (y 1).isLt
  have h2 : (y 2).val < 4 := (y 2).isLt
  have h3 : (y 3).val < 256 := (y 3).isLt
  refine (val_main_v39_apply (F := Ideal) x3 x4 x5 y).trans ((v38_val hα hw hβ (idx_main_v39 y)).trans (congrArg (fun t : ℝ => (t : EReal)) ?_))
  show lgate α w β 1 ((((((y 0).val * 256 + (y 1).val) * 4 + (y 2).val) * 256 + (y 3).val) / 262144) * 256 + (((((y 0).val * 256 + (y 1).val) * 4 + (y 2).val) * 256 + (y 3).val) / 1024 % 256)) (((((y 0).val * 256 + (y 1).val) * 4 + (y 2).val) * 256 + (y 3).val) % 1024) = lgate α w β 1 ((y 0).val * 256 + (y 1).val) ((y 2).val * 256 + (y 3).val)
  exact congrArg₂ (lgate α w β 1) (show ((((((y 0).val * 256 + (y 1).val) * 4 + (y 2).val) * 256 + (y 3).val) / 262144) * 256 + (((((y 0).val * 256 + (y 1).val) * 4 + (y 2).val) * 256 + (y 3).val) / 1024 % 256)) = ((y 0).val * 256 + (y 1).val) by omega) (show (((((y 0).val * 256 + (y 1).val) * 4 + (y 2).val) * 256 + (y 3).val) % 1024) = ((y 2).val * 256 + (y 3).val) by omega)

include hα hw hβ in
theorem v40_val : M4 (val_main_v40 (F := Ideal) x3 x4 x5) (fun b h r c => lgate α w β 1 (b * 256 + r) (h * 256 + c)) := fun y => by
  have h0 : (y 0).val < 2 := (y 0).isLt
  have h1 : (y 1).val < 4 := (y 1).isLt
  have h2 : (y 2).val < 256 := (y 2).isLt
  have h3 : (y 3).val < 256 := (y 3).isLt
  refine (val_main_v40_apply (F := Ideal) x3 x4 x5 y).trans ((v39_val hα hw hβ (idx_main_v40 y)).trans (congrArg (fun t : ℝ => (t : EReal)) ?_))
  show lgate α w β 1 (((y 0).val) * 256 + ((y 2).val)) (((y 1).val) * 256 + ((y 3).val)) = lgate α w β 1 ((y 0).val * 256 + (y 2).val) ((y 1).val * 256 + (y 3).val)
  exact congrArg₂ (lgate α w β 1) (show (((y 0).val) * 256 + ((y 2).val)) = ((y 0).val * 256 + (y 2).val) by omega) (show (((y 1).val) * 256 + ((y 3).val)) = ((y 1).val * 256 + (y 3).val) by omega)

end inputs

end Cert.ReferenceIdeal.GlaRef

end
-- ==== Proof.Gla.Value.Finite.lean ====
/- The precondition: each element of the four arrays the context's attention reads is a real number. -/
module

public import proofs.«01_k».proof.Defs
public import proofs.«01_k».proof.Proof.Gen.Pre_finite
public import proofs.«01_k».proof.Proof.Gla.Ref.Inputs

@[expose] public section

set_option maxRecDepth 16384

noncomputable section

namespace Cert.GlaFinite

open Idealize.ShloMosaic Idealize.ShloMosaic.TcCoe
open Cert.KernelIdeal.Gla (M2 eta2)
open Cert.ReferenceIdeal.GlaRef (M4)

attribute [local instance] Cert.Pre_finite.Gen.facts

/-- An element whose absolute value lies below infinity is a real number. -/
theorem coe_of_cmp {x : EReal} (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee]
  rw [e] at h
  have h' : max x (-x) < ⊤ := by
    by_contra hn
    simp [Ideal.cmp, hn] at h
  have h1 : x ≠ ⊤ := fun hx => by simp [hx] at h'
  have h2 : x ≠ ⊥ := fun hx => by simp [hx] at h'
  exact (EReal.coe_toReal h1 h2).symm

theorem exists2 {n m : ℕ} (x : (⟨2, ![n, m]⟩ : Shape).Idx → EReal) (h : ∀ y, x y = ((x y).toReal : EReal)) : ∃ f, M2 x f := by
  refine ⟨fun i j => if hij : i < n ∧ j < m then (x (ValueIdx.ix2 ⟨i, hij.1⟩ ⟨j, hij.2⟩)).toReal else 0, fun y => ?_⟩
  obtain ⟨i, j, rfl⟩ := eta2 y
  refine (h _).trans (congrArg (fun t : ℝ => (t : EReal)) ?_)
  refine Eq.trans ?_ (dif_pos (show i.val < n ∧ j.val < m from ⟨i.isLt, j.isLt⟩)).symm
  rfl

theorem exists4 {a b c d : ℕ} (x : (⟨4, ![a, b, c, d]⟩ : Shape).Idx → EReal) (h : ∀ y, x y = ((x y).toReal : EReal)) : ∃ f, M4 x f := by
  refine ⟨fun i j k l => if hh : (i < a ∧ j < b) ∧ k < c ∧ l < d then (x (ValueIdx.ix4 ⟨i, hh.1.1⟩ ⟨j, hh.1.2⟩ ⟨k, hh.2.1⟩ ⟨l, hh.2.2⟩)).toReal else 0, fun y => ?_⟩
  have ey : y = ValueIdx.ix4 (y 0) (y 1) (y 2) (y 3) := by
    funext q
    match q with
    | ⟨0, _⟩ => rfl
    | ⟨1, _⟩ => rfl
    | ⟨2, _⟩ => rfl
    | ⟨3, _⟩ => rfl
  refine (h _).trans (congrArg (fun t : ℝ => (t : EReal)) ?_)
  refine Eq.trans ?_ (dif_pos (show ((y 0).val < a ∧ (y 1).val < b) ∧ (y 2).val < c ∧ (y 3).val < d from ⟨⟨(y 0).isLt, (y 1).isLt⟩, (y 2).isLt, (y 3).isLt⟩)).symm
  exact congrArg (fun z => (x z).toReal) ey

variable {m : (ℓ : Loc Cert.KernelIdeal.nD Cert.KernelIdeal.τ Cert.KernelIdeal.sig) → Buf (Elt Ideal) ℓ}

theorem finite_args (h : Cert.Pre_KernelIdeal_finite m) (c : Dev Cert.KernelIdeal.nD) :
    (∃ p, M2 (n := 512) (m := 11264) (m ((c.tc : Thread Cert.KernelIdeal.nD Cert.KernelIdeal.τ).loc Cert.KernelIdeal.main_arg2)) p)
    ∧ (∃ α, M2 (n := 512) (m := 128) (m ((c.tc : Thread Cert.KernelIdeal.nD Cert.KernelIdeal.τ).loc Cert.KernelIdeal.main_arg3)) α)
    ∧ (∃ w, M4 (a := 4) (b := 2) (c := 128) (d := 1024) (m ((c.tc : Thread Cert.KernelIdeal.nD Cert.KernelIdeal.τ).loc Cert.KernelIdeal.main_arg4)) w)
    ∧ (∃ β, M4 (a := 4) (b := 2) (c := 1) (d := 1024) (m ((c.tc : Thread Cert.KernelIdeal.nD Cert.KernelIdeal.τ).loc Cert.KernelIdeal.main_arg5)) β) := by
  obtain ⟨h2, h3, h4, h5⟩ := h c
  exact ⟨exists2 _ fun y => coe_of_cmp (congrFun h2 y), exists2 _ fun y => coe_of_cmp (congrFun h3 y),
    exists4 _ fun y => coe_of_cmp (congrFun h4 y), exists4 _ fun y => coe_of_cmp (congrFun h5 y)⟩

end Cert.GlaFinite

end
-- ==== Proof.Gla.Ref.Scan.lean ====
/- The reference's two masked products, on finite arguments: what each adds to a row of values. -/
module

public import proofs.«01_k».proof.Proof.Gla.Ref.Inputs
public import Idealize.ShloMosaic.Lib.IdealHost

@[expose] public section

set_option maxRecDepth 16384

noncomputable section

namespace Cert.ReferenceIdeal.GlaRef

open Cert.ReferenceIdeal Cert.ReferenceIdeal.Gen Cert.ReferenceIdeal.Read
open Idealize.ShloMosaic Idealize.ShloMosaic.TcCoe Idealize.ShloMosaic.ValueIdx
open Cert.KernelIdeal.Gla (M2 coe_sum)
open scoped BigOperators

theorem M4.congr {a b c d : ℕ} {x : (⟨4, ![a, b, c, d]⟩ : Shape).Idx → EReal} {f g : ℕ → ℕ → ℕ → ℕ → ℝ} (h : M4 x f)
    (e : ∀ i j k l, i < a → j < b → k < c → l < d → f i j k l = g i j k l) : M4 x g :=
  fun y => (h y).trans (congrArg _ (e _ _ _ _ (y 0).isLt (y 1).isLt (y 2).isLt (y 3).isLt))

/-- A left fold by addition is its start plus the sum of what was added. -/
theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A window of width 256 that ends at `r`, over a sequence preceded by zeros, sums the first `r + 1` terms. -/
theorem window_sum (f : ℕ → ℝ) {r : ℕ} (hr : r < 256) :
    (∑ n ∈ Finset.range 256, if 255 ≤ r + n then f (r + n - 255) else 0) = ∑ l ∈ Finset.range (r + 1), f l := by
  have e : (256 : ℕ) = (255 - r) + (r + 1) := by omega
  rw [e, Finset.sum_range_add, Finset.sum_eq_zero, zero_add]
  · refine Finset.sum_congr rfl fun l hl => ?_
    rw [if_pos (by omega), show r + (255 - r + l) - 255 = l by omega]
  · intro n hn
    have := Finset.mem_range.1 hn
    rw [if_neg (by omega)]

/-- A float window sum at an index: the initial value and then, for each position of the window, the operand's element or,
    outside the operand, the initial value. -/
theorem windowAdd_apply {s t : Shape} (window strides lo hi : Fin s.rank → ℕ) (x : FVec Ideal s .f32) (init : FVec Ideal S_ .f32)
    (h : s.ReduceWindows window strides lo hi t) (h_ : 0 < S_.numel) (y : t.Idx) (g : Fin (⟨s.rank, window⟩ : Shape).numel → EReal)
    (hg : ∀ i : (⟨s.rank, window⟩ : Shape).Idx,
      (if hin : ∀ a, lo a ≤ (y (a.cast h.1.symm)).val * strides a + (i a).val ∧ (y (a.cast h.1.symm)).val * strides a + (i a).val - lo a < s.size a then
        x (fun a => ⟨(y (a.cast h.1.symm)).val * strides a + (i a).val - lo a, (hin a).2⟩) else init (Shape.Idx.first h_)) = g ((⟨s.rank, window⟩ : Shape).rowMajor i)) :
    Host.reduceWindowAdd (F := Ideal) window strides lo hi x init h h_ y = init (Shape.Idx.first h_) + ∑ n, g n := by
  rw [Fin.sum_univ_def, ← foldl_add]
  show (List.finRange (⟨s.rank, window⟩ : Shape).numel).foldl (fun r n => r + _) (init (Shape.Idx.first h_)) = _
  refine congrArg (fun f : EReal → Fin (⟨s.rank, window⟩ : Shape).numel → EReal => (List.finRange _).foldl f (init (Shape.Idx.first h_))) ?_
  funext r n
  obtain ⟨i, rfl⟩ := (⟨s.rank, window⟩ : Shape).rowMajor.surjective n
  have e := hg i
  refine congrArg (fun v : EReal => r + v) (Eq.trans ?_ e)
  dsimp only
  simp only [Equiv.symm_apply_apply]

/-- The window of the running sum. -/
abbrev W256 : Shape := ⟨4, ![1, 1, 256, 1]⟩

theorem W256_numel : W256.numel = 256 := by decide +kernel

/-- The running sum along the third axis. -/
theorem cumsum_val {x : FVec Ideal S2x4x256x256 .f32} {init : FVec Ideal S_ .f32} {f : ℕ → ℕ → ℕ → ℕ → ℝ}
    (hx : M4 (a := 2) (b := 4) (c := 256) (d := 256) x f) (hi : ∀ i, init i = 0) (h : S2x4x256x256.ReduceWindows ![1, 1, 256, 1] ![1, 1, 1, 1] ![0, 0, 255, 0] ![0, 0, 0, 0] S2x4x256x256) (h_ : 0 < S_.numel) :
    M4 (a := 2) (b := 4) (c := 256) (d := 256) (Host.reduceWindowAdd (F := Ideal) ![1, 1, 256, 1] ![1, 1, 1, 1] ![0, 0, 255, 0] ![0, 0, 0, 0] x init h h_)
      (fun b e r c => ∑ l ∈ Finset.range (r + 1), f b e l c) := by
  intro y
  have hy0 : (y 0).val < 2 := (y 0).isLt
  have hy1 : (y 1).val < 4 := (y 1).isLt
  have hy2 : (y 2).val < 256 := (y 2).isLt
  have hy3 : (y 3).val < 256 := (y 3).isLt
  refine (windowAdd_apply (s := S2x4x256x256) (t := S2x4x256x256) ![1, 1, 256, 1] ![1, 1, 1, 1] ![0, 0, 255, 0] ![0, 0, 0, 0] x init h h_ y
    (fun n => (((if 255 ≤ (y 2).val + n.val then f (y 0).val (y 1).val ((y 2).val + n.val - 255) (y 3).val else 0 : ℝ)) : EReal)) ?_).trans ?_
  · intro i
    have hi0 : (i 0).val < 1 := (i 0).isLt
    have hi1 : (i 1).val < 1 := (i 1).isLt
    have hi2 : (i 2).val < 256 := (i 2).isLt
    have hi3 : (i 3).val < 1 := (i 3).isLt
    have hv : (W256.rowMajor i).val = (i 2).val := by
      refine (Shape.rowMajor_val_four (d := ![1, 1, 256, 1]) i).trans ?_
      show (((i 0).val * 1 + (i 1).val) * 256 + (i 2).val) * 1 + (i 3).val = (i 2).val
      omega
    show _ = (((if 255 ≤ (y 2).val + (W256.rowMajor i).val then f (y 0).val (y 1).val ((y 2).val + (W256.rowMajor i).val - 255) (y 3).val else 0 : ℝ)) : EReal)
    rw [hv]
    by_cases hc : 255 ≤ (y 2).val + (i 2).val
    · rw [if_pos hc]
      refine (dif_pos fun a => match a with
        | ⟨0, _⟩ => by show 0 ≤ (y 0).val * 1 + (i 0).val ∧ (y 0).val * 1 + (i 0).val - 0 < 2; omega
        | ⟨1, _⟩ => by show 0 ≤ (y 1).val * 1 + (i 1).val ∧ (y 1).val * 1 + (i 1).val - 0 < 4; omega
        | ⟨2, _⟩ => by show 255 ≤ (y 2).val * 1 + (i 2).val ∧ (y 2).val * 1 + (i 2).val - 255 < 256; omega
        | ⟨3, _⟩ => by show 0 ≤ (y 3).val * 1 + (i 3).val ∧ (y 3).val * 1 + (i 3).val - 0 < 256; omega).trans ((hx _).trans (congrArg (fun t : ℝ => (t : EReal)) ?_))
      show f ((y 0).val * 1 + (i 0).val - 0) ((y 1).val * 1 + (i 1).val - 0) ((y 2).val * 1 + (i 2).val - 255) ((y 3).val * 1 + (i 3).val - 0) = _
      rw [show (y 0).val * 1 + (i 0).val - 0 = (y 0).val by omega, show (y 1).val * 1 + (i 1).val - 0 = (y 1).val by omega,
        show (y 2).val * 1 + (i 2).val - 255 = (y 2).val + (i 2).val - 255 by omega, show (y 3).val * 1 + (i 3).val - 0 = (y 3).val by omega]
    · rw [if_neg hc]
      refine (dif_neg fun hin => hc ?_).trans ((hi _).trans EReal.coe_zero.symm)
      have : 255 ≤ (y 2).val * 1 + (i 2).val := (hin 2).1
      omega
  · rw [hi, zero_add]
    refine (coe_sum W256.numel (fun n => if 255 ≤ (y 2).val + n then f (y 0).val (y 1).val ((y 2).val + n - 255) (y 3).val else 0)).trans ?_
    rw [W256_numel]
    exact congrArg (fun t : ℝ => (t : EReal)) (window_sum (fun l => f (y 0).val (y 1).val l (y 3).val) hy2)

/-- The third axis reversed. -/
theorem rev_val {a b c d : ℕ} {x : (⟨4, ![a, b, c, d]⟩ : Shape).Idx → EReal} {f : ℕ → ℕ → ℕ → ℕ → ℝ} (hx : M4 x f) :
    M4 (a := a) (b := b) (c := c) (d := d) (Host.reverse (s := ⟨4, ![a, b, c, d]⟩) [2] x) (fun i j k l => f i j (c - (k + 1)) l) := fun y => hx _

/-- Scores of queries against keys, each scaled by the decay relative to `C`. -/
def SR (q k C : ℕ → ℕ → ℝ) (r s : ℕ) : ℝ := ∑ l ∈ Finset.range 256, q r l * k s l * Real.exp (C r l - C s l)

/-- The masked product of one direction, by rows and columns. -/
def RF (q k v C : ℕ → ℕ → ℝ) (r c : ℕ) : ℝ := ∑ s ∈ Finset.range 256, (if s ≤ r then SR q k C r s else 0) * v s c

theorem pair_exp (q k a b m : ℝ) : (q * Real.exp (a - m)) * (k * Real.exp (m - b)) = q * k * Real.exp (a - b) := by
  rw [show a - b = (a - m) + (m - b) by ring, Real.exp_add]; ring

/-- The lower triangular mask at an index. -/
theorem tril_bit : ∀ i j : Fin 256, IntOp.cmpi .sge (IntOp.addi (BitVec.ofNat 32 i.val) 0#32) (BitVec.ofNat 32 j.val) = (if j.val ≤ i.val then 1#1 else 0#1) := by
  intro i j
  have hi := i.isLt
  have hj := j.isLt
  have e : IntOp.addi (BitVec.ofNat 32 i.val) 0#32 = BitVec.ofNat 32 i.val := BitVec.add_zero _
  rw [e]
  have t : ∀ n : ℕ, n < 256 → (BitVec.ofNat 32 n).toInt = n := fun n hn => by
    have h1 : (BitVec.ofNat 32 n).toNat = n := by rw [BitVec.toNat_ofNat]; exact Nat.mod_eq_of_lt (by omega)
    rw [BitVec.toInt_eq_toNat_of_lt (by rw [h1]; omega), h1]
  show BitVec.ofBool (decide ((BitVec.ofNat 32 j.val).toInt ≤ (BitVec.ofNat 32 i.val).toInt)) = _
  rw [t _ hi, t _ hj]
  by_cases h : j.val ≤ i.val
  · rw [if_pos h, decide_eq_true (by exact_mod_cast h)]; rfl
  · rw [if_neg h, decide_eq_false (by exact_mod_cast h)]; rfl

/-! ## Forwards -/

section
variable {x2 : (⟨S512x11264, .bf16⟩ : BufTy).Contents (Elt Ideal)} {x3 : (⟨S512x128, .f32⟩ : BufTy).Contents (Elt Ideal)}
  {x4 : (⟨S4x2x128x1024, .bf16⟩ : BufTy).Contents (Elt Ideal)} {x5 : (⟨S4x2x1x1024, .f32⟩ : BufTy).Contents (Elt Ideal)} {q k v g : ℕ → ℕ → ℕ → ℕ → ℝ}
  (hq : M4 (a := 2) (b := 4) (c := 256) (d := 256) (val_main_v8 (F := Ideal) x2) q) (hk : M4 (a := 2) (b := 4) (c := 256) (d := 256) (val_main_v10 (F := Ideal) x2) k)
  (hv : M4 (a := 2) (b := 4) (c := 256) (d := 512) (val_main_v12 (F := Ideal) x2) v) (hg : M4 (a := 2) (b := 4) (c := 256) (d := 256) (val_main_v26 (F := Ideal) x3 x4 x5) g)

include hg in
theorem v41_val : M4 (a := 2) (b := 4) (c := 256) (d := 256) (val_main_v41 (F := Ideal) x3 x4 x5) (fun b h r c => ∑ l ∈ Finset.range (r + 1), g b h l c) := by
  unfold val_main_v41
  exact cumsum_val hg (fun i => (val_main_call2_call0_v0_apply (F := Ideal) i).trans Ideal.ofBits_zero_f32) _ _

variable {C : ℕ → ℕ → ℕ → ℕ → ℝ} (hC : M4 (a := 2) (b := 4) (c := 256) (d := 256) (val_main_v41 (F := Ideal) x3 x4 x5) C)

include hC in
theorem row42_val : ∀ y, val_main_v42 (F := Ideal) x3 x4 x5 y = ((C (y 0).val (y 1).val 127 (y 3).val : ℝ) : EReal) := fun y => by
  have h2 : (y 2).val < 1 := (y 2).isLt
  refine (val_main_v42_apply (F := Ideal) x3 x4 x5 y).trans ((hC (idx_main_v42 y)).trans (congrArg (fun t : ℝ => (t : EReal)) ?_))
  show C (y 0).val (y 1).val (127 + (y 2).val) (y 3).val = _
  rw [show 127 + (y 2).val = 127 by omega]

include hq hC in
theorem v46_val : M4 (a := 2) (b := 4) (c := 256) (d := 256) (val_main_v46 (F := Ideal) x2 x3 x4 x5) (fun b h r l => q b h r l * Real.exp (C b h r l - C b h 127 l)) := fun y => by
  have e1 : val_main_v43 (F := Ideal) x3 x4 x5 y = ((C (y 0).val (y 1).val 127 (y 3).val : ℝ) : EReal) :=
    (val_main_v43_apply (F := Ideal) x3 x4 x5 y).trans (row42_val hC _)
  show val_main_v8 (F := Ideal) x2 y * Ideal.exp (val_main_v41 (F := Ideal) x3 x4 x5 y - val_main_v43 (F := Ideal) x3 x4 x5 y) = _
  rw [hq y, hC y, e1, ← EReal.coe_sub, Ideal.exp_coe, ← EReal.coe_mul]

include hk hC in
theorem v50_val : M4 (a := 2) (b := 4) (c := 256) (d := 256) (val_main_v50 (F := Ideal) x2 x3 x4 x5) (fun b h r l => k b h r l * Real.exp (C b h 127 l - C b h r l)) := fun y => by
  have e1 : val_main_v47 (F := Ideal) x3 x4 x5 y = ((C (y 0).val (y 1).val 127 (y 3).val : ℝ) : EReal) :=
    (val_main_v47_apply (F := Ideal) x3 x4 x5 y).trans (row42_val hC _)
  show val_main_v10 (F := Ideal) x2 y * Ideal.exp (val_main_v47 (F := Ideal) x3 x4 x5 y - val_main_v41 (F := Ideal) x3 x4 x5 y) = _
  rw [hk y, hC y, e1, ← EReal.coe_sub, Ideal.exp_coe, ← EReal.coe_mul]

include hq hk hC in
theorem v51_val : M4 (a := 2) (b := 4) (c := 256) (d := 256) (val_main_v51 (F := Ideal) x2 x3 x4 x5) (fun b h r s => SR (q b h) (k b h) (C b h) r s) := fun y => by
  refine (val_main_v51_apply x2 x3 x4 x5 y).trans (Eq.trans (Finset.sum_congr rfl fun l _ => ?_)
    ((coe_sum 256 (fun l => (q (y 0).val (y 1).val (y 2).val l * Real.exp (C (y 0).val (y 1).val (y 2).val l - C (y 0).val (y 1).val 127 l)) *
      (k (y 0).val (y 1).val (y 3).val l * Real.exp (C (y 0).val (y 1).val 127 l - C (y 0).val (y 1).val (y 3).val l)))).trans
      (congrArg (fun t : ℝ => (t : EReal)) (Finset.sum_congr rfl fun l _ => pair_exp _ _ _ _ _))))
  exact (congrArg₂ (fun a b : EReal => a * b) (v46_val hq hC _) (v50_val hk hC _)).trans (EReal.coe_mul _ _).symm

theorem v53_bit (i : S256x256.Idx) : val_main_v53 (F := Ideal) i = (if (i 1).val ≤ (i 0).val then 1#1 else 0#1) := by
  have e : val_main_call3_v4 (F := Ideal) i = (if (i 1).val ≤ (i 0).val then 1#1 else 0#1) := by
    refine Eq.trans ?_ (tril_bit ⟨(i 0).val, (i 0).isLt⟩ ⟨(i 1).val, (i 1).isLt⟩)
    show IntOp.cmpi .sge (IntOp.addi (BitVec.ofNat 32 (i 0).val) (val_main_call3_v1 (F := Ideal) i)) (BitVec.ofNat 32 (i 1).val) = _
    rw [show val_main_call3_v1 (F := Ideal) i = 0#32 from val_main_call3_v1_apply (F := Ideal) i]
  have e1 : val_main_v52 (F := Ideal) i = 1#1 := val_main_v52_apply (F := Ideal) i
  have e2 : val_main_call3_v5 (F := Ideal) i = 0#1 := val_main_call3_v5_apply (F := Ideal) i
  refine (val_main_v53_apply (F := Ideal) i).trans ?_
  rw [e, e1, e2]
  by_cases h : (i 1).val ≤ (i 0).val
  · rw [if_pos h]; rfl
  · rw [if_neg h]; rfl

include hq hk hC in
theorem v54_val : M4 (a := 2) (b := 4) (c := 256) (d := 256) (val_main_v54 (F := Ideal) x2 x3 x4 x5) (fun b h r s => if s ≤ r then SR (q b h) (k b h) (C b h) r s else 0) := fun y => by
  have e1 : val_main_call4_v1 (F := Ideal) y = (if (y 3).val ≤ (y 2).val then 1#1 else 0#1) :=
    (val_main_call4_v1_apply (F := Ideal) y).trans (v53_bit _)
  have e2 : val_main_call4_v2 (F := Ideal) y = ((0 : ℝ) : EReal) := (val_main_call4_v2_apply (F := Ideal) y).trans Ideal.ofBits_zero_f32
  refine (val_main_v54_apply (F := Ideal) x2 x3 x4 x5 y).trans ?_
  rw [e1, e2, v51_val hq hk hC y]
  show Scalar.select _ ((SR (q (y 0).val (y 1).val) (k (y 0).val (y 1).val) (C (y 0).val (y 1).val) (y 2).val (y 3).val : ℝ) : EReal) _ =
    (((if (y 3).val ≤ (y 2).val then SR (q (y 0).val (y 1).val) (k (y 0).val (y 1).val) (C (y 0).val (y 1).val) (y 2).val (y 3).val else 0 : ℝ)) : EReal)
  by_cases h : (y 3).val ≤ (y 2).val
  · rw [if_pos h, if_pos h]; rfl
  · rw [if_neg h, if_neg h]; rfl

include hq hk hv hC in
theorem v55_val : M4 (a := 2) (b := 4) (c := 256) (d := 512) (val_main_v55 (F := Ideal) x2 x3 x4 x5) (fun b h r c => RF (q b h) (k b h) (v b h) (C b h) r c) := fun y => by
  refine (val_main_v55_apply x2 x3 x4 x5 y).trans (Eq.trans (Finset.sum_congr rfl fun s _ => ?_)
    (coe_sum 256 (fun s => (if s ≤ (y 2).val then SR (q (y 0).val (y 1).val) (k (y 0).val (y 1).val) (C (y 0).val (y 1).val) (y 2).val s else 0) * v (y 0).val (y 1).val s (y 3).val)))
  exact (congrArg₂ (fun a b : EReal => a * b) (v54_val hq hk hC _) (hv _)).trans (EReal.coe_mul _ _).symm

end

/-! ## Backwards -/

section
variable {x2 : (⟨S512x11264, .bf16⟩ : BufTy).Contents (Elt Ideal)} {x3 : (⟨S512x128, .f32⟩ : BufTy).Contents (Elt Ideal)}
  {x4 : (⟨S4x2x128x1024, .bf16⟩ : BufTy).Contents (Elt Ideal)} {x5 : (⟨S4x2x1x1024, .f32⟩ : BufTy).Contents (Elt Ideal)} {q k v g : ℕ → ℕ → ℕ → ℕ → ℝ}
  (hq : M4 (a := 2) (b := 4) (c := 256) (d := 256) (val_main_v56 (F := Ideal) x2) q) (hk : M4 (a := 2) (b := 4) (c := 256) (d := 256) (val_main_v57 (F := Ideal) x2) k)
  (hv : M4 (a := 2) (b := 4) (c := 256) (d := 512) (val_main_v58 (F := Ideal) x2) v) (hg : M4 (a := 2) (b := 4) (c := 256) (d := 256) (val_main_v59 (F := Ideal) x3 x4 x5) g)

include hg in
theorem v60_val : M4 (a := 2) (b := 4) (c := 256) (d := 256) (val_main_v60 (F := Ideal) x3 x4 x5) (fun b h r c => ∑ l ∈ Finset.range (r + 1), g b h l c) := by
  unfold val_main_v60
  exact cumsum_val hg (fun i => (val_main_call9_call0_v0_apply (F := Ideal) i).trans Ideal.ofBits_zero_f32) _ _

variable {C : ℕ → ℕ → ℕ → ℕ → ℝ} (hC : M4 (a := 2) (b := 4) (c := 256) (d := 256) (val_main_v60 (F := Ideal) x3 x4 x5) C)

include hC in
theorem row61_val : ∀ y, val_main_v61 (F := Ideal) x3 x4 x5 y = ((C (y 0).val (y 1).val 127 (y 3).val : ℝ) : EReal) := fun y => by
  have h2 : (y 2).val < 1 := (y 2).isLt
  refine (val_main_v61_apply (F := Ideal) x3 x4 x5 y).trans ((hC (idx_main_v61 y)).trans (congrArg (fun t : ℝ => (t : EReal)) ?_))
  show C (y 0).val (y 1).val (127 + (y 2).val) (y 3).val = _
  rw [show 127 + (y 2).val = 127 by omega]

include hq hC in
theorem v65_val : M4 (a := 2) (b := 4) (c := 256) (d := 256) (val_main_v65 (F := Ideal) x2 x3 x4 x5) (fun b h r l => q b h r l * Real.exp (C b h r l - C b h 127 l)) := fun y => by
  have e1 : val_main_v62 (F := Ideal) x3 x4 x5 y = ((C (y 0).val (y 1).val 127 (y 3).val : ℝ) : EReal) :=
    (val_main_v62_apply (F := Ideal) x3 x4 x5 y).trans (row61_val hC _)
  show val_main_v56 (F := Ideal) x2 y * Ideal.exp (val_main_v60 (F := Ideal) x3 x4 x5 y - val_main_v62 (F := Ideal) x3 x4 x5 y) = _
  rw [hq y, hC y, e1, ← EReal.coe_sub, Ideal.exp_coe, ← EReal.coe_mul]

include hk hC in
theorem v69_val : M4 (a := 2) (b := 4) (c := 256) (d := 256) (val_main_v69 (F := Ideal) x2 x3 x4 x5) (fun b h r l => k b h r l * Real.exp (C b h 127 l - C b h r l)) := fun y => by
  have e1 : val_main_v66 (F := Ideal) x3 x4 x5 y = ((C (y 0).val (y 1).val 127 (y 3).val : ℝ) : EReal) :=
    (val_main_v66_apply (F := Ideal) x3 x4 x5 y).trans (row61_val hC _)
  show val_main_v57 (F := Ideal) x2 y * Ideal.exp (val_main_v66 (F := Ideal) x3 x4 x5 y - val_main_v60 (F := Ideal) x3 x4 x5 y) = _
  rw [hk y, hC y, e1, ← EReal.coe_sub, Ideal.exp_coe, ← EReal.coe_mul]

include hq hk hC in
theorem v70_val : M4 (a := 2) (b := 4) (c := 256) (d := 256) (val_main_v70 (F := Ideal) x2 x3 x4 x5) (fun b h r s => SR (q b h) (k b h) (C b h) r s) := fun y => by
  refine (val_main_v70_apply x2 x3 x4 x5 y).trans (Eq.trans (Finset.sum_congr rfl fun l _ => ?_)
    ((coe_sum 256 (fun l => (q (y 0).val (y 1).val (y 2).val l * Real.exp (C (y 0).val (y 1).val (y 2).val l - C (y 0).val (y 1).val 127 l)) *
      (k (y 0).val (y 1).val (y 3).val l * Real.exp (C (y 0).val (y 1).val 127 l - C (y 0).val (y 1).val (y 3).val l)))).trans
      (congrArg (fun t : ℝ => (t : EReal)) (Finset.sum_congr rfl fun l _ => pair_exp _ _ _ _ _))))
  exact (congrArg₂ (fun a b : EReal => a * b) (v65_val hq hC _) (v69_val hk hC _)).trans (EReal.coe_mul _ _).symm

theorem v72_bit (i : S256x256.Idx) : val_main_v72 (F := Ideal) i = (if (i 1).val ≤ (i 0).val then 1#1 else 0#1) := by
  have e : val_main_call10_v4 (F := Ideal) i = (if (i 1).val ≤ (i 0).val then 1#1 else 0#1) := by
    refine Eq.trans ?_ (tril_bit ⟨(i 0).val, (i 0).isLt⟩ ⟨(i 1).val, (i 1).isLt⟩)
    show IntOp.cmpi .sge (IntOp.addi (BitVec.ofNat 32 (i 0).val) (val_main_call10_v1 (F := Ideal) i)) (BitVec.ofNat 32 (i 1).val) = _
    rw [show val_main_call10_v1 (F := Ideal) i = 0#32 from val_main_call10_v1_apply (F := Ideal) i]
  have e1 : val_main_v71 (F := Ideal) i = 1#1 := val_main_v71_apply (F := Ideal) i
  have e2 : val_main_call10_v5 (F := Ideal) i = 0#1 := val_main_call10_v5_apply (F := Ideal) i
  refine (val_main_v72_apply (F := Ideal) i).trans ?_
  rw [e, e1, e2]
  by_cases h : (i 1).val ≤ (i 0).val
  · rw [if_pos h]; rfl
  · rw [if_neg h]; rfl

include hq hk hC in
theorem v73_val : M4 (a := 2) (b := 4) (c := 256) (d := 256) (val_main_v73 (F := Ideal) x2 x3 x4 x5) (fun b h r s => if s ≤ r then SR (q b h) (k b h) (C b h) r s else 0) := fun y => by
  have e1 : val_main_call11_v1 (F := Ideal) y = (if (y 3).val ≤ (y 2).val then 1#1 else 0#1) :=
    (val_main_call11_v1_apply (F := Ideal) y).trans (v72_bit _)
  have e2 : val_main_call11_v2 (F := Ideal) y = ((0 : ℝ) : EReal) := (val_main_call11_v2_apply (F := Ideal) y).trans Ideal.ofBits_zero_f32
  refine (val_main_v73_apply (F := Ideal) x2 x3 x4 x5 y).trans ?_
  rw [e1, e2, v70_val hq hk hC y]
  show Scalar.select _ ((SR (q (y 0).val (y 1).val) (k (y 0).val (y 1).val) (C (y 0).val (y 1).val) (y 2).val (y 3).val : ℝ) : EReal) _ =
    (((if (y 3).val ≤ (y 2).val then SR (q (y 0).val (y 1).val) (k (y 0).val (y 1).val) (C (y 0).val (y 1).val) (y 2).val (y 3).val else 0 : ℝ)) : EReal)
  by_cases h : (y 3).val ≤ (y 2).val
  · rw [if_pos h, if_pos h]; rfl
  · rw [if_neg h, if_neg h]; rfl

include hq hk hv hC in
theorem v74_val : M4 (a := 2) (b := 4) (c := 256) (d := 512) (val_main_v74 (F := Ideal) x2 x3 x4 x5) (fun b h r c => RF (q b h) (k b h) (v b h) (C b h) r c) := fun y => by
  refine (val_main_v74_apply x2 x3 x4 x5 y).trans (Eq.trans (Finset.sum_congr rfl fun s _ => ?_)
    (coe_sum 256 (fun s => (if s ≤ (y 2).val then SR (q (y 0).val (y 1).val) (k (y 0).val (y 1).val) (C (y 0).val (y 1).val) (y 2).val s else 0) * v (y 0).val (y 1).val s (y 3).val)))
  exact (congrArg₂ (fun a b : EReal => a * b) (v73_val hq hk hC _) (hv _)).trans (EReal.coe_mul _ _).symm

end

end Cert.ReferenceIdeal.GlaRef
-- ==== Proof.Gla.Ref.Norm.lean ====
/- The reference's sum of the two directions, and its normalised, gated result. -/
module

public import proofs.«01_k».proof.Proof.Gla.Ref.Scan

@[expose] public section

set_option maxRecDepth 16384

noncomputable section

namespace Cert.ReferenceIdeal.GlaRef

open Cert.ReferenceIdeal Cert.ReferenceIdeal.Gen Cert.ReferenceIdeal.Read
open Idealize.ShloMosaic Idealize.ShloMosaic.TcCoe Idealize.ShloMosaic.ValueIdx
open Cert.KernelIdeal.Gla (M2 coe_sum)
open scoped BigOperators

/-- A row's element divided by the row's root mean square. -/
def normE (f : ℕ → ℝ) (c : ℕ) : EReal :=
  (f c : EReal) * Ideal.rsqrt (Ideal.div (∑ k : Fin 512, (f k.val : EReal) * (f k.val : EReal)) (Ideal.ofBits .f32 0x44000000#32) + Ideal.ofBits .f32 0x358637BD#32)

theorem normE_congr {f g : ℕ → ℝ} (h : ∀ k, k < 512 → f k = g k) {c : ℕ} (hc : c < 512) : normE f c = normE g c := by
  unfold normE
  rw [h c hc, Finset.sum_congr rfl fun (k : Fin 512) _ => by rw [h k.val k.isLt]]

section
variable {x2 : (⟨S512x11264, .bf16⟩ : BufTy).Contents (Elt Ideal)} {x3 : (⟨S512x128, .f32⟩ : BufTy).Contents (Elt Ideal)}
  {x4 : (⟨S4x2x128x1024, .bf16⟩ : BufTy).Contents (Elt Ideal)} {x5 : (⟨S4x2x1x1024, .f32⟩ : BufTy).Contents (Elt Ideal)}

section sum
variable {q k v gF gB : ℕ → ℕ → ℕ → ℕ → ℝ}
  (hq : M4 (a := 2) (b := 4) (c := 256) (d := 256) (val_main_v8 (F := Ideal) x2) q) (hk : M4 (a := 2) (b := 4) (c := 256) (d := 256) (val_main_v10 (F := Ideal) x2) k)
  (hv : M4 (a := 2) (b := 4) (c := 256) (d := 512) (val_main_v12 (F := Ideal) x2) v)
  (hF : M4 (a := 2) (b := 4) (c := 256) (d := 256) (val_main_v26 (F := Ideal) x3 x4 x5) gF) (hB : M4 (a := 2) (b := 4) (c := 256) (d := 256) (val_main_v40 (F := Ideal) x3 x4 x5) gB)

/-- A sequence from its end. -/
def back (f : ℕ → ℕ → ℝ) (r c : ℕ) : ℝ := f (256 - (r + 1)) c

include hq hk hv hF hB in
theorem v76_val : M4 (a := 2) (b := 4) (c := 256) (d := 512) (val_main_v76 (F := Ideal) x2 x3 x4 x5) (fun b h r c =>
    RF (q b h) (k b h) (v b h) (fun r l => ∑ i ∈ Finset.range (r + 1), gF b h i l) r c
      + RF (back (q b h)) (back (k b h)) (back (v b h)) (fun r l => ∑ i ∈ Finset.range (r + 1), back (gB b h) i l) (256 - (r + 1)) c) := fun y =>
  (congrArg₂ (fun a b : EReal => a + b) (v55_val hq hk hv (v41_val hF) y)
    (rev_val (x := val_main_v74 (F := Ideal) x2 x3 x4 x5)
      (v74_val (rev_val (x := val_main_v8 (F := Ideal) x2) hq) (rev_val (x := val_main_v10 (F := Ideal) x2) hk) (rev_val (x := val_main_v12 (F := Ideal) x2) hv)
        (v60_val (rev_val (x := val_main_v40 (F := Ideal) x3 x4 x5) hB))) y)).trans (EReal.coe_add _ _).symm

end sum

variable {f : ℕ → ℕ → ℕ → ℕ → ℝ} {p : ℕ → ℕ → ℝ}
  (hf : M4 (a := 2) (b := 4) (c := 256) (d := 512) (val_main_v76 (F := Ideal) x2 x3 x4 x5) f) (hp : M2 (n := 512) (m := 11264) x2 p)

include hf in
theorem v77_val : M4 (a := 2) (b := 256) (c := 4) (d := 512) (val_main_v77 (F := Ideal) x2 x3 x4 x5) (fun b r h c => f b h r c) := fun y =>
  (val_main_v77_apply (F := Ideal) x2 x3 x4 x5 y).trans (hf (idx_main_v77 y))

include hf in
theorem v79_val (y : S2x256x4.Idx) : val_main_v79 (F := Ideal) x2 x3 x4 x5 y
    = ∑ k : Fin 512, (f (y 0).val (y 2).val (y 1).val k.val : EReal) * (f (y 0).val (y 2).val (y 1).val k.val : EReal) := by
  refine (val_main_v79_apply x2 x3 x4 x5 y).trans ?_
  rw [show (val_main_cst_4 (F := Ideal)) (Shape.Idx.first h_S_) = 0 from Ideal.ofBits_zero_f32, zero_add]
  exact Finset.sum_congr rfl fun k _ => congrArg₂ (fun a b : EReal => a * b) (v77_val hf _) (v77_val hf _)

include hf in
theorem v87_val (y : S2x256x4x512.Idx) : val_main_v87 (F := Ideal) x2 x3 x4 x5 y = normE (f (y 0).val (y 2).val (y 1).val) (y 3).val := by
  have e1 : val_main_v86 (F := Ideal) x2 x3 x4 x5 y = Ideal.rsqrt (Ideal.div (val_main_v80 (F := Ideal) x2 x3 x4 x5 (idx_main_v86 y))
      (val_main_v81 (F := Ideal) (idx_main_v86 y)) + val_main_v83 (F := Ideal) (idx_main_v86 y)) := val_main_v86_apply (F := Ideal) x2 x3 x4 x5 y
  have e2 : val_main_v80 (F := Ideal) x2 x3 x4 x5 (idx_main_v86 y) = _ := (val_main_v80_apply (F := Ideal) x2 x3 x4 x5 _).trans (v79_val hf _)
  have e3 : val_main_v81 (F := Ideal) (idx_main_v86 y) = Ideal.ofBits .f32 0x44000000#32 := val_main_v81_apply (F := Ideal) _
  have e4 : val_main_v83 (F := Ideal) (idx_main_v86 y) = Ideal.ofBits .f32 0x358637BD#32 := val_main_v83_apply (F := Ideal) _
  rw [e2, e3, e4] at e1
  exact congrArg₂ (fun a b : EReal => a * b) (v77_val hf y) e1

include hf hp in
/-- The result at a row and a column. -/
theorem v91_val (y : S512x2048.Idx) : val_main_v91 (F := Ideal) x2 x3 x4 x5 y
    = normE (f ((y 0).val / 256) ((y 1).val / 512) ((y 0).val % 256)) ((y 1).val % 512) * ((p (y 0).val (4096 + (y 1).val) : ℝ) : EReal) := by
  have h0 : (y 0).val < 512 := (y 0).isLt
  have h1 : (y 1).val < 2048 := (y 1).isLt
  have e : val_main_v91 (F := Ideal) x2 x3 x4 x5 y = val_main_v89 (F := Ideal) x2 x3 x4 x5 (idx_main_v90 y) := val_main_v90_apply (F := Ideal) x2 x3 x4 x5 y
  refine e.trans ?_
  have z0 : ((idx_main_v90 y) 0).val = (y 0).val / 256 := by
    show ((y 0).val * 2048 + (y 1).val) / 524288 = _; omega
  have z1 : ((idx_main_v90 y) 1).val = (y 0).val % 256 := by
    show ((y 0).val * 2048 + (y 1).val) / 2048 % 256 = _; omega
  have z2 : ((idx_main_v90 y) 2).val = (y 1).val := by
    show ((y 0).val * 2048 + (y 1).val) % 2048 = _; omega
  generalize idx_main_v90 y = z at z0 z1 z2 ⊢
  have g : val_main_v6 (F := Ideal) x2 z = ((p (y 0).val (4096 + (y 1).val) : ℝ) : EReal) := by
    refine (v6_val hp z).trans (congrArg (fun t : ℝ => (t : EReal)) ?_)
    exact congrArg₂ p (by rw [z0, z1]; omega) (by rw [z2])
  have n : val_main_v88 (F := Ideal) x2 x3 x4 x5 z = normE (f ((y 0).val / 256) ((y 1).val / 512) ((y 0).val % 256)) ((y 1).val % 512) := by
    refine (val_main_v88_apply (F := Ideal) x2 x3 x4 x5 z).trans ((v87_val hf _).trans ?_)
    have w0 : ((idx_main_v88 z) 0).val = (y 0).val / 256 := by
      show (((z 0).val * 256 + (z 1).val) * 2048 + (z 2).val) / 524288 = _; omega
    have w1 : ((idx_main_v88 z) 1).val = (y 0).val % 256 := by
      show (((z 0).val * 256 + (z 1).val) * 2048 + (z 2).val) / 2048 % 256 = _; omega
    have w2 : ((idx_main_v88 z) 2).val = (y 1).val / 512 := by
      show (((z 0).val * 256 + (z 1).val) * 2048 + (z 2).val) / 512 % 4 = _; omega
    have w3 : ((idx_main_v88 z) 3).val = (y 1).val % 512 := by
      show (((z 0).val * 256 + (z 1).val) * 2048 + (z 2).val) % 512 = _; omega
    rw [w0, w1, w2, w3]
  exact congrArg₂ (fun a b : EReal => a * b) n g

end

end Cert.ReferenceIdeal.GlaRef

end
-- ==== Proof.Gla.Math.Group.lean ====
/- What a group of two chunks computes, on finite blocks: with `E` the running sums of the log decays, each
   score is `S q k E r s`, the keys of row `s` decayed to row `r` and met with the queries of row `r`. -/
module

public import proofs.«01_k».proof.Proof.Gla.Math.Lift

@[expose] public section

set_option maxRecDepth 16384

noncomputable section

namespace Cert.KernelIdeal.Gla

open Cert.KernelIdeal Cert.KernelIdeal.Gen
open Idealize.ShloMosaic Idealize.ShloMosaic.TcCoe Idealize.ShloMosaic.ValueIdx
open scoped BigOperators

/-- The score of row `r` against row `s`. -/
def S (q k E : ℕ → ℕ → ℝ) (r s : ℕ) : ℝ := ∑ l ∈ Finset.range 256, q r l * k s l * (2 : ℝ) ^ (E r l - E s l)

theorem two_pow_mul (a b c : ℝ) (h : a + b = c) : (2 : ℝ) ^ a * (2 : ℝ) ^ b = (2 : ℝ) ^ c := by
  rw [← h, Real.rpow_add (by norm_num)]

section chunk
variable {q k E : ℕ → ℕ → ℝ} {oX oY : ℕ} {bX bY bZ ρ : ℕ → ℝ}
variable {qX kX qY kY : FVec Ideal S64x256 .bf16} {cX cY : FVec Ideal S64x256 .f32} {r l lX lY : FVec Ideal S1x256 .f32}

theorem scaled_val {f g : ℕ → ℕ → ℝ} (hq : M2 (n := 64) (m := 256) qX f) (hc : M2 (n := 64) (m := 256) cX g) :
    M2 (n := 64) (m := 256) (scaled qX cX) (fun i j => f i j * (2 : ℝ) ^ g i j) := (hq.ext _).mul hc.pow2

theorem scores_val {a b : FVec Ideal S64x256 .f32} {f g : ℕ → ℕ → ℝ} (ha : M2 (n := 64) (m := 256) a f) (hb : M2 (n := 64) (m := 256) b g) :
    M2 (n := 64) (m := 64) (scores a b) (fun i j => ∑ l ∈ Finset.range 256, f i l * g j l) := M2.transR (ha.trunc _) (hb.trunc _)

theorem zeroBlk_val : M2 (n := 64) (m := 64) (zeroBlk (F := Ideal)) (fun _ _ => 0) := fun y => zero_const (s := S64x64) y

theorem select_val {P : ℕ → ℕ → Prop} [∀ i j, Decidable (P i j)] {msk : IVec S64x64 1} {a b : FVec Ideal S64x64 .f32} {f g : ℕ → ℕ → ℝ}
    (hm : ∀ y : S64x64.Idx, msk y = if P (y 0).val (y 1).val then 1#1 else 0#1) (ha : M2 (n := 64) (m := 64) a f) (hb : M2 (n := 64) (m := 64) b g) :
    M2 (n := 64) (m := 64) (select msk a b) (fun i j => if P i j then f i j else g i j) := fun y => by
  show (if msk y = 1 then a y else b y) = _
  rw [hm y]
  by_cases h : P (y 0).val (y 1).val
  · rw [if_pos h]
    exact (if_pos rfl).trans ((ha y).trans (congrArg _ (if_pos h).symm))
  · rw [if_neg h]
    exact (if_neg (by decide)).trans ((hb y).trans (congrArg _ (if_neg h).symm))

theorem diag_val {P : ℕ → ℕ → Prop} [∀ i j, Decidable (P i j)] {msk : IVec S64x64 1}
    (hm : ∀ y : S64x64.Idx, msk y = if P (y 0).val (y 1).val then 1#1 else 0#1)
    (hr : M2 (n := 1) (m := 256) r (fun _ j => ρ j)) (hc : M2 (n := 64) (m := 256) cX (fun i j => E (oX + i) j - bX j))
    (hq : M2 (n := 64) (m := 256) qX (fun i j => q (oX + i) j)) (hk : M2 (n := 64) (m := 256) kX (fun i j => k (oX + i) j)) :
    M2 (n := 64) (m := 64) (diagOf msk r cX qX kX) (fun i j => if P i j then S q k E (oX + i) (oX + j) else 0) := by
  refine (select_val hm (scores_val (scaled_val hq (hc.sub (M2.bc64 hr))) (scaled_val hk ((M2.bc64 hr).sub hc))) zeroBlk_val).congr fun i j _ _ => ?_
  refine if_congr Iff.rfl (Finset.sum_congr rfl fun l _ => ?_) rfl
  rw [mul_mul_mul_comm, two_pow_mul _ _ (E (oX + i) l - E (oX + j) l) (by ring)]

theorem kdec_val (hl : M2 (n := 1) (m := 256) l (fun _ j => bY j - bX j)) (hc : M2 (n := 64) (m := 256) cX (fun i j => E (oX + i) j - bX j))
    (hk : M2 (n := 64) (m := 256) kX (fun i j => k (oX + i) j)) :
    M2 (n := 64) (m := 256) (kdec kX l cX) (fun i j => k (oX + i) j * (2 : ℝ) ^ (bY j - E (oX + i) j)) :=
  (scaled_val hk ((M2.bc64 hl).sub hc)).congr fun i j _ _ => by
    show _ * _ = _
    congr 2; ring

theorem cross_val (hl : M2 (n := 1) (m := 256) l (fun _ j => bY j - bX j)) (hc : M2 (n := 64) (m := 256) cX (fun i j => E (oX + i) j - bX j))
    (hk : M2 (n := 64) (m := 256) kX (fun i j => k (oX + i) j))
    (hcY : M2 (n := 64) (m := 256) cY (fun i j => E (oY + i) j - bY j)) (hq : M2 (n := 64) (m := 256) qY (fun i j => q (oY + i) j)) :
    M2 (n := 64) (m := 64) (scores (scaled qY cY) (kdec kX l cX)) (fun i j => S q k E (oY + i) (oX + j)) :=
  (scores_val (scaled_val hq hcY) (kdec_val hl hc hk)).congr fun i j _ _ => Finset.sum_congr rfl fun t _ => by
    rw [mul_mul_mul_comm, two_pow_mul _ _ (E (oY + i) t - E (oX + j) t) (by ring)]

theorem over_val {a : FVec Ideal S64x256 .f32} {f : ℕ → ℕ → ℝ} {e e' : ℕ → ℕ → ℝ} {d : ℕ → ℝ} (ha : M2 (n := 64) (m := 256) a (fun i j => f i j * (2 : ℝ) ^ e i j))
    (hl : M2 (n := 1) (m := 256) l (fun _ j => d j)) (h : ∀ i j, e i j + d j = e' i j) :
    M2 (n := 64) (m := 256) (over a l) (fun i j => f i j * (2 : ℝ) ^ e' i j) :=
  (ha.mul (M2.bc64 hl.pow2)).congr fun i j _ _ => by
    show _ * _ * _ = _
    rw [mul_assoc, two_pow_mul _ _ _ (h i j)]

theorem stack_val {a b : FVec Ideal S64x256 .f32} {f g h : ℕ → ℕ → ℝ} (ha : M2 (n := 64) (m := 256) a f) (hb : M2 (n := 64) (m := 256) b g)
    (e1 : ∀ i j, i < 64 → f i j = h i j) (e2 : ∀ i j, g i j = h (64 + i) j) : M2 (n := 128) (m := 256) (stack a b) h :=
  (M2.rows (n := 64) _ (ha.trunc _) (hb.trunc _)).congr fun i j hi _ => by
    by_cases c : i < 64
    · rw [if_pos c, e1 i j c]
    · rw [if_neg c, e2, Nat.add_sub_cancel' (by omega)]

theorem pMat_val {a b c d : FVec Ideal S64x64 .f32} {f g h k t : ℕ → ℕ → ℝ} (ha : M2 (n := 64) (m := 64) a f) (hb : M2 (n := 64) (m := 64) b g)
    (hc : M2 (n := 64) (m := 64) c h) (hd : M2 (n := 64) (m := 64) d k)
    (e1 : ∀ i j, i < 64 → j < 64 → f i j = t i j) (e2 : ∀ i j, i < 64 → j < 64 → g i j = t i (64 + j))
    (e3 : ∀ i j, i < 64 → j < 64 → h i j = t (64 + i) j) (e4 : ∀ i j, i < 64 → j < 64 → k i j = t (64 + i) (64 + j)) :
    M2 (n := 128) (m := 128) (pMat (pRow a b) (pRow c d)) t :=
  (M2.rows (n := 64) _ ((M2.cols (m := 64) _ ha hb).trunc _) ((M2.cols (m := 64) _ hc hd).trunc _)).congr fun i j hi hj => by
    have hi' : i < 128 := hi
    have hj' : j < 128 := hj
    by_cases ci : i < 64 <;> by_cases cj : j < 64
    · rw [if_pos ci, if_pos cj, e1 i j ci cj]
    · rw [if_pos ci, if_neg cj, e2 i _ ci (by omega), Nat.add_sub_cancel' (by omega)]
    · rw [if_neg ci, if_pos cj, e3 _ j (by omega) cj, Nat.add_sub_cancel' (by omega)]
    · rw [if_neg ci, if_neg cj, e4 _ _ (by omega) (by omega), Nat.add_sub_cancel' (by omega), Nat.add_sub_cancel' (by omega)]

theorem nextSt_val {st : FVec Ideal S512x256 .f32} {v : FVec Ideal S128x512 .bf16} {kk : FVec Ideal S128x256 .bf16} {f g h : ℕ → ℕ → ℝ}
    {dX dY : ℕ → ℝ} (hst : M2 (n := 512) (m := 256) st f) (hX : M2 (n := 1) (m := 256) lX (fun _ j => dX j)) (hY : M2 (n := 1) (m := 256) lY (fun _ j => dY j))
    (hv : M2 (n := 128) (m := 512) v g) (hk : M2 (n := 128) (m := 256) kk h) :
    M2 (n := 512) (m := 256) (nextSt st lX lY v kk) (fun i j => f i j * (2 : ℝ) ^ (dX j + dY j) + ∑ s ∈ Finset.range 128, g s i * h s j) :=
  (hst.mul (M2.bc512 (hX.add hY).pow2)).add (M2.transL hv hk)

theorem outOf_val {p : FVec Ideal S128x128 .bf16} {v : FVec Ideal S128x512 .bf16} {qs : FVec Ideal S128x256 .bf16} {st : FVec Ideal S512x256 .f32}
    {f g h t : ℕ → ℕ → ℝ} (hp : M2 (n := 128) (m := 128) p f) (hv : M2 (n := 128) (m := 512) v g) (hq : M2 (n := 128) (m := 256) qs h) (hst : M2 (n := 512) (m := 256) st t) :
    M2 (n := 128) (m := 512) (outOf p v qs st) (fun i j => (∑ s ∈ Finset.range 128, f i s * g s j) + ∑ l ∈ Finset.range 256, h i l * t j l) :=
  (M2.plain hp hv).add (M2.transR hq (hst.trunc _))

/-- The queries of row `r` met with a state made of decayed keys and values are scores met with the values. -/
theorem inter_eq (v : ℕ → ℕ → ℝ) (b : ℕ → ℝ) (g r c : ℕ) :
    (∑ l ∈ Finset.range 256, q r l * (2 : ℝ) ^ (E r l - b l) * ∑ s ∈ Finset.range 128, v (g + s) c * (k (g + s) l * (2 : ℝ) ^ (b l - E (g + s) l))) =
      ∑ s ∈ Finset.range 128, S q k E r (g + s) * v (g + s) c := by
  simp only [Finset.mul_sum, S, Finset.sum_mul]
  rw [Finset.sum_comm]
  refine Finset.sum_congr rfl fun s _ => Finset.sum_congr rfl fun l _ => ?_
  rw [← two_pow_mul (E r l - b l) (b l - E (g + s) l) (E r l - E (g + s) l) (by ring)]
  ring

end chunk

end Cert.KernelIdeal.Gla

end
-- ==== Proof.Gla.Math.Sums.lean ====
/- The masks, the triangles and the running sums of the log decays, on finite matrices. -/
module

public import proofs.«01_k».proof.Proof.Gla.Math.Lift
public import Idealize.ShloMosaic.Lib.IdealHost

@[expose] public section

set_option maxRecDepth 16384

noncomputable section

namespace Cert.KernelIdeal.Gla

open Cert.KernelIdeal Cert.KernelIdeal.Gen
open Idealize.ShloMosaic Idealize.ShloMosaic.TcCoe Idealize.ShloMosaic.ValueIdx
open scoped BigOperators

/-- The masks' words. -/
theorem maskF : ∀ y : S64x64.Idx, k0_pay1 y = if (y 1).val ≤ (y 0).val then 1#1 else 0#1 := fun y => by
  have h : ∀ (i j : Fin 64), (IntOp.cmpi .sge (BitVec.ofNat 32 (0 * 64 + i.val)) (BitVec.ofNat 32 (0 * 64 + j.val))) = if j.val ≤ i.val then 1#1 else 0#1 := by decide +kernel
  exact h (y 0) (y 1)

theorem maskB : ∀ y : S64x64.Idx, k0_pay2 y = if (y 0).val ≤ (y 1).val then 1#1 else 0#1 := fun y => by
  have h : ∀ (i j : Fin 64), (IntOp.cmpi .sle (BitVec.ofNat 32 (0 * 64 + i.val)) (BitVec.ofNat 32 (0 * 64 + j.val))) = if i.val ≤ j.val then 1#1 else 0#1 := by decide +kernel
  exact h (y 0) (y 1)

theorem mask4 : ∀ y : S64x128.Idx, k0_pay4 y = if (y 1).val % 64 ≤ (y 0).val then 1#1 else 0#1 := fun y => by
  have h : ∀ (i : Fin 64) (j : Fin 128), (IntOp.cmpi .sge (BitVec.ofNat 32 (0 * 64 + i.val)) (IntOp.andi (BitVec.ofNat 32 (0 * 128 + j.val)) 63#32)) = if j.val % 64 ≤ i.val then 1#1 else 0#1 := by decide +kernel
  exact h (y 0) (y 1)

theorem mask5 : ∀ y : S64x128.Idx, k0_pay5 y = if (y 0).val ≤ (y 1).val % 64 then 1#1 else 0#1 := fun y => by
  have h : ∀ (i : Fin 64) (j : Fin 128), (IntOp.cmpi .sle (BitVec.ofNat 32 (0 * 64 + i.val)) (IntOp.andi (BitVec.ofNat 32 (0 * 128 + j.val)) 63#32)) = if i.val ≤ j.val % 64 then 1#1 else 0#1 := by decide +kernel
  exact h (y 0) (y 1)

theorem one_const : Ideal.ofBits .f32 0x3F800000#32 = ((1 : ℝ) : EReal) := Ideal.ofBits_one_f32

theorem triF_val : M2 (n := 64) (m := 128) (triF (F := Ideal)) (fun i j => if j % 64 ≤ i then 1 else 0) := fun y => by
  show (if k0_pay4 y = 1 then Ideal.ofBits .f32 0x3F800000#32 else Ideal.ofBits .f32 0x00000000#32) = _
  rw [mask4 y]
  by_cases h : (y 1).val % 64 ≤ (y 0).val
  · rw [if_pos h]
    exact (if_pos rfl).trans (one_const.trans (congrArg _ (if_pos h).symm))
  · rw [if_neg h]
    exact (if_neg (by decide)).trans ((zero_const (s := S64x128) y).trans (EReal.coe_zero.symm.trans (congrArg _ (if_neg h).symm)))

theorem triB_val : M2 (n := 64) (m := 128) (triB (F := Ideal)) (fun i j => if i ≤ j % 64 then 1 else 0) := fun y => by
  show (if k0_pay5 y = 1 then Ideal.ofBits .f32 0x3F800000#32 else Ideal.ofBits .f32 0x00000000#32) = _
  rw [mask5 y]
  by_cases h : (y 0).val ≤ (y 1).val % 64
  · rw [if_pos h]
    exact (if_pos rfl).trans (one_const.trans (congrArg _ (if_pos h).symm))
  · rw [if_neg h]
    exact (if_neg (by decide)).trans ((zero_const (s := S64x128) y).trans (EReal.coe_zero.symm.trans (congrArg _ (if_neg h).symm)))

/-- The sum of the first `n` log decays. -/
def P (a : ℕ → ℕ → ℝ) (n j : ℕ) : ℝ := ∑ l ∈ Finset.range n, a l j

theorem range_split (n m : ℕ) (f : ℕ → ℝ) : ∑ l ∈ Finset.range (n + m), f l = (∑ l ∈ Finset.range n, f l) + ∑ l ∈ Finset.range m, f (n + l) :=
  Finset.sum_range_add f n m

theorem sum_le (f : ℕ → ℝ) (i n : ℕ) (h : i < n) : (∑ l ∈ Finset.range n, (if l ≤ i then f l else 0)) = ∑ l ∈ Finset.range (i + 1), f l := by
  rw [← Finset.sum_filter]
  refine Finset.sum_congr (Finset.ext fun l => ?_) fun _ _ => rfl
  simp only [Finset.mem_filter, Finset.mem_range]
  omega

theorem cum_val {tri : FVec Ideal S64x128 .bf16} {t : ℕ → ℕ → ℝ} {hi lo : FVec Ideal S256x256 .bf16} {a : ℕ → ℕ → ℝ} {o : ℕ} {h : S256x256.Slices ![o, 0] S64x256}
    (ht : M2 (n := 64) (m := 128) tri t) (hhi : M2 (n := 256) (m := 256) hi a) (hlo : M2 (n := 256) (m := 256) lo (fun _ _ => 0)) :
    M2 (n := 64) (m := 256) (cumOf tri hi lo ![o, 0] h) (fun i j => ∑ l ∈ Finset.range 64, t i l * a (o + l) j) :=
  (M2.plain ht (M2.rows (φ := .bf16) (n := 64) _ (hhi.slice h) (hlo.slice h))).congr fun i j _ _ => by
    rw [range_split 64 64]
    refine (congrArg₂ (· + ·) (Finset.sum_congr rfl fun l hl => ?_) (Finset.sum_eq_zero fun l hl => ?_)).trans (add_zero _)
    · rw [if_pos (Finset.mem_range.1 hl), Nat.zero_add]
    · rw [if_neg (by omega), mul_zero]

theorem cumF_val {hi lo : FVec Ideal S256x256 .bf16} {a : ℕ → ℕ → ℝ} {o : ℕ} {h : S256x256.Slices ![o, 0] S64x256}
    (hhi : M2 (n := 256) (m := 256) hi a) (hlo : M2 (n := 256) (m := 256) lo (fun _ _ => 0)) :
    M2 (n := 64) (m := 256) (cumOf triF hi lo ![o, 0] h) (fun i j => P a (o + i + 1) j - P a o j) :=
  (cum_val triF_val hhi hlo).congr fun i j hi' _ => by
    have e : P a (o + i + 1) j = P a o j + ∑ l ∈ Finset.range (i + 1), a (o + l) j := range_split o (i + 1) (fun l => a l j)
    rw [e, add_sub_cancel_left, ← sum_le (fun l => a (o + l) j) i 64 hi']
    refine Finset.sum_congr rfl fun l hl => ?_
    rw [Nat.mod_eq_of_lt (Finset.mem_range.1 hl), ite_mul, one_mul, zero_mul]

theorem cumB_val {hi lo : FVec Ideal S256x256 .bf16} {a : ℕ → ℕ → ℝ} {o : ℕ} {h : S256x256.Slices ![o, 0] S64x256}
    (hhi : M2 (n := 256) (m := 256) hi a) (hlo : M2 (n := 256) (m := 256) lo (fun _ _ => 0)) :
    M2 (n := 64) (m := 256) (cumOf triB hi lo ![o, 0] h) (fun i j => - P a (o + i) j - - P a (o + 64) j) :=
  (cum_val triB_val hhi hlo).congr fun i j hi' _ => by
    have hi'' : i < 64 := hi'
    have e : P a (o + 64) j = P a o j + ∑ l ∈ Finset.range 64, a (o + l) j := range_split o 64 (fun l => a l j)
    have e' : P a (o + i) j = P a o j + ∑ l ∈ Finset.range i, a (o + l) j := range_split o i (fun l => a l j)
    have e'' : ∑ l ∈ Finset.range 64, (if l < i then a (o + l) j else 0) = ∑ l ∈ Finset.range i, a (o + l) j := by
      rw [← Finset.sum_filter]
      refine Finset.sum_congr (Finset.ext fun l => ?_) fun _ _ => rfl
      simp only [Finset.mem_filter, Finset.mem_range]
      omega
    rw [e, e', ← e'']
    have e3 : (∑ l ∈ Finset.range 64, (if i ≤ l % 64 then (1 : ℝ) else 0) * a (o + l) j) + ∑ l ∈ Finset.range 64, (if l < i then a (o + l) j else 0) = ∑ l ∈ Finset.range 64, a (o + l) j := by
      rw [← Finset.sum_add_distrib]
      refine Finset.sum_congr rfl fun l hl => ?_
      rw [Nat.mod_eq_of_lt (Finset.mem_range.1 hl)]
      by_cases c : i ≤ l
      · rw [if_pos c, if_neg (by omega), one_mul, add_zero]
      · rw [if_neg c, if_pos (by omega), zero_mul, zero_add]
    rw [← e3]
    ring

end Cert.KernelIdeal.Gla

end
-- ==== Proof.Gla.Math.Groups.lean ====
/- A group of two chunks in each direction, from its chunks' running sums: `X` is the chunk met first. -/
module

public import proofs.«01_k».proof.Proof.Gla.Math.Group
public import proofs.«01_k».proof.Proof.Gla.Math.Sums

@[expose] public section

set_option maxRecDepth 16384

noncomputable section

namespace Cert.KernelIdeal.Gla

open Cert.KernelIdeal Cert.KernelIdeal.Gen
open Idealize.ShloMosaic Idealize.ShloMosaic.TcCoe Idealize.ShloMosaic.ValueIdx
open scoped BigOperators

/-- A chunk of 64 rows at `o`: its queries, its keys and its running sums about the base `b`. -/
structure Chunk (q k E : ℕ → ℕ → ℝ) (o : ℕ) (b : ℕ → ℝ) (qX kX : FVec Ideal S64x256 .bf16) (cX : FVec Ideal S64x256 .f32) : Prop where
  hq : M2 (n := 64) (m := 256) qX (fun i j => q (o + i) j)
  hk : M2 (n := 64) (m := 256) kX (fun i j => k (o + i) j)
  hc : M2 (n := 64) (m := 256) cX (fun i j => E (o + i) j - b j)

section group
variable {q k E v : ℕ → ℕ → ℝ} {o : ℕ} {bX bY bZ ρX ρY : ℕ → ℝ}
variable {qX kX qY kY : FVec Ideal S64x256 .bf16} {cX cY : FVec Ideal S64x256 .f32} {vv : FVec Ideal S128x512 .bf16} {st : FVec Ideal S512x256 .f32}

theorem pF_val (X : Chunk q k E o bX qX kX cX) (Y : Chunk q k E (o + 64) bY qY kY cY)
    (hl : M2 (n := 1) (m := 256) (lastF cX) (fun _ j => bY j - bX j)) (hX : M2 (n := 1) (m := 256) (midF cX) (fun _ j => ρX j)) (hY : M2 (n := 1) (m := 256) (midF cY) (fun _ j => ρY j)) :
    M2 (n := 128) (m := 128) (pF cX cY qX kX qY kY) (fun i j => if j ≤ i then S q k E (o + i) (o + j) else 0) := by
  refine pMat_val (diag_val (P := fun i j => j ≤ i) maskF hX X.hc X.hq X.hk) zeroBlk_val (cross_val hl X.hc X.hk Y.hc Y.hq) (diag_val (P := fun i j => j ≤ i) maskF hY Y.hc Y.hq Y.hk) ?_ ?_ ?_ ?_
  · intro i j hi hj; rfl
  · intro i j hi hj; exact (if_neg (by omega)).symm
  · intro i j hi hj
    refine Eq.trans ?_ (if_pos (by omega)).symm
    rw [Nat.add_assoc]
  · intro i j hi hj
    rw [Nat.add_assoc, Nat.add_assoc]
    exact if_congr (by omega) rfl rfl

theorem qsF_val (X : Chunk q k E o bX qX kX cX) (Y : Chunk q k E (o + 64) bY qY kY cY)
    (hl : M2 (n := 1) (m := 256) (lastF cX) (fun _ j => bY j - bX j)) :
    M2 (n := 128) (m := 256) (qsF cX cY qX qY) (fun i j => q (o + i) j * (2 : ℝ) ^ (E (o + i) j - bX j)) :=
  stack_val (scaled_val X.hq X.hc) (over_val (e' := fun i j => E (o + 64 + i) j - bX j) (scaled_val Y.hq Y.hc) hl fun i j => by ring) (fun i j _ => rfl)
    fun i j => by rw [Nat.add_assoc]

theorem stF_val {f : ℕ → ℕ → ℝ} (hst : M2 (n := 512) (m := 256) st f) (hv : M2 (n := 128) (m := 512) vv (fun i j => v (o + i) j))
    (X : Chunk q k E o bX qX kX cX) (Y : Chunk q k E (o + 64) bY qY kY cY)
    (hl : M2 (n := 1) (m := 256) (lastF cX) (fun _ j => bY j - bX j)) (hl' : M2 (n := 1) (m := 256) (lastF cY) (fun _ j => bZ j - bY j)) :
    M2 (n := 512) (m := 256) (stF st cX cY kX kY vv) (fun i j => f i j * (2 : ℝ) ^ (bY j - bX j + (bZ j - bY j)) +
      ∑ s ∈ Finset.range 128, v (o + s) i * (k (o + s) j * (2 : ℝ) ^ (bZ j - E (o + s) j))) :=
  nextSt_val hst hl hl' hv (stack_val (over_val (e' := fun i j => bZ j - E (o + i) j) (kdec_val hl X.hc X.hk) hl' fun i j => by ring) (kdec_val hl' Y.hc Y.hk) (fun i j _ => rfl)
    fun i j => by rw [Nat.add_assoc])

theorem pB_val (X : Chunk q k E (o + 64) bX qX kX cX) (Y : Chunk q k E o bY qY kY cY)
    (hl : M2 (n := 1) (m := 256) (lastB cX) (fun _ j => bY j - bX j)) (hX : M2 (n := 1) (m := 256) (midB cX) (fun _ j => ρX j)) (hY : M2 (n := 1) (m := 256) (midB cY) (fun _ j => ρY j)) :
    M2 (n := 128) (m := 128) (pB cX cY qX kX qY kY) (fun i j => if i ≤ j then S q k E (o + i) (o + j) else 0) := by
  refine pMat_val (diag_val (P := fun i j => i ≤ j) maskB hY Y.hc Y.hq Y.hk) (cross_val hl X.hc X.hk Y.hc Y.hq) zeroBlk_val (diag_val (P := fun i j => i ≤ j) maskB hX X.hc X.hq X.hk) ?_ ?_ ?_ ?_
  · intro i j hi hj; rfl
  · intro i j hi hj
    refine Eq.trans ?_ (if_pos (by omega)).symm
    rw [Nat.add_assoc]
  · intro i j hi hj; exact (if_neg (by omega)).symm
  · intro i j hi hj
    rw [Nat.add_assoc, Nat.add_assoc]
    exact if_congr (by omega) rfl rfl

theorem qsB_val (X : Chunk q k E (o + 64) bX qX kX cX) (Y : Chunk q k E o bY qY kY cY)
    (hl : M2 (n := 1) (m := 256) (lastB cX) (fun _ j => bY j - bX j)) :
    M2 (n := 128) (m := 256) (qsB cX cY qX qY) (fun i j => q (o + i) j * (2 : ℝ) ^ (E (o + i) j - bX j)) :=
  stack_val (over_val (e' := fun i j => E (o + i) j - bX j) (scaled_val Y.hq Y.hc) hl fun i j => by ring) (scaled_val X.hq X.hc) (fun i j _ => rfl)
    fun i j => by rw [Nat.add_assoc]

theorem stB_val {f : ℕ → ℕ → ℝ} (hst : M2 (n := 512) (m := 256) st f) (hv : M2 (n := 128) (m := 512) vv (fun i j => v (o + i) j))
    (X : Chunk q k E (o + 64) bX qX kX cX) (Y : Chunk q k E o bY qY kY cY)
    (hl : M2 (n := 1) (m := 256) (lastB cX) (fun _ j => bY j - bX j)) (hl' : M2 (n := 1) (m := 256) (lastB cY) (fun _ j => bZ j - bY j)) :
    M2 (n := 512) (m := 256) (stB st cX cY kX kY vv) (fun i j => f i j * (2 : ℝ) ^ (bY j - bX j + (bZ j - bY j)) +
      ∑ s ∈ Finset.range 128, v (o + s) i * (k (o + s) j * (2 : ℝ) ^ (bZ j - E (o + s) j))) :=
  nextSt_val hst hl hl' hv (stack_val (kdec_val hl' Y.hc Y.hk) (over_val (e' := fun i j => bZ j - E (o + 64 + i) j) (kdec_val hl X.hc X.hk) hl' fun i j => by ring) (fun i j _ => rfl)
    fun i j => by rw [Nat.add_assoc])

end group

section rows
variable {f : ℕ → ℕ → ℝ} {c : FVec Ideal S64x256 .f32}
theorem row_val {n o : ℕ} (h : S64x256.Slices ![o, 0] S1x256) (hc : M2 (n := 64) (m := 256) c f) :
    M2 (n := 1) (m := 256) (extractStridedSlice S1x256 ![o, 0] c h) (fun _ j => f o j) :=
  (hc.slice h).congr fun i j hi _ => by
    have : i = 0 := by omega
    subst this
    rw [Nat.zero_add, Nat.add_zero]
theorem midF_val (hc : M2 (n := 64) (m := 256) c f) : M2 (n := 1) (m := 256) (midF c) (fun _ j => f 31 j) := row_val (n := 0) _ hc
theorem midB_val (hc : M2 (n := 64) (m := 256) c f) : M2 (n := 1) (m := 256) (midB c) (fun _ j => f 32 j) := row_val (n := 0) _ hc
theorem lastF_val (hc : M2 (n := 64) (m := 256) c f) : M2 (n := 1) (m := 256) (lastF c) (fun _ j => f 63 j) := row_val (n := 0) _ hc
theorem lastB_val (hc : M2 (n := 64) (m := 256) c f) : M2 (n := 1) (m := 256) (lastB c) (fun _ j => f 0 j) := row_val (n := 0) _ hc
end rows

section states
theorem st0_val : M2 (n := 512) (m := 256) (st0 (F := Ideal)) (fun _ _ => 0) := fun y => (zero_const (s := S512x256) y).trans EReal.coe_zero.symm
theorem st1_val : M2 (n := 512) (m := 256) (st1 (F := Ideal)) (fun _ _ => 0) := fun y => (zero_const (s := S512x256) y).trans EReal.coe_zero.symm
theorem acc0_val : M2 (n := 256) (m := 512) (k0_pay16 (F := Ideal)) (fun _ _ => 0) := fun y => (zero_const (s := S256x512) y).trans EReal.coe_zero.symm
end states

end Cert.KernelIdeal.Gla

end
-- ==== Proof.Gla.Math.Acc.lean ====
/- What the context's accumulator holds after block 0, on finite blocks: over all rows, the masked scores of
   the forward scan and of the backward one, met with the values. -/
module

public import proofs.«01_k».proof.Proof.Gla.Math.Groups

@[expose] public section

set_option maxRecDepth 16384

noncomputable section

namespace Cert.KernelIdeal.Gla

open Cert.KernelIdeal Cert.KernelIdeal.Gen
open Idealize.ShloMosaic Idealize.ShloMosaic.TcCoe Idealize.ShloMosaic.ValueIdx
open scoped BigOperators

/-- The forward scan's and the backward scan's results at row `r`, column `c`. -/
def WF (q k v a : ℕ → ℕ → ℝ) (r c : ℕ) : ℝ := ∑ s ∈ Finset.range 256, (if s ≤ r then S q k (fun r j => P a (r + 1) j) r s else 0) * v s c
def WB (q k v a : ℕ → ℕ → ℝ) (r c : ℕ) : ℝ := ∑ s ∈ Finset.range 256, (if r ≤ s then S q k (fun r j => - P a r j) r s else 0) * v s c

section blocks
variable {x9 x10 : Vec Ideal S256x256 .bf16} {x11 : Vec Ideal S256x512 .bf16} {x12 : Vec Ideal S256x128 .f32} {x14 : Vec Ideal S1x2x128x256 .bf16} {x15 : Vec Ideal S1x2x1x256 .f32}
variable {q k v aF aB : ℕ → ℕ → ℝ}

theorem window_val {x : Vec Ideal S256x256 .bf16} {f : ℕ → ℕ → ℝ} {o : ℕ} (h : ∀ a, (![o, 0] : Fin 2 → ℕ) a + S64x256.size a ≤ S256x256.size a)
    (hx : M2 (n := 256) (m := 256) x f) : M2 (n := 64) (m := 256) (VecWindow.window (s := S256x256) x ![o, 0] S64x256.size h) (fun i j => f (o + i) j) :=
  (M2.window (φ := .bf16) (n' := 64) (m' := 256) h hx).congr fun i j _ _ => by rw [Nat.zero_add]

theorem vals_val {x : Vec Ideal S256x512 .bf16} {f : ℕ → ℕ → ℝ} {o : ℕ} (h : ∀ a, (![o, 0] : Fin 2 → ℕ) a + S128x512.size a ≤ S256x512.size a)
    (hx : M2 (n := 256) (m := 512) x f) : M2 (n := 128) (m := 512) (VecWindow.window (s := S256x512) x ![o, 0] S128x512.size h) (fun i j => f (o + i) j) :=
  (M2.window (φ := .bf16) (n' := 128) (m' := 512) h hx).congr fun i j _ _ => by rw [Nat.zero_add]

variable (hq : M2 (n := 256) (m := 256) x9 q) (hk : M2 (n := 256) (m := 256) x10 k) (hv : M2 (n := 256) (m := 512) x11 v)
variable (hF : M2 (n := 256) (m := 256) (hiF x12 x14 x15) aF) (hF' : M2 (n := 256) (m := 256) (loF x12 x14 x15) (fun _ _ => 0))
variable (hB : M2 (n := 256) (m := 256) (hiB x12 x14 x15) aB) (hB' : M2 (n := 256) (m := 256) (loB x12 x14 x15) (fun _ _ => 0))

include hq hk hF hF' in
theorem chunkF0 : Chunk q k (fun r j => P aF (r + 1) j) 0 (P aF 0) (chunk0 x9) (chunk0 x10) (cF0 x12 x14 x15) :=
  ⟨window_val _ hq, window_val _ hk, cumF_val hF hF'⟩
include hq hk hB hB' in
theorem chunkB0 : Chunk q k (fun r j => - P aB r j) 0 (fun j => - P aB 64 j) (chunk0 x9) (chunk0 x10) (cB0 x12 x14 x15) :=
  ⟨window_val _ hq, window_val _ hk, cumB_val hB hB'⟩
include hq hk hF hF' in
theorem chunkF1 : Chunk q k (fun r j => P aF (r + 1) j) 64 (P aF 64) (chunk1 x9) (chunk1 x10) (cF1 x12 x14 x15) :=
  ⟨window_val _ hq, window_val _ hk, cumF_val hF hF'⟩
include hq hk hB hB' in
theorem chunkB1 : Chunk q k (fun r j => - P aB r j) 64 (fun j => - P aB 128 j) (chunk1 x9) (chunk1 x10) (cB1 x12 x14 x15) :=
  ⟨window_val _ hq, window_val _ hk, cumB_val hB hB'⟩
include hq hk hF hF' in
theorem chunkF2 : Chunk q k (fun r j => P aF (r + 1) j) 128 (P aF 128) (chunk2 x9) (chunk2 x10) (cF2 x12 x14 x15) :=
  ⟨window_val _ hq, window_val _ hk, cumF_val hF hF'⟩
include hq hk hB hB' in
theorem chunkB2 : Chunk q k (fun r j => - P aB r j) 128 (fun j => - P aB 192 j) (chunk2 x9) (chunk2 x10) (cB2 x12 x14 x15) :=
  ⟨window_val _ hq, window_val _ hk, cumB_val hB hB'⟩
include hq hk hF hF' in
theorem chunkF3 : Chunk q k (fun r j => P aF (r + 1) j) 192 (P aF 192) (chunk3 x9) (chunk3 x10) (cF3 x12 x14 x15) :=
  ⟨window_val _ hq, window_val _ hk, cumF_val hF hF'⟩
include hq hk hB hB' in
theorem chunkB3 : Chunk q k (fun r j => - P aB r j) 192 (fun j => - P aB 256 j) (chunk3 x9) (chunk3 x10) (cB3 x12 x14 x15) :=
  ⟨window_val _ hq, window_val _ hk, cumB_val hB hB'⟩

theorem rows_first (f : ℕ → ℝ) : ∑ s ∈ Finset.range 256, f s = (∑ s ∈ Finset.range 128, f (0 + s)) + ∑ s ∈ Finset.range 128, f (128 + s) :=
  (range_split 128 128 f).trans (congrArg (· + _) (Finset.sum_congr rfl fun s _ => by rw [Nat.zero_add]))

theorem WF_split (r c : ℕ) : WF q k v aF r c = (∑ s ∈ Finset.range 128, (if 0 + s ≤ r then S q k (fun r j => P aF (r + 1) j) r (0 + s) else 0) * v (0 + s) c) +
    ∑ s ∈ Finset.range 128, (if 128 + s ≤ r then S q k (fun r j => P aF (r + 1) j) r (128 + s) else 0) * v (128 + s) c := rows_first _
theorem WB_split (r c : ℕ) : WB q k v aB r c = (∑ s ∈ Finset.range 128, (if r ≤ 0 + s then S q k (fun r j => - P aB r j) r (0 + s) else 0) * v (0 + s) c) +
    ∑ s ∈ Finset.range 128, (if r ≤ 128 + s then S q k (fun r j => - P aB r j) r (128 + s) else 0) * v (128 + s) c := rows_first _

theorem cast_val {x : FVec Ideal S128x512 .f32} {f : ℕ → ℕ → ℝ} (h : S128x512.ShapeCasts S128x512) (hx : M2 (n := 128) (m := 512) x f) :
    M2 (n := 128) (m := 512) (shapeCast S128x512 x h) f := fun y => (congrFun (shapeCast_id x h) y).trans (hx y)

include hq hk hv hF hF' in
theorem addF0_val : M2 (n := 128) (m := 512) (addF0 x9 x10 x11 x12 x14 x15) (fun i j => WF q k v aF i j) := by
  have X := chunkF0 hq hk hF hF'
  have Y := chunkF1 hq hk hF hF'
  refine (outOf_val (pF_val X Y (lastF_val X.hc) (midF_val X.hc) (midF_val Y.hc)) (vals_val (o := 0) _ hv) (qsF_val X Y (lastF_val X.hc)) st0_val).congr fun i j hi _ => ?_
  have hi' : i < 128 := hi
  rw [WF_split]
  refine congrArg₂ (· + ·) (Finset.sum_congr rfl fun s hs => ?_) ((Finset.sum_eq_zero fun l _ => mul_zero _).trans (Finset.sum_eq_zero fun s _ => ?_).symm)
  · simp only [Nat.zero_add]
  · rw [if_neg (by omega), zero_mul]

include hq hk hv hB hB' in
theorem addB1_val : M2 (n := 128) (m := 512) (addB1 x9 x10 x11 x12 x14 x15) (fun i j => WB q k v aB (128 + i) j) := by
  have X := chunkB3 hq hk hB hB'
  have Y := chunkB2 hq hk hB hB'
  refine (outOf_val (pB_val X Y (lastB_val X.hc) (midB_val X.hc) (midB_val Y.hc)) (vals_val (o := 128) _ hv) (qsB_val X Y (lastB_val X.hc)) st1_val).congr fun i j hi _ => ?_
  have hi' : i < 128 := hi
  rw [WB_split]
  refine Eq.trans ?_ (add_comm _ _)
  refine congrArg₂ (· + ·) (Finset.sum_congr rfl fun s hs => ?_) ((Finset.sum_eq_zero fun l _ => mul_zero _).trans (Finset.sum_eq_zero fun s hs => ?_).symm)
  · exact congrArg (· * _) (if_congr (by omega) rfl rfl)
  · have := Finset.mem_range.1 hs
    rw [if_neg (by omega), zero_mul]

include hk hv hF hF' hq in
theorem stMidF_val : M2 (n := 512) (m := 256) (stMidF x10 x11 x12 x14 x15) (fun i j => ∑ s ∈ Finset.range 128, v (0 + s) i * (k (0 + s) j * (2 : ℝ) ^ (P aF 128 j - P aF (0 + s + 1) j))) := by
  have X := chunkF0 hq hk hF hF'
  have Y := chunkF1 hq hk hF hF'
  refine (stF_val st0_val (vals_val (o := 0) _ hv) X Y (lastF_val X.hc) (lastF_val Y.hc)).congr fun i j _ _ => ?_
  rw [zero_mul, zero_add]

include hk hv hB hB' hq in
theorem stMidB_val : M2 (n := 512) (m := 256) (stMidB x10 x11 x12 x14 x15) (fun i j => ∑ s ∈ Finset.range 128, v (128 + s) i * (k (128 + s) j * (2 : ℝ) ^ (- P aB 128 j - - P aB (128 + s) j))) := by
  have X := chunkB3 hq hk hB hB'
  have Y := chunkB2 hq hk hB hB'
  refine (stB_val st1_val (vals_val (o := 128) _ hv) X Y (lastB_val X.hc) (lastB_val Y.hc)).congr fun i j _ _ => ?_
  rw [zero_mul, zero_add]

include hq hk hv hF hF' in
theorem addF1_val : M2 (n := 128) (m := 512) (addF1 x9 x10 x11 x12 x14 x15) (fun i j => WF q k v aF (128 + i) j) := by
  have X := chunkF2 hq hk hF hF'
  have Y := chunkF3 hq hk hF hF'
  refine (outOf_val (pF_val X Y (lastF_val X.hc) (midF_val X.hc) (midF_val Y.hc)) (vals_val (o := 128) _ hv) (qsF_val X Y (lastF_val X.hc)) (stMidF_val hq hk hv hF hF')).congr fun i j hi _ => ?_
  have hi' : i < 128 := hi
  rw [WF_split]
  refine Eq.trans ?_ (add_comm _ _)
  refine congrArg₂ (· + ·) (Finset.sum_congr rfl fun s hs => ?_) ((inter_eq (q := q) (k := k) (E := fun r j => P aF (r + 1) j) v (P aF 128) 0 (128 + i) j).trans (Finset.sum_congr rfl fun s hs => ?_))
  · exact congrArg (· * _) (if_congr (by omega) rfl rfl)
  · have := Finset.mem_range.1 hs
    rw [if_pos (by omega)]

include hq hk hv hB hB' in
theorem addB0_val : M2 (n := 128) (m := 512) (addB0 x9 x10 x11 x12 x14 x15) (fun i j => WB q k v aB i j) := by
  have X := chunkB1 hq hk hB hB'
  have Y := chunkB0 hq hk hB hB'
  refine (outOf_val (pB_val X Y (lastB_val X.hc) (midB_val X.hc) (midB_val Y.hc)) (vals_val (o := 0) _ hv) (qsB_val X Y (lastB_val X.hc)) (stMidB_val hq hk hv hB hB')).congr fun i j hi _ => ?_
  have hi' : i < 128 := hi
  rw [WB_split]
  refine congrArg₂ (· + ·) (Finset.sum_congr rfl fun s hs => ?_) (((Finset.sum_congr rfl fun l _ => by rw [Nat.zero_add]).trans
    (inter_eq (q := q) (k := k) (E := fun r j => - P aB r j) v (fun j => - P aB 128 j) 128 i j)).trans (Finset.sum_congr rfl fun s hs => ?_))
  · simp only [Nat.zero_add]
  · rw [if_pos (by omega)]

theorem put_val {x : Vec Ideal S256x512 .f32} {w : FVec Ideal S128x512 .f32} {f g : ℕ → ℕ → ℝ} {o : ℕ}
    (hx : M2 (n := 256) (m := 512) x f) (hw : M2 (n := 128) (m := 512) w g) :
    M2 (n := 256) (m := 512) (VecWindow.put (s := S256x512) x ![o, 0] S128x512.size w) (fun i j => if o ≤ i ∧ i < o + 128 then g (i - o) j else f i j) := fun y => by
  have hy : (∀ a, (![o, 0] : Fin 2 → ℕ) a ≤ (y a).val ∧ (y a).val < (![o, 0] : Fin 2 → ℕ) a + S128x512.size a) ↔ (o ≤ (y 0).val ∧ (y 0).val < o + 128) := by
    constructor
    · intro h; exact h 0
    · intro h a
      match a with
      | ⟨0, _⟩ => exact h
      | ⟨1, _⟩ => exact ⟨Nat.zero_le _, by have := (y 1).isLt; show (y 1).val < 0 + 512; rw [Nat.zero_add]; exact this⟩
  by_cases h : o ≤ (y 0).val ∧ (y 0).val < o + 128
  · refine (dif_pos (hy.2 h)).trans ((hw _).trans (congrArg _ (Eq.trans ?_ (if_pos h).symm)))
    exact congrArg₂ g rfl rfl
  · exact (dif_neg fun c => h (hy.1 c)).trans ((hx y).trans (congrArg _ (if_neg h).symm))

include hq hk hv hF hF' hB hB' in
/-- The accumulator. -/
theorem accV_val : M2 (n := 256) (m := 512) (accV x9 x10 x11 x12 x14 x15) (fun r c => WF q k v aF r c + WB q k v aB r c) := by
  have z : ∀ {o : ℕ} (h : ∀ a, (![o, 0] : Fin 2 → ℕ) a + S128x512.size a ≤ S256x512.size a), M2 (n := 128) (m := 512) (VecWindow.window (α := Ideal .f32) (s := S256x512) k0_pay16 ![o, 0] S128x512.size h) (fun _ _ => 0) :=
    fun h => M2.window (φ := .f32) (n' := 128) (m' := 512) h acc0_val
  have h0 : M2 (n := 128) (m := 512) (half0 x9 x10 x11 x12 x14 x15) (fun i j => 0 + WF q k v aF i j) := by
    exact cast_val _ ((z _).add (addF0_val hq hk hv hF hF'))
  have h1 : M2 (n := 128) (m := 512) (half1 x9 x10 x11 x12 x14 x15) (fun i j => 0 + WB q k v aB (128 + i) j) := by
    exact cast_val _ ((z _).add (addB1_val hq hk hv hB hB'))
  have g0 : M2 (n := 128) (m := 512) (full0 x9 x10 x11 x12 x14 x15) (fun i j => 0 + WF q k v aF i j + WB q k v aB i j) := by
    exact cast_val _ (h0.add (addB0_val hq hk hv hB hB'))
  have g1 : M2 (n := 128) (m := 512) (full1 x9 x10 x11 x12 x14 x15) (fun i j => 0 + WB q k v aB (128 + i) j + WF q k v aF (128 + i) j) := by
    exact cast_val _ (h1.add (addF1_val hq hk hv hF hF'))
  refine (put_val (o := 0) (put_val (o := 128) (put_val (o := 128) (put_val (o := 0) acc0_val h0) h1) g1) g0).congr fun r c hr _ => ?_
  have hr' : r < 256 := hr
  by_cases h : r < 128
  · rw [if_pos (by omega), Nat.sub_zero, zero_add]
  · rw [if_neg (by omega), if_pos (by omega), Nat.add_sub_cancel' (by omega), zero_add, add_comm]

end blocks

end Cert.KernelIdeal.Gla

end
-- ==== Proof.Gla.Math.Gates.lean ====
/- The log decays of the kernel, in powers of two, on finite blocks. -/
module

public import proofs.«01_k».proof.Proof.Gla.Math.Sums
public import Idealize.ShloMosaic.Lib.IdealHost

@[expose] public section

set_option maxRecDepth 16384

noncomputable section

namespace Cert.KernelIdeal.Gla

open Cert.KernelIdeal Cert.KernelIdeal.Gen
open Idealize.ShloMosaic Idealize.ShloMosaic.TcCoe Idealize.ShloMosaic.ValueIdx
open scoped BigOperators

/-- The logarithm of the logistic function, as the kernel computes it. -/
def lsigK (z : ℝ) : ℝ := min z 0 - Real.log (1 + Real.exp (-|z|))

/-- The kernel's operations on an element. -/
def lsK (x : EReal) : EReal :=
  min x (Ideal.ofBits .f32 0x00000000#32) - Ideal.log (Ideal.ofBits .f32 0x3F800000#32 + Ideal.exp2 (max x (-x) * Named.named (F := Ideal) (φ := .f32) κ "neg_log2e" 0xBFB8AA3B#32))

theorem coe_min (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

theorem rpow_two (t : ℝ) : (2 : ℝ) ^ (t * (Real.log 2)⁻¹) = Real.exp t := by
  have h : Real.log 2 ≠ 0 := (Real.log_pos one_lt_two).ne'
  rw [Real.rpow_def_of_pos two_pos]
  congr 1
  field_simp

theorem neg_log2e_val : Named.named (F := Ideal) (φ := .f32) κ "neg_log2e" 0xBFB8AA3B#32 = ((-((Real.log 2)⁻¹) : ℝ) : EReal) :=
  IdealRules.named_const.ideal_named_scalar _ _ _ _ rfl
theorem log2e_16_val : Named.named (F := Ideal) (φ := .f32) κ "log2e_16" 0x3DB8AA3B#32 = (((Real.log 2)⁻¹ * (1 / 16) : ℝ) : EReal) :=
  IdealRules.named_const.ideal_named_scalar _ _ _ _ rfl

theorem lsK_coe (z : ℝ) : lsK (z : EReal) = ((lsigK z : ℝ) : EReal) := by
  have e0 : Ideal.ofBits .f32 0x00000000#32 = ((0 : ℝ) : EReal) := Ideal.ofBits_zero_f32
  unfold lsK
  rw [neg_log2e_val, e0, one_const, ← EReal.coe_neg, coe_max, coe_min, ← EReal.coe_mul, Ideal.exp2_coe, ← EReal.coe_add]
  have e : Real.rpow 2 (max z (-z) * -(Real.log 2)⁻¹) = Real.exp (-|z|) := by
    rw [← rpow_two, show max z (-z) = |z| from (abs_eq_max_neg).symm, mul_neg, neg_mul]; rfl
  rw [e, Ideal.log_coe, if_neg (not_le.2 (by positivity)), ← EReal.coe_sub]
  rfl

section
variable {x12 : Vec Ideal S256x128 .f32} {w : Vec Ideal S1x1x128x256 .bf16} {b : Vec Ideal S1x1x1x256 .f32} {α ω : ℕ → ℕ → ℝ} {β : ℕ → ℝ}
variable (hα : M2 (n := 256) (m := 128) x12 α)
variable (hw : M2 (n := 128) (m := 256) (shapeCast S128x256 w shapeCasts_S1x1x128x256_S128x256) ω)
variable (hb : M2 (n := 1) (m := 256) (shapeCast S1x256 b shapeCasts_S1x1x1x256_S1x256) (fun _ j => β j))

/-- The decay's argument. -/
def zK (α ω : ℕ → ℕ → ℝ) (β : ℕ → ℝ) (r c : ℕ) : ℝ := (∑ l ∈ Finset.range 128, α r l * ω l c) + β c

include hα hw hb in
theorem z_val : M2 (n := 256) (m := 256) (addf (matmul (F := Ideal) (φ₂ := .bf16) dot_S256x128_S128x256_S256x256_1_0_0_1_n_n none (truncf .bf16 x12 bitsLt_bf16_f32) (shapeCast S128x256 w shapeCasts_S1x1x128x256_S128x256) (constant S256x256 .f32 0x00000000#32))
    (broadcastTo S256x256 (shapeCast S1x256 b shapeCasts_S1x1x1x256_S1x256) broadcasts_S1x256_S256x256)) (zK α ω β) :=
  (M2.plain (hα.trunc _) hw).add (M2.bc256 (φ := .f32) hb)

include hα hw hb in
theorem gate17 : M2 (n := 256) (m := 256) (k0_pay17 x12 w b) (fun r c => lsigK (zK α ω β r c)) := fun y => by
  show lsK (addf (matmul (F := Ideal) (φ₂ := .bf16) dot_S256x128_S128x256_S256x256_1_0_0_1_n_n none (truncf .bf16 x12 bitsLt_bf16_f32) (shapeCast S128x256 w shapeCasts_S1x1x128x256_S128x256) (constant S256x256 .f32 0x00000000#32))
    (broadcastTo S256x256 (shapeCast S1x256 b shapeCasts_S1x1x1x256_S1x256) broadcasts_S1x256_S256x256) y) = _
  exact (congrArg lsK (z_val hα hw hb y)).trans (lsK_coe _)

theorem pay18_val : M2 (n := 256) (m := 256) (k0_pay18 (F := Ideal)) (fun _ _ => (Real.log 2)⁻¹ * (1 / 16)) := fun y => log2e_16_val

include hα hw hb in
theorem hi17 : M2 (n := 256) (m := 256) (k0_pay20 (k0_pay17 x12 w b) k0_pay18) (fun r c => lsigK (zK α ω β r c) * ((Real.log 2)⁻¹ * (1 / 16))) :=
  ((gate17 hα hw hb).mul pay18_val).trunc _
include hα hw hb in
theorem lo17 : M2 (n := 256) (m := 256) (k0_pay21 (k0_pay17 x12 w b) k0_pay18) (fun _ _ => 0) :=
  ((((gate17 hα hw hb).mul pay18_val).sub ((hi17 hα hw hb).ext bitsLt_bf16_f32)).trunc bitsLt_bf16_f32).congr fun _ _ _ _ => sub_self _

include hα hw hb in
theorem gate23 : M2 (n := 256) (m := 256) (k0_pay23 x12 w b) (fun r c => lsigK (zK α ω β r c) * ((Real.log 2)⁻¹ * (1 / 16))) :=
  (gate17 hα hw hb).mul pay18_val
include hα hw hb in
theorem hi23 : M2 (n := 256) (m := 256) (k0_pay24 x12 w b) (fun r c => lsigK (zK α ω β r c) * ((Real.log 2)⁻¹ * (1 / 16))) := (gate23 hα hw hb).trunc _
include hα hw hb in
theorem lo23 : M2 (n := 256) (m := 256) (k0_pay25 x12 w b) (fun _ _ => 0) :=
  (((gate23 hα hw hb).sub ((hi23 hα hw hb).ext bitsLt_bf16_f32)).trunc bitsLt_bf16_f32).congr fun _ _ _ _ => sub_self _

end

end Cert.KernelIdeal.Gla

end
-- ==== Proof.Gla.Ref.Equal.lean ====
/- The two readings of the gated attention agree: the reference's running sums of the log decays, in powers
   of e and with the second direction read from its end, and the kernel's, in powers of two. -/
module

public import proofs.«01_k».proof.Proof.Gla.Ref.Norm
public import proofs.«01_k».proof.Proof.Gla.Math.Acc
public import proofs.«01_k».proof.Proof.Gla.Math.Gates

@[expose] public section

set_option maxRecDepth 16384

noncomputable section

namespace Cert.GlaEqual

open Cert.KernelIdeal.Gla Cert.ReferenceIdeal.GlaRef
open scoped BigOperators

variable {q k v a g : ℕ → ℕ → ℝ}

/-- The kernel's log decay is the reference's, divided by the logarithm of two. -/
theorem decay (z : ℝ) : lsigK z * ((Real.log 2)⁻¹ * (1 / 16)) = (lsig z * (1 / 16)) * (Real.log 2)⁻¹ := by
  have e : max (-z) 0 = - min z 0 := by
    rcases le_total z 0 with h | h
    · rw [max_eq_left (by linarith), min_eq_left h]
    · rw [max_eq_right (by linarith), min_eq_right h, neg_zero]
  unfold lsigK lsig
  rw [e]
  ring

theorem P_scaled (h : ∀ r l, r < 256 → l < 256 → a r l = g r l * (Real.log 2)⁻¹) {n l : ℕ} (hn : n ≤ 256) (hl : l < 256) :
    P a n l = (∑ i ∈ Finset.range n, g i l) * (Real.log 2)⁻¹ := by
  unfold P
  rw [Finset.sum_mul]
  exact Finset.sum_congr rfl fun i hi => h i l (by have := Finset.mem_range.1 hi; omega) hl

theorem forward (h : ∀ r l, r < 256 → l < 256 → a r l = g r l * (Real.log 2)⁻¹) {r c : ℕ} (hr : r < 256) :
    RF q k v (fun r l => ∑ i ∈ Finset.range (r + 1), g i l) r c = WF q k v a r c := by
  unfold RF WF
  refine Finset.sum_congr rfl fun s hs => congrArg (· * v s c) ?_
  have hs := Finset.mem_range.1 hs
  split
  · unfold SR S
    refine Finset.sum_congr rfl fun l hl => congrArg (q r l * k s l * ·) ?_
    have hl := Finset.mem_range.1 hl
    show Real.exp _ = (2 : ℝ) ^ (P a (r + 1) l - P a (s + 1) l)
    rw [P_scaled h (by omega) hl, P_scaled h (by omega) hl, ← sub_mul, rpow_two]
  · rfl

/-- The running sum from the end. -/
theorem tail_sum (f : ℕ → ℝ) : ∀ n, n ≤ 256 → ∑ i ∈ Finset.range n, f (256 - (i + 1)) = (∑ i ∈ Finset.range 256, f i) - ∑ i ∈ Finset.range (256 - n), f i
  | 0, _ => by simp
  | n + 1, hn => by
    have e : 256 - n = 256 - (n + 1) + 1 := by omega
    have h := Finset.sum_range_succ f (256 - (n + 1))
    rw [← e] at h
    rw [Finset.sum_range_succ, tail_sum f n (by omega), h]
    ring

theorem backward (h : ∀ r l, r < 256 → l < 256 → a r l = g r l * (Real.log 2)⁻¹) {r c : ℕ} (hr : r < 256) :
    RF (back q) (back k) (back v) (fun r l => ∑ i ∈ Finset.range (r + 1), back g i l) (256 - (r + 1)) c = WB q k v a r c := by
  unfold RF WB
  rw [← Finset.sum_range_reflect]
  refine Finset.sum_congr rfl fun s hs => ?_
  have hs := Finset.mem_range.1 hs
  have e1 : 256 - 1 - s = 256 - (s + 1) := by omega
  have e2 : 256 - (256 - (s + 1) + 1) = s := by omega
  have e3 : 256 - (256 - (r + 1) + 1) = r := by omega
  rw [e1]
  refine congrArg₂ (fun x y : ℝ => x * y) ?_ (congrArg (fun n => v n c) e2)
  by_cases hsr : r ≤ s
  · rw [if_pos (show 256 - (s + 1) ≤ 256 - (r + 1) by omega), if_pos hsr]
    unfold SR S
    refine Finset.sum_congr rfl fun l hl => ?_
    have hl := Finset.mem_range.1 hl
    refine congrArg₂ (fun x y : ℝ => x * y) (congrArg₂ (fun x y : ℝ => x * y) (congrArg (fun n => q n l) e3) (congrArg (fun n => k n l) e2)) ?_
    show Real.exp ((∑ i ∈ Finset.range (256 - (r + 1) + 1), g (256 - (i + 1)) l) - ∑ i ∈ Finset.range (256 - (s + 1) + 1), g (256 - (i + 1)) l) = (2 : ℝ) ^ (-P a r l - -P a s l)
    rw [tail_sum (fun i => g i l) _ (by omega), tail_sum (fun i => g i l) _ (by omega), e2, e3, P_scaled h (by omega) hl, P_scaled h (by omega) hl, ← rpow_two]
    congr 1
    ring
  · rw [if_neg (show ¬ 256 - (s + 1) ≤ 256 - (r + 1) by omega), if_neg hsr]

end Cert.GlaEqual

end
-- ==== Proof.Gla.Value.Blocks.lean ====
/- The blocks the attention reads for the context, on finite arguments, and what it stores for them. -/
module

public import proofs.«01_k».proof.Proof.Gla.Ref.Equal
public import proofs.«01_k».proof.Proof.Gen.KernelIdeal.Frame
public import Idealize.ShloMosaic.Lib.Pipeline.ReadBack

@[expose] public section

set_option maxRecDepth 16384

noncomputable section

namespace Cert.KernelIdeal.Gla

open Cert.KernelIdeal Cert.KernelIdeal.Gen
open Idealize.ShloMosaic Idealize.ShloMosaic.TcCoe Idealize.ShloMosaic.ValueIdx
open Cert.ReferenceIdeal.GlaRef (M4 normE lgate lsig zval)
open scoped BigOperators

variable {f : ℕ → ℕ → ℝ}

/-- What the last step stores: the accumulated rows divided by their root mean squares, times the gate. -/
theorem pay12_val {acc : Vec Ideal S256x512 .f32} (gate : Vec Ideal S256x512 .bf16) (h : M2 (n := 256) (m := 512) acc f) (y : S256x512.Idx) :
    k0_pay12 acc gate y = normE (f (y 0).val) (y 1).val * gate y := by
  pointwise [k0_pay12]
  unfold normE
  have e : ∀ k : Fin 512, acc (Idealize.ShloMosaic.ix2 (y 0) k) = ((f (y 0).val k.val : ℝ) : EReal) := fun k => h _
  rw [h y, Finset.sum_congr rfl fun (k : Fin 512) _ => congrArg₂ (fun a b : EReal => a * b) (e k) (e k)]

section blocks
variable (m : (ℓ : Loc nD τ sig) → Buf (Elt Ideal) ℓ)

/-- The windows' block indices: the batch is the point's number over 40, the head its number over 10, modulo 4. -/
theorem idx : ∀ t : Fin cfg0.N, win0_9.index t = ![t.val / 40, t.val / 10 % 4] ∧ win0_10.index t = ![t.val / 40, t.val / 10 % 4 + 4]
    ∧ win0_11.index t = ![t.val / 40, t.val / 10 % 4 + 4] ∧ win0_12.index t = ![t.val / 40, 0] ∧ win0_13.index t = ![t.val / 40, t.val / 10 % 4 + 8]
    ∧ win0_14.index t = ![0, 0, 0, t.val / 10 % 4] ∧ win0_15.index t = ![0, 0, 0, t.val / 10 % 4]
    ∧ win0_17.index t = ![t.val / 40, t.val / 10 % 4] :=
  (by decide +kernel : ∀ t : Fin grid0.N, _)

variable {p α : ℕ → ℕ → ℝ} {w β : ℕ → ℕ → ℕ → ℕ → ℝ} (c : Dev nD) (t : Fin cfg0.N)

variable (hp : M2 (n := 512) (m := 11264) (m ((c.tc : Thread nD τ).loc main_arg2)) p) (hα : M2 (n := 512) (m := 128) (m ((c.tc : Thread nD τ).loc main_arg3)) α)
  (hw : M4 (a := 4) (b := 2) (c := 128) (d := 1024) (m ((c.tc : Thread nD τ).loc main_arg4)) w) (hβ : M4 (a := 4) (b := 2) (c := 1) (d := 1024) (m ((c.tc : Thread nD τ).loc main_arg5)) β)

theorem h40 : t.val / 40 < 2 := by have : t.val < 80 := t.isLt; omega

include hp in
theorem blk9 : M2 (n := 256) (m := 256) (iblk m c 9 t) (fun r l => p (t.val / 40 * 256 + r) (t.val / 10 % 4 * 256 + l)) := fun y => by
  have h0 : (y 0).val < 256 := (y 0).isLt
  have h1 : (y 1).val < 256 := (y 1).isLt
  have h2 := h40 t
  have e : iblk m c 9 t y = m ((c.tc : Thread nD τ).loc main_arg2) (ValueIdx.ix2 (n0 := 512) (n1 := 11264) ⟨t.val / 40 * 256 + (y 0).val, by omega⟩ ⟨t.val / 10 % 4 * 256 + (y 1).val, by omega⟩) := by
    blk_point [iblk, V, idx t]
  exact e.trans (hp _)

include hp in
theorem blk10 : M2 (n := 256) (m := 256) (iblk m c 10 t) (fun r l => p (t.val / 40 * 256 + r) (1024 + (t.val / 10 % 4 * 256 + l))) := fun y => by
  have h0 : (y 0).val < 256 := (y 0).isLt
  have h1 : (y 1).val < 256 := (y 1).isLt
  have h2 := h40 t
  have e : iblk m c 10 t y = m ((c.tc : Thread nD τ).loc main_arg2) (ValueIdx.ix2 (n0 := 512) (n1 := 11264) ⟨t.val / 40 * 256 + (y 0).val, by omega⟩ ⟨1024 + (t.val / 10 % 4 * 256 + (y 1).val), by omega⟩) := by
    blk_point [iblk, V, idx t]
  exact e.trans (hp _)

include hp in
theorem blk11 : M2 (n := 256) (m := 512) (iblk m c 11 t) (fun r l => p (t.val / 40 * 256 + r) (2048 + (t.val / 10 % 4 * 512 + l))) := fun y => by
  have h0 : (y 0).val < 256 := (y 0).isLt
  have h1 : (y 1).val < 512 := (y 1).isLt
  have h2 := h40 t
  have e : iblk m c 11 t y = m ((c.tc : Thread nD τ).loc main_arg2) (ValueIdx.ix2 (n0 := 512) (n1 := 11264) ⟨t.val / 40 * 256 + (y 0).val, by omega⟩ ⟨2048 + (t.val / 10 % 4 * 512 + (y 1).val), by omega⟩) := by
    blk_point [iblk, V, idx t]
  exact e.trans (hp _)

include hα in
theorem blk12 : M2 (n := 256) (m := 128) (iblk m c 12 t) (fun r l => α (t.val / 40 * 256 + r) (l)) := fun y => by
  have h0 : (y 0).val < 256 := (y 0).isLt
  have h1 : (y 1).val < 128 := (y 1).isLt
  have h2 := h40 t
  have e : iblk m c 12 t y = m ((c.tc : Thread nD τ).loc main_arg3) (ValueIdx.ix2 (n0 := 512) (n1 := 128) ⟨t.val / 40 * 256 + (y 0).val, by omega⟩ ⟨(y 1).val, by omega⟩) := by
    blk_point [iblk, V, idx t]
  exact e.trans (hα _)

include hp in
theorem blk13 : M2 (n := 256) (m := 512) (iblk m c 13 t) (fun r l => p (t.val / 40 * 256 + r) (4096 + (t.val / 10 % 4 * 512 + l))) := fun y => by
  have h0 : (y 0).val < 256 := (y 0).isLt
  have h1 : (y 1).val < 512 := (y 1).isLt
  have h2 := h40 t
  have e : iblk m c 13 t y = m ((c.tc : Thread nD τ).loc main_arg2) (ValueIdx.ix2 (n0 := 512) (n1 := 11264) ⟨t.val / 40 * 256 + (y 0).val, by omega⟩ ⟨4096 + (t.val / 10 % 4 * 512 + (y 1).val), by omega⟩) := by
    blk_point [iblk, V, idx t]
  exact e.trans (hp _)

include hw in
theorem blk14 : M4 (a := 1) (b := 2) (c := 128) (d := 256) (iblk m c 14 t) (fun i k r l => w 0 k r (t.val / 10 % 4 * 256 + l)) := fun y => by
  have h0 : (y 0).val < 1 := (y 0).isLt
  have h1 : (y 1).val < 2 := (y 1).isLt
  have h2 : (y 2).val < 128 := (y 2).isLt
  have h3 : (y 3).val < 256 := (y 3).isLt
  have e : iblk m c 14 t y = m ((c.tc : Thread nD τ).loc main_arg4) (ValueIdx.ix4 (n0 := 4) (n1 := 2) (n2 := 128) (n3 := 1024) ⟨0, by omega⟩ ⟨(y 1).val, h1⟩ ⟨(y 2).val, h2⟩ ⟨t.val / 10 % 4 * 256 + (y 3).val, by omega⟩) := by
    blk_point [iblk, V, idx t]
    all_goals first | omega | skip
  exact e.trans (hw _)

include hβ in
theorem blk15 : M4 (a := 1) (b := 2) (c := 1) (d := 256) (iblk m c 15 t) (fun i k r l => β 0 k r (t.val / 10 % 4 * 256 + l)) := fun y => by
  have h0 : (y 0).val < 1 := (y 0).isLt
  have h1 : (y 1).val < 2 := (y 1).isLt
  have h2 : (y 2).val < 1 := (y 2).isLt
  have h3 : (y 3).val < 256 := (y 3).isLt
  have e : iblk m c 15 t y = m ((c.tc : Thread nD τ).loc main_arg5) (ValueIdx.ix4 (n0 := 4) (n1 := 2) (n2 := 1) (n3 := 1024) ⟨0, by omega⟩ ⟨(y 1).val, h1⟩ ⟨(y 2).val, h2⟩ ⟨t.val / 10 % 4 * 256 + (y 3).val, by omega⟩) := by
    blk_point [iblk, V, idx t]
    all_goals first | omega | skip
  exact e.trans (hβ _)

end blocks

section weights
variable {x14 : Vec Ideal S1x2x128x256 .bf16} {x15 : Vec Ideal S1x2x1x256 .f32} {w β : ℕ → ℕ → ℕ → ℕ → ℝ}
variable (hw : M4 (a := 1) (b := 2) (c := 128) (d := 256) x14 w) (hβ : M4 (a := 1) (b := 2) (c := 1) (d := 256) x15 β)

/-- Two leading unit axes dropped. -/
theorem drop2 {φ : FTy} {a b : ℕ} {x : FVec Ideal ⟨4, ![1, 1, a, b]⟩ φ} {f : ℕ → ℕ → ℝ} (h : (⟨4, ![1, 1, a, b]⟩ : Shape).ShapeCasts ⟨2, ![a, b]⟩)
    (hx : ∀ y, x y = ((f (y 2).val (y 3).val : ℝ) : EReal)) : M2 (n := a) (m := b) (shapeCast ⟨2, ![a, b]⟩ x h) f := fun y => by
  obtain ⟨i, j, rfl⟩ := eta2 y
  refine (Idealize.ShloMosaic.shapeCast_apply x h (ValueIdx.ix2 i j) (ValueIdx.ix4 (0 : Fin 1) (0 : Fin 1) i j) (by
    rw [Shape.rowMajor_val_four, Shape.rowMajor_val_two]
    show ((0 * 1 + 0) * a + i.val) * b + j.val = i.val * b + j.val
    simp)).trans (hx _)

include hw in
theorem w0_val : M2 (n := 128) (m := 256) (shapeCast S128x256 (wD0 x14) shapeCasts_S1x1x128x256_S128x256) (fun l j => w 0 0 l j) :=
  drop2 (φ := .bf16) _ fun y => (hw _).trans (congrArg (fun t : ℝ => (t : EReal)) (by
    show w (0 + 1 * (y 0).val) (0 + 1 * (y 1).val) (0 + 1 * (y 2).val) (0 + 1 * (y 3).val) = _
    rw [show (y 0).val = 0 from Nat.lt_one_iff.1 (y 0).isLt, show (y 1).val = 0 from Nat.lt_one_iff.1 (y 1).isLt]
    simp only [Nat.one_mul, Nat.zero_add, Nat.add_zero, Nat.mul_zero]))
include hw in
theorem w1_val : M2 (n := 128) (m := 256) (shapeCast S128x256 (wD1 x14) shapeCasts_S1x1x128x256_S128x256) (fun l j => w 0 1 l j) :=
  drop2 (φ := .bf16) _ fun y => (hw _).trans (congrArg (fun t : ℝ => (t : EReal)) (by
    show w (0 + 1 * (y 0).val) (1 + 1 * (y 1).val) (0 + 1 * (y 2).val) (0 + 1 * (y 3).val) = _
    rw [show (y 0).val = 0 from Nat.lt_one_iff.1 (y 0).isLt, show (y 1).val = 0 from Nat.lt_one_iff.1 (y 1).isLt]
    simp only [Nat.one_mul, Nat.zero_add, Nat.add_zero, Nat.mul_zero]))
include hβ in
theorem b0_val : M2 (n := 1) (m := 256) (shapeCast S1x256 (bD0 x15) shapeCasts_S1x1x1x256_S1x256) (fun _ j => β 0 0 0 j) :=
  drop2 (φ := .f32) _ fun y => (hβ _).trans (congrArg (fun t : ℝ => (t : EReal)) (by
    show β (0 + 1 * (y 0).val) (0 + 1 * (y 1).val) (0 + 1 * (y 2).val) (0 + 1 * (y 3).val) = _
    rw [show (y 0).val = 0 from Nat.lt_one_iff.1 (y 0).isLt, show (y 1).val = 0 from Nat.lt_one_iff.1 (y 1).isLt, show (y 2).val = 0 from Nat.lt_one_iff.1 (y 2).isLt]
    simp only [Nat.one_mul, Nat.zero_add, Nat.add_zero, Nat.mul_zero]))
include hβ in
theorem b1_val : M2 (n := 1) (m := 256) (shapeCast S1x256 (bD1 x15) shapeCasts_S1x1x1x256_S1x256) (fun _ j => β 0 1 0 j) :=
  drop2 (φ := .f32) _ fun y => (hβ _).trans (congrArg (fun t : ℝ => (t : EReal)) (by
    show β (0 + 1 * (y 0).val) (1 + 1 * (y 1).val) (0 + 1 * (y 2).val) (0 + 1 * (y 3).val) = _
    rw [show (y 0).val = 0 from Nat.lt_one_iff.1 (y 0).isLt, show (y 1).val = 0 from Nat.lt_one_iff.1 (y 1).isLt, show (y 2).val = 0 from Nat.lt_one_iff.1 (y 2).isLt]
    simp only [Nat.one_mul, Nat.zero_add, Nat.add_zero, Nat.mul_zero]))

end weights

end Cert.KernelIdeal.Gla

end
-- ==== Proof.Gla.Value.Final.lean ====
/- The context's result after the run is the reference's. -/
module

public import proofs.«01_k».proof.Proof.Gla.Value.Blocks
public import proofs.«01_k».proof.Proof.Gla.KernelIdeal.Frame
public import Idealize.ShloMosaic.Lib.Pipeline.ValueKit

@[expose] public section

set_option maxRecDepth 16384

noncomputable section

namespace Cert.KernelIdeal.Gla

open Cert.KernelIdeal Cert.KernelIdeal.Gen
open Idealize.ShloMosaic Idealize.ShloMosaic.TcCoe Idealize.ShloMosaic.ValueIdx
open Cert.ReferenceIdeal.GlaRef (M4 normE normE_congr lgate lsig zval v91_val v76_val v8_val v10_val v12_val v26_val v40_val)
open Cert.ReferenceIdeal.Read (val_main_v91)
open scoped BigOperators

variable (m : (ℓ : Loc nD τ sig) → Buf (Elt Ideal) ℓ)

section
variable (p α : ℕ → ℕ → ℝ) (w β : ℕ → ℕ → ℕ → ℕ → ℝ) (b h : ℕ)

/-- The queries, keys and values of batch `b` and head `h`, and the log decays of direction `k` in powers of two. -/
def qOf (r l : ℕ) : ℝ := p (b * 256 + r) (h * 256 + l)
def kOf (r l : ℕ) : ℝ := p (b * 256 + r) (1024 + (h * 256 + l))
def vOf (r l : ℕ) : ℝ := p (b * 256 + r) (2048 + (h * 512 + l))
def aOf (k r l : ℕ) : ℝ :=
  lsigK (zK (fun r l => α (b * 256 + r) l) (fun l j => w 0 k l (h * 256 + j)) (fun j => β 0 k 0 (h * 256 + j)) r l) * ((Real.log 2)⁻¹ * (1 / 16))

/-- The context's attention of a batch and a head, both directions together. -/
def ctx (r j : ℕ) : ℝ :=
  WF (qOf p b h) (kOf p b h) (vOf p b h) (aOf α w β b h 0) r j + WB (qOf p b h) (kOf p b h) (vOf p b h) (aOf α w β b h 1) r j

theorem aOf_eq (k r l : ℕ) : aOf α w β b h k r l = lgate α w β k (b * 256 + r) (h * 256 + l) * (Real.log 2)⁻¹ := Cert.GlaEqual.decay _

end

variable {p α : ℕ → ℕ → ℝ} {w β : ℕ → ℕ → ℕ → ℕ → ℝ} (c : Dev nD) (t : Fin cfg0.N)

variable (hp : M2 (n := 512) (m := 11264) (m ((c.tc : Thread nD τ).loc main_arg2)) p) (hα : M2 (n := 512) (m := 128) (m ((c.tc : Thread nD τ).loc main_arg3)) α)
  (hw : M4 (a := 4) (b := 2) (c := 128) (d := 1024) (m ((c.tc : Thread nD τ).loc main_arg4)) w) (hβ : M4 (a := 4) (b := 2) (c := 1) (d := 1024) (m ((c.tc : Thread nD τ).loc main_arg5)) β)

include hp hα hw hβ in
/-- The accumulator of point `t`'s batch and head. -/
theorem accAt_val : M2 (n := 256) (m := 512) (accAt m c t) (ctx p α w β (t.val / 40) (t.val / 10 % 4)) :=
  accV_val (blk9 m c t hp) (blk10 m c t hp) (blk11 m c t hp)
    (hi17 (blk12 m c t hα) (w0_val (blk14 m c t hw)) (b0_val (blk15 m c t hβ))) (lo17 (blk12 m c t hα) (w0_val (blk14 m c t hw)) (b0_val (blk15 m c t hβ)))
    (hi23 (blk12 m c t hα) (w1_val (blk14 m c t hw)) (b1_val (blk15 m c t hβ))) (lo23 (blk12 m c t hα) (w1_val (blk14 m c t hw)) (b1_val (blk15 m c t hβ)))

include hp hα hw hβ in
/-- The reference's attention is the same function. -/
theorem ref_val : M4 (a := 2) (b := 4) (c := 256) (d := 512) (Cert.ReferenceIdeal.Read.val_main_v76 (F := Ideal) (m ((c.tc : Thread nD τ).loc main_arg2))
    (m ((c.tc : Thread nD τ).loc main_arg3)) (m ((c.tc : Thread nD τ).loc main_arg4)) (m ((c.tc : Thread nD τ).loc main_arg5))) (ctx p α w β) := fun y => by
  have h2 : (y 2).val < 256 := (y 2).isLt
  refine (v76_val (v8_val hp) (v10_val hp) (v12_val hp) (v26_val hα hw hβ) (v40_val hα hw hβ) y).trans (congrArg (fun t : ℝ => (t : EReal)) ?_)
  exact congrArg₂ (fun a b : ℝ => a + b) (Cert.GlaEqual.forward (fun r l _ _ => aOf_eq α w β _ _ 0 r l) h2) (Cert.GlaEqual.backward (fun r l _ _ => aOf_eq α w β _ _ 1 r l) h2)

/-- The block of the context's result at point `t`, by rows and columns. -/
theorem emb17 (G : S512x2048.Idx → EReal) (y : S256x512.Idx) (h0 : t.val / 40 * 256 + (y 0).val < 512) (h1 : t.val / 10 % 4 * 512 + (y 1).val < 2048) :
    G (((cfg0.win 17).blk t).view.emb y) = G (ValueIdx.ix2 (n0 := 512) (n1 := 2048) ⟨t.val / 40 * 256 + (y 0).val, h0⟩ ⟨t.val / 10 % 4 * 512 + (y 1).val, h1⟩) := by
  blk_point [idx t]

include hp hα hw hβ in
/-- What the launch stores at block index `y` of point `t`'s run. -/
theorem point (y : S256x512.Idx) : res m c t y
    = val_main_v91 (F := Ideal) (m ((c.tc : Thread nD τ).loc main_arg2)) (m ((c.tc : Thread nD τ).loc main_arg3)) (m ((c.tc : Thread nD τ).loc main_arg4)) (m ((c.tc : Thread nD τ).loc main_arg5))
        (((cfg0.win 17).blk t).view.emb y) := by
  have ht : t.val < 80 := t.isLt
  have h0 : (y 0).val < 256 := (y 0).isLt
  have h1 : (y 1).val < 512 := (y 1).isLt
  refine Eq.trans ?_ (emb17 t _ y (by omega) (by omega)).symm
  refine Eq.trans ?_ (v91_val (ref_val m c hp hα hw hβ) hp _).symm
  refine (pay12_val _ (accAt_val m c _ hp hα hw hβ) y).trans ?_
  refine congrArg₂ (fun a b : EReal => a * b) ?_ ((blk13 m c _ hp y).trans (congrArg (fun t : ℝ => (t : EReal)) ?_))
  · show normE (ctx p α w β ((t.val - t.val % 10) / 40) ((t.val - t.val % 10) / 10 % 4) (y 0).val) (y 1).val
      = normE (ctx p α w β ((t.val / 40 * 256 + (y 0).val) / 256) ((t.val / 10 % 4 * 512 + (y 1).val) / 512) ((t.val / 40 * 256 + (y 0).val) % 256)) ((t.val / 10 % 4 * 512 + (y 1).val) % 512)
    rw [show (t.val - t.val % 10) / 40 = t.val / 40 by omega, show (t.val - t.val % 10) / 10 % 4 = t.val / 10 % 4 by omega,
      show (t.val / 40 * 256 + (y 0).val) / 256 = t.val / 40 by omega, show (t.val / 10 % 4 * 512 + (y 1).val) / 512 = t.val / 10 % 4 by omega,
      show (t.val / 40 * 256 + (y 0).val) % 256 = (y 0).val by omega, show (t.val / 10 % 4 * 512 + (y 1).val) % 512 = (y 1).val by omega]
  · show p ((t.val - t.val % 10 + 8) / 40 * 256 + (y 0).val) (4096 + ((t.val - t.val % 10 + 8) / 10 % 4 * 512 + (y 1).val))
      = p (t.val / 40 * 256 + (y 0).val) (4096 + (t.val / 10 % 4 * 512 + (y 1).val))
    rw [show (t.val - t.val % 10 + 8) / 40 = t.val / 40 by omega, show (t.val - t.val % 10 + 8) / 10 % 4 = t.val / 10 % 4 by omega]

include hp hα hw hβ in
/-- The context's result after the run. -/
theorem final : (dats m 0 c).arrAt 17 (cfgs 0).N
    = val_main_v91 (F := Ideal) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 17 _ (by decide +kernel) fun t _ y => ?_
  blk_simp
  rw [after0_17]
  exact point m c t hp hα hw hβ y

end Cert.KernelIdeal.Gla

end
-- ==== Proof.Gla.Claim.lean ====
/- The claims about the gated linear attention of the context: the reference runs and leaves its arguments
   as they were, and on finite arguments the call's context result is the reference's at the ideal instance. -/
module

public import proofs.«01_k».proof.Defs
public import proofs.«01_k».proof.Proof.Gla.Value.Finite
public import proofs.«01_k».proof.Proof.Gla.Value.Final
public import proofs.«01_k».proof.Proof.Gen.ReferenceIdeal.Run
public import Idealize.ShloMosaic.Lib.Quiescent
public import Idealize.ShloMosaic.Lib.Claim

@[expose] public section

set_option maxRecDepth 16384

noncomputable section

open Idealize.ShloMosaic Idealize.ShloMosaic.TcCoe Idealize.SL.Sem

namespace Cert.GlaClaim

attribute [local instance] Cert.KernelIdeal.Gen.facts Cert.ReferenceIdeal.Gen.facts Cert.Pre_finite.Gen.facts

/-- The reference runs, its arguments and every counter as at the start. -/
theorem refFrame : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- The same from finite arguments. -/
theorem refFrame_finite : Cert.quiescent_ReferenceIdeal_pre_finite := fun m g _ => refFrame m g trivial

section run

open Cert.KernelIdeal Cert.KernelIdeal.Gen Cert.KernelIdeal.Gla

/-- The call's run from finite arguments, with the context's result. -/
theorem run (m : (ℓ : Loc Cert.KernelIdeal.nD Cert.KernelIdeal.τ Cert.KernelIdeal.sig) → Buf (Elt Ideal) ℓ) (g : Dev Cert.KernelIdeal.nD → PrngReg) (hm : Cert.Pre_KernelIdeal_finite m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0_1) = Cert.ReferenceIdeal.Read.val_main_v91 (F := Ideal)
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c => ⟨by
      obtain ⟨⟨p, hp⟩, ⟨α, hα⟩, ⟨w, hw⟩, ⟨β, hβ⟩⟩ := Cert.GlaFinite.finite_args hm c
      exact (arr_17 m c _ _ ((h.1 c).1 17)).trans (final m c hp hα hw hβ),
      (Pipeline.RDat.FramePost.arr_in h.1 c 8 rfl).trans ((A_eq m c 8).trans (V_main_arg0 m c)),
      (Pipeline.RDat.FramePost.arr_in h.1 c 7 rfl).trans ((A_eq m c 7).trans (V_main_arg1 m c)),
      (Pipeline.RDat.FramePost.arr_in h.1 c 13 rfl).trans ((A_eq m c 13).trans (V_main_arg2 m c)),
      (Pipeline.RDat.FramePost.arr_in h.1 c 12 rfl).trans ((A_eq m c 12).trans (V_main_arg3 m c)),
      (Pipeline.RDat.FramePost.arr_in h.1 c 14 rfl).trans ((A_eq m c 14).trans (V_main_arg4 m c)),
      (Pipeline.RDat.FramePost.arr_in h.1 c 15 rfl).trans ((A_eq m c 15).trans (V_main_arg5 m c))⟩)
    (run_main_quiescent m g)

end run

/-- On finite arguments the call and the reference end with equal results. -/
theorem algebraic : Cert.algebraic_KernelIdeal_ReferenceIdeal_pre_finite := fun m g m' g' hm hagree =>
  ⟨fun c => Cert.ReferenceIdeal.Read.val_main_v91 (F := Ideal)
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), run m g hm,
    (θ_run Cert.ReferenceIdeal.defs _ _).mono (fun _ h c => ⟨by
      refine (h c).1.trans ((Cert.ReferenceIdeal.Read.val_main_v91_eq (Idealize.ShloMosaic.StableHlo.launchContents m' c)).trans ?_)
      obtain ⟨h0, h1, h2, h3, h4, h5⟩ := hagree c
      show Cert.ReferenceIdeal.Read.val_main_v91 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
      rw [h2, h3, h4, h5], (h c).2⟩) (Cert.ReferenceIdeal.Value.run m' g')⟩

end Cert.GlaClaim

end
-- ==== Proof.FfnCtx.Value.lean ====
/- The first feed-forward product with its gate for the context's rows, what the call computes: the array after the run is the
   reference's term of the arguments. The rows are one block, so that every point casts its own weight blocks. -/
module
public import proofs.«01_k».proof.Proof.Gen.FfnCtxIdeal.Value
public import proofs.«01_k».proof.Proof.Gen.FfnCtxRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)

namespace Cert.FfnCtxIdeal.Val
open Cert.FfnCtxIdeal Cert.FfnCtxIdeal.Gen
variable (m : (ℓ : Loc nD τ sig) → Buf (Elt Ideal) ℓ)

/-- The reference's term over the two arguments. -/
abbrev REF (X : FVec Ideal S512x2048 .bf16) (W : FVec Ideal S4x2048x11264 .f32) : FVec Ideal S512x5632 .bf16 :=
  truncf .bf16 (mulf (mulf (extractStridedSlice Cert.FfnCtxRefIdeal.S512x5632 ![0, 0] (Host.dotGeneral Cert.FfnCtxRefIdeal.dot_S512x2048_S2048x11264_S512x11264_1_0_0_1_n_n none (extf .f32 X Cert.FfnCtxRefIdeal.Gen.bitsLt_bf16_f32) (shapeCast _ (extractStridedSlice Cert.FfnCtxRefIdeal.S1x2048x11264 ![0, 0, 0] W Cert.FfnCtxRefIdeal.Gen.slices_S4x2048x11264_S1x2048x11264_0_0_0) Cert.FfnCtxRefIdeal.Gen.shapeCasts_S1x2048x11264_S2048x11264)) Cert.FfnCtxRefIdeal.Gen.slices_S512x11264_S512x5632_0_0) (Host.divf (broadcastInDim Cert.FfnCtxRefIdeal.S512x5632 ![] Cert.FfnCtxRefIdeal.Gen.bcast_S_S512x5632 (constant Cert.FfnCtxRefIdeal.S_ .f32 0x3F800000#32)) (addf (broadcastInDim Cert.FfnCtxRefIdeal.S512x5632 ![] Cert.FfnCtxRefIdeal.Gen.bcast_S_S512x5632 (constant Cert.FfnCtxRefIdeal.S_ .f32 0x3F800000#32)) (Host.exp (Host.negf (extractStridedSlice Cert.FfnCtxRefIdeal.S512x5632 ![0, 0] (Host.dotGeneral Cert.FfnCtxRefIdeal.dot_S512x2048_S2048x11264_S512x11264_1_0_0_1_n_n none (extf .f32 X Cert.FfnCtxRefIdeal.Gen.bitsLt_bf16_f32) (shapeCast _ (extractStridedSlice Cert.FfnCtxRefIdeal.S1x2048x11264 ![0, 0, 0] W Cert.FfnCtxRefIdeal.Gen.slices_S4x2048x11264_S1x2048x11264_0_0_0) Cert.FfnCtxRefIdeal.Gen.shapeCasts_S1x2048x11264_S2048x11264)) Cert.FfnCtxRefIdeal.Gen.slices_S512x11264_S512x5632_0_0)))))) (extractStridedSlice Cert.FfnCtxRefIdeal.S512x5632 ![0, 5632] (Host.dotGeneral Cert.FfnCtxRefIdeal.dot_S512x2048_S2048x11264_S512x11264_1_0_0_1_n_n none (extf .f32 X Cert.FfnCtxRefIdeal.Gen.bitsLt_bf16_f32) (shapeCast _ (extractStridedSlice Cert.FfnCtxRefIdeal.S1x2048x11264 ![0, 0, 0] W Cert.FfnCtxRefIdeal.Gen.slices_S4x2048x11264_S1x2048x11264_0_0_0) Cert.FfnCtxRefIdeal.Gen.shapeCasts_S1x2048x11264_S2048x11264)) Cert.FfnCtxRefIdeal.Gen.slices_S512x11264_S512x5632_0_5632)) Cert.FfnCtxRefIdeal.Gen.bitsLt_bf16_f32

/-- The windows' block indices: the column block is the point's number. -/
theorem idx : ∀ t : Fin cfg0.N, win0_0.index t = ![0, 0] ∧ win0_1.index t = ![0, 0, t.val]
    ∧ win0_2.index t = ![0, 0, t.val + 11] ∧ win0_3.index t = ![0, t.val] :=
  (by decide +kernel : ∀ t : Fin grid0.N, _)

/-- What the body stores at block index `y` of point `t`. -/
theorem point (c : Dev nD) (t : Fin cfg0.N) (y) : k0_pay5 (iblk m c 1 t) (iblk m c 2 t) (iblk m c 0 t) y
    = REF (m ((c : Thread nD τ).loc main_arg0)) (m ((c : Thread nD τ).loc main_arg1)) (((cfg0.win 3).blk t).view.emb y) := by
  pointwise [k0_pay5, k0_pay1, k0_pay2, REF]
  unfold Ideal.logistic
  blk_point [iblk, V, idx t]

/-- The result array after the run. -/
theorem final (c : Dev nD) : (dats m 0 c).arrAt 3 (cfgs 0).N
    = REF (m ((c : Thread nD τ).loc main_arg0)) (m ((c : Thread nD τ).loc main_arg1)) := by
  refine (dats m 0 c).arrAt_eq_of_covers 3 _ (by decide +kernel) fun t _ y => ?_
  blk_simp
  rw [after0_3, outsAt0]
  frame_out
  exact point m c t y

end Cert.FfnCtxIdeal.Val
end
end
-- ==== Proof.FfnCtx.Claim.lean ====
/- The claims about the gated feed-forward product of the context's rows: the reference runs and leaves its arguments as they were, and the call's
   result is the reference's at the ideal instance. -/
module
public import proofs.«01_k».proof.Defs
public import proofs.«01_k».proof.Proof.FfnCtx.Value
public import Idealize.ShloMosaic.Lib.Quiescent
public import Idealize.ShloMosaic.Lib.Claim
@[expose] public section
set_option maxRecDepth 16384
noncomputable section
open Idealize.ShloMosaic Idealize.ShloMosaic.TcCoe Idealize.SL.Sem

namespace Cert.FfnCtxClaim

attribute [local instance] Cert.FfnCtxIdeal.Gen.facts Cert.FfnCtxRefIdeal.Gen.facts

/-- The reference runs, its arguments and every counter as at the start. -/
theorem refFrame : Cert.quiescent_FfnCtxRefIdeal := fun m g _ =>
  (θ_run Cert.FfnCtxRefIdeal.defs _ _).mono (fun r h => ⟨fun c => (h c).2, sem_eq_zero_of_no_sems rfl r.2⟩)
    (Cert.FfnCtxRefIdeal.Value.run m g)

/-- The call and the reference end with equal results. -/
theorem algebraic : Cert.algebraic_FfnCtxIdeal_FfnCtxRefIdeal := by
  pair_intro
  · run_from Cert.FfnCtxIdeal.Gen.run_main m g
  · run_from Cert.FfnCtxRefIdeal.Value.run m' g'
    exact (Cert.FfnCtxIdeal.Val.final m c).symm

end Cert.FfnCtxClaim
end
end
-- ==== Proof.MergeCtx.Value.lean ====
/- The gated sum of the two branches for the context's rows, what the call computes: the array after the run is the
   reference's term of the arguments. The rows are one block, so that every point casts its own weight blocks. -/
module
public import proofs.«01_k».proof.Proof.Gen.MergeCtxIdeal.Value
public import proofs.«01_k».proof.Proof.Gen.MergeCtxRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)

namespace Cert.MergeCtxIdeal.Val
open Cert.MergeCtxIdeal Cert.MergeCtxIdeal.Gen
variable (m : (ℓ : Loc nD τ sig) → Buf (Elt Ideal) ℓ)

/-- The reference's term over the five arguments: the two activations, the projection, the two weights. -/
abbrev REF (X0 : FVec Ideal S512x2048 .bf16) (X1 : FVec Ideal S512x1024 .bf16) (X2 : FVec Ideal S512x11264 .bf16)
    (X3 : FVec Ideal S4x2048x2048 .f32) (X4 : FVec Ideal S4x1024x2048 .f32) : FVec Ideal S512x2048 .bf16 :=
  truncf .bf16 (addf (mulf (extractStridedSlice Cert.MergeCtxRefIdeal.S512x2048 ![0, 0] (Host.divf (broadcastInDim Cert.MergeCtxRefIdeal.S512x4096 ![] Cert.MergeCtxRefIdeal.Gen.bcast_S_S512x4096 (constant Cert.MergeCtxRefIdeal.S_ .f32 0x3F800000#32)) (addf (broadcastInDim Cert.MergeCtxRefIdeal.S512x4096 ![] Cert.MergeCtxRefIdeal.Gen.bcast_S_S512x4096 (constant Cert.MergeCtxRefIdeal.S_ .f32 0x3F800000#32)) (Host.exp (Host.negf (extf .f32 (extractStridedSlice Cert.MergeCtxRefIdeal.S512x4096 ![0, 7168] X2 Cert.MergeCtxRefIdeal.Gen.slices_S512x11264_S512x4096_0_7168) Cert.MergeCtxRefIdeal.Gen.bitsLt_bf16_f32))))) Cert.MergeCtxRefIdeal.Gen.slices_S512x4096_S512x2048_0_0) (Host.dotGeneral Cert.MergeCtxRefIdeal.dot_S512x2048_S2048x2048_S512x2048_1_0_0_1_n_n none (extf .f32 X0 Cert.MergeCtxRefIdeal.Gen.bitsLt_bf16_f32) (shapeCast _ (extractStridedSlice Cert.MergeCtxRefIdeal.S1x2048x2048 ![0, 0, 0] X3 Cert.MergeCtxRefIdeal.Gen.slices_S4x2048x2048_S1x2048x2048_0_0_0) Cert.MergeCtxRefIdeal.Gen.shapeCasts_S1x2048x2048_S2048x2048))) (mulf (extractStridedSlice Cert.MergeCtxRefIdeal.S512x2048 ![0, 2048] (Host.divf (broadcastInDim Cert.MergeCtxRefIdeal.S512x4096 ![] Cert.MergeCtxRefIdeal.Gen.bcast_S_S512x4096 (constant Cert.MergeCtxRefIdeal.S_ .f32 0x3F800000#32)) (addf (broadcastInDim Cert.MergeCtxRefIdeal.S512x4096 ![] Cert.MergeCtxRefIdeal.Gen.bcast_S_S512x4096 (constant Cert.MergeCtxRefIdeal.S_ .f32 0x3F800000#32)) (Host.exp (Host.negf (extf .f32 (extractStridedSlice Cert.MergeCtxRefIdeal.S512x4096 ![0, 7168] X2 Cert.MergeCtxRefIdeal.Gen.slices_S512x11264_S512x4096_0_7168) Cert.MergeCtxRefIdeal.Gen.bitsLt_bf16_f32))))) Cert.MergeCtxRefIdeal.Gen.slices_S512x4096_S512x2048_0_2048) (Host.dotGeneral Cert.MergeCtxRefIdeal.dot_S512x1024_S1024x2048_S512x2048_1_0_0_1_n_n none (extf .f32 X1 Cert.MergeCtxRefIdeal.Gen.bitsLt_bf16_f32) (shapeCast _ (extractStridedSlice Cert.MergeCtxRefIdeal.S1x1024x2048 ![0, 0, 0] X4 Cert.MergeCtxRefIdeal.Gen.slices_S4x1024x2048_S1x1024x2048_0_0_0) Cert.MergeCtxRefIdeal.Gen.shapeCasts_S1x1024x2048_S1024x2048)))) Cert.MergeCtxRefIdeal.Gen.bitsLt_bf16_f32

/-- The windows' block indices: the column block is the point's number. -/
theorem idx : ∀ t : Fin cfg0.N, win0_0.index t = ![0, 0] ∧ win0_1.index t = ![0, 0]
    ∧ win0_2.index t = ![0, t.val + 7] ∧ win0_3.index t = ![0, t.val + 9]
    ∧ win0_4.index t = ![0, 0, t.val] ∧ win0_5.index t = ![0, 0, t.val]
    ∧ win0_6.index t = ![0, t.val] :=
  (by decide +kernel : ∀ t : Fin grid0.N, _)

/-- What the body stores at block index `y` of point `t`. -/
theorem point (c : Dev nD) (t : Fin cfg0.N) (y) :
    k0_pay5 (iblk m c 4 t) (iblk m c 5 t) (iblk m c 0 t) (iblk m c 1 t) (iblk m c 2 t) (iblk m c 3 t) y
    = REF (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  pointwise [k0_pay5, k0_pay1, k0_pay2, REF]
  unfold Ideal.logistic
  blk_point [iblk, V, idx t]

/-- The result array after the run. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6, outsAt0]
  frame_out
  exact point m c t y

end Cert.MergeCtxIdeal.Val
end
end
-- ==== Proof.MergeCtx.Claim.lean ====
/- The claims about the gated sum of the two branches for the context's rows: the reference runs and leaves its arguments as they were, and the call's
   result is the reference's at the ideal instance. -/
module
public import proofs.«01_k».proof.Defs
public import proofs.«01_k».proof.Proof.MergeCtx.Value
public import Idealize.ShloMosaic.Lib.Quiescent
public import Idealize.ShloMosaic.Lib.Claim
@[expose] public section
set_option maxRecDepth 16384
noncomputable section
open Idealize.ShloMosaic Idealize.ShloMosaic.TcCoe Idealize.SL.Sem

namespace Cert.MergeCtxClaim

attribute [local instance] Cert.MergeCtxIdeal.Gen.facts Cert.MergeCtxRefIdeal.Gen.facts

/-- The reference runs, its arguments and every counter as at the start. -/
theorem refFrame : Cert.quiescent_MergeCtxRefIdeal := fun m g _ =>
  (θ_run Cert.MergeCtxRefIdeal.defs _ _).mono (fun r h => ⟨fun c => (h c).2, sem_eq_zero_of_no_sems rfl r.2⟩)
    (Cert.MergeCtxRefIdeal.Value.run m g)

/-- The call and the reference end with equal results. -/
theorem algebraic : Cert.algebraic_MergeCtxIdeal_MergeCtxRefIdeal := by
  pair_intro
  · run_from Cert.MergeCtxIdeal.Gen.run_main m g
  · run_from Cert.MergeCtxRefIdeal.Value.run m' g'
    exact (Cert.MergeCtxIdeal.Val.final m c).symm

end Cert.MergeCtxClaim
end
end
-- ==== Proof.ProjCtx.Value.lean ====
/- The context's input projection, what the call computes: the array after the run is the reference's term of the
   arguments. -/
module
public import proofs.«01_k».proof.Proof.Gen.ProjCtxIdeal.Value
public import proofs.«01_k».proof.Proof.Gen.ProjCtxRefIdeal.Run
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)

namespace Cert.ProjCtxIdeal.Val
open Cert.ProjCtxIdeal Cert.ProjCtxIdeal.Gen
variable (m : (ℓ : Loc nD τ sig) → Buf (Elt Ideal) ℓ)

/-- The reference's term over the three arguments. -/
abbrev REF (X : FVec Ideal S512x2048 .bf16) (W : FVec Ideal S4x2048x11296 .f32) (G : FVec Ideal S4x2048 .f32) : FVec Ideal S512x11264 .bf16 :=
  truncf .bf16 ((concatenate Cert.ProjCtxRefIdeal.S512x11264 1 [⟨Cert.ProjCtxRefIdeal.S512x1024, ((mulf (extractStridedSlice Cert.ProjCtxRefIdeal.S512x1024 ![0, 0] (Host.dotGeneral Cert.ProjCtxRefIdeal.dot_S512x2048_S2048x11296_S512x11296_1_0_0_1_n_n none (extf .f32 X Cert.ProjCtxRefIdeal.Gen.bitsLt_bf16_f32) (shapeCast _ (extractStridedSlice Cert.ProjCtxRefIdeal.S1x2048x11296 ![0, 0, 0] W Cert.ProjCtxRefIdeal.Gen.slices_S4x2048x11296_S1x2048x11296_0_0_0) Cert.ProjCtxRefIdeal.Gen.shapeCasts_S1x2048x11296_S2048x11296)) Cert.ProjCtxRefIdeal.Gen.slices_S512x11296_S512x1024_0_0) (broadcastInDim Cert.ProjCtxRefIdeal.S512x1024 ![] Cert.ProjCtxRefIdeal.Gen.bcast_S_S512x1024 (constant Cert.ProjCtxRefIdeal.S_ .f32 0x3D800000#32))) : (⟨Cert.ProjCtxRefIdeal.S512x1024, .f32⟩ : BufTy).Contents (Elt Ideal))⟩, ⟨Cert.ProjCtxRefIdeal.S512x1024, ((extractStridedSlice Cert.ProjCtxRefIdeal.S512x1024 ![0, 1024] (Host.dotGeneral Cert.ProjCtxRefIdeal.dot_S512x2048_S2048x11296_S512x11296_1_0_0_1_n_n none (extf .f32 X Cert.ProjCtxRefIdeal.Gen.bitsLt_bf16_f32) (shapeCast _ (extractStridedSlice Cert.ProjCtxRefIdeal.S1x2048x11296 ![0, 0, 0] W Cert.ProjCtxRefIdeal.Gen.slices_S4x2048x11296_S1x2048x11296_0_0_0) Cert.ProjCtxRefIdeal.Gen.shapeCasts_S1x2048x11296_S2048x11296)) Cert.ProjCtxRefIdeal.Gen.slices_S512x11296_S512x1024_0_1024) : (⟨Cert.ProjCtxRefIdeal.S512x1024, .f32⟩ : BufTy).Contents (Elt Ideal))⟩, ⟨Cert.ProjCtxRefIdeal.S512x2048, ((extractStridedSlice Cert.ProjCtxRefIdeal.S512x2048 ![0, 2048] (Host.dotGeneral Cert.ProjCtxRefIdeal.dot_S512x2048_S2048x11296_S512x11296_1_0_0_1_n_n none (extf .f32 X Cert.ProjCtxRefIdeal.Gen.bitsLt_bf16_f32) (shapeCast _ (extractStridedSlice Cert.ProjCtxRefIdeal.S1x2048x11296 ![0, 0, 0] W Cert.ProjCtxRefIdeal.Gen.slices_S4x2048x11296_S1x2048x11296_0_0_0) Cert.ProjCtxRefIdeal.Gen.shapeCasts_S1x2048x11296_S2048x11296)) Cert.ProjCtxRefIdeal.Gen.slices_S512x11296_S512x2048_0_2048) : (⟨Cert.ProjCtxRefIdeal.S512x2048, .f32⟩ : BufTy).Contents (Elt Ideal))⟩, ⟨Cert.ProjCtxRefIdeal.S512x2048, ((mulf (broadcastInDim Cert.ProjCtxRefIdeal.S512x2048 ![0, 1] Cert.ProjCtxRefIdeal.Gen.bcast_S1x2048_S512x2048_0_1 (broadcastInDim Cert.ProjCtxRefIdeal.S1x2048 ![1] Cert.ProjCtxRefIdeal.Gen.bcast_S2048_S1x2048_1 (shapeCast _ (extractStridedSlice Cert.ProjCtxRefIdeal.S1x2048 ![0, 0] G Cert.ProjCtxRefIdeal.Gen.slices_S4x2048_S1x2048_0_0) Cert.ProjCtxRefIdeal.Gen.shapeCasts_S1x2048_S2048))) (mulf (extractStridedSlice Cert.ProjCtxRefIdeal.S512x2048 ![0, 4096] (Host.dotGeneral Cert.ProjCtxRefIdeal.dot_S512x2048_S2048x11296_S512x11296_1_0_0_1_n_n none (extf .f32 X Cert.ProjCtxRefIdeal.Gen.bitsLt_bf16_f32) (shapeCast _ (extractStridedSlice Cert.ProjCtxRefIdeal.S1x2048x11296 ![0, 0, 0] W Cert.ProjCtxRefIdeal.Gen.slices_S4x2048x11296_S1x2048x11296_0_0_0) Cert.ProjCtxRefIdeal.Gen.shapeCasts_S1x2048x11296_S2048x11296)) Cert.ProjCtxRefIdeal.Gen.slices_S512x11296_S512x2048_0_4096) (Host.divf (broadcastInDim Cert.ProjCtxRefIdeal.S512x2048 ![] Cert.ProjCtxRefIdeal.Gen.bcast_S_S512x2048 (constant Cert.ProjCtxRefIdeal.S_ .f32 0x3F800000#32)) (addf (broadcastInDim Cert.ProjCtxRefIdeal.S512x2048 ![] Cert.ProjCtxRefIdeal.Gen.bcast_S_S512x2048 (constant Cert.ProjCtxRefIdeal.S_ .f32 0x3F800000#32)) (Host.exp (Host.negf (extractStridedSlice Cert.ProjCtxRefIdeal.S512x2048 ![0, 4096] (Host.dotGeneral Cert.ProjCtxRefIdeal.dot_S512x2048_S2048x11296_S512x11296_1_0_0_1_n_n none (extf .f32 X Cert.ProjCtxRefIdeal.Gen.bitsLt_bf16_f32) (shapeCast _ (extractStridedSlice Cert.ProjCtxRefIdeal.S1x2048x11296 ![0, 0, 0] W Cert.ProjCtxRefIdeal.Gen.slices_S4x2048x11296_S1x2048x11296_0_0_0) Cert.ProjCtxRefIdeal.Gen.shapeCasts_S1x2048x11296_S2048x11296)) Cert.ProjCtxRefIdeal.Gen.slices_S512x11296_S512x2048_0_4096))))))) : (⟨Cert.ProjCtxRefIdeal.S512x2048, .f32⟩ : BufTy).Contents (Elt Ideal))⟩, ⟨Cert.ProjCtxRefIdeal.S512x1024, ((extractStridedSlice Cert.ProjCtxRefIdeal.S512x1024 ![0, 6176] (Host.dotGeneral Cert.ProjCtxRefIdeal.dot_S512x2048_S2048x11296_S512x11296_1_0_0_1_n_n none (extf .f32 X Cert.ProjCtxRefIdeal.Gen.bitsLt_bf16_f32) (shapeCast _ (extractStridedSlice Cert.ProjCtxRefIdeal.S1x2048x11296 ![0, 0, 0] W Cert.ProjCtxRefIdeal.Gen.slices_S4x2048x11296_S1x2048x11296_0_0_0) Cert.ProjCtxRefIdeal.Gen.shapeCasts_S1x2048x11296_S2048x11296)) Cert.ProjCtxRefIdeal.Gen.slices_S512x11296_S512x1024_0_6176) : (⟨Cert.ProjCtxRefIdeal.S512x1024, .f32⟩ : BufTy).Contents (Elt Ideal))⟩, ⟨Cert.ProjCtxRefIdeal.S512x4096, ((extractStridedSlice Cert.ProjCtxRefIdeal.S512x4096 ![0, 7200] (Host.dotGeneral Cert.ProjCtxRefIdeal.dot_S512x2048_S2048x11296_S512x11296_1_0_0_1_n_n none (extf .f32 X Cert.ProjCtxRefIdeal.Gen.bitsLt_bf16_f32) (shapeCast _ (extractStridedSlice Cert.ProjCtxRefIdeal.S1x2048x11296 ![0, 0, 0] W Cert.ProjCtxRefIdeal.Gen.slices_S4x2048x11296_S1x2048x11296_0_0_0) Cert.ProjCtxRefIdeal.Gen.shapeCasts_S1x2048x11296_S2048x11296)) Cert.ProjCtxRefIdeal.Gen.slices_S512x11296_S512x4096_0_7200) : (⟨Cert.ProjCtxRefIdeal.S512x4096, .f32⟩ : BufTy).Contents (Elt Ideal))⟩] Cert.ProjCtxRefIdeal.Gen.concatenates_S512x1024_S512x1024_S512x2048_S512x2048_S512x1024_S512x4096_S512x11264_d1 : (⟨Cert.ProjCtxRefIdeal.S512x11264, .f32⟩ : BufTy).Contents (Elt Ideal))) Cert.ProjCtxRefIdeal.Gen.bitsLt_bf16_f32

/-- The reference at a query column. -/
theorem REF_q (X : FVec Ideal S512x2048 .bf16) (W : FVec Ideal S4x2048x11296 .f32) (G : FVec Ideal S4x2048 .f32) (r : Fin 512) (n : Fin 11264)
    (p : Fin 11296) (h : n.val < 1024) (hp : p.val = n.val) :
    REF X W G (ix2 r n) = (∑ x : Fin 2048, X (ix2 r x) * W (ix3 0 x p)) * Ideal.ofBits .f32 0x3D800000#32 := by
  pointwise [REF]
  have e : (⟨n.val, by omega⟩ : Fin 11296) = p := Fin.ext hp.symm
  rw [dif_pos h]
  exact congrArg (fun q => (∑ x : Fin 2048, X (ix2 r x) * W (ix3 0 x q)) * Ideal.ofBits .f32 0x3D800000#32) e

/-- The reference at a gated column. -/
theorem REF_g (X : FVec Ideal S512x2048 .bf16) (W : FVec Ideal S4x2048x11296 .f32) (G : FVec Ideal S4x2048 .f32) (r : Fin 512) (n : Fin 11264)
    (p : Fin 11296) (g : Fin 2048) (h : 4096 ≤ n.val ∧ n.val < 6144) (hp : p.val = n.val) (hg : g.val = n.val - 4096) :
    REF X W G (ix2 r n) = G (ix2 0 g) * ((∑ x : Fin 2048, X (ix2 r x) * W (ix3 0 x p)) * Ideal.div 1 (1 + Ideal.exp (-(∑ x : Fin 2048, X (ix2 r x) * W (ix3 0 x p))))) := by
  pointwise [REF]
  obtain ⟨h0, h1⟩ := h
  rw [dif_neg (by omega), dif_neg (by omega), dif_neg (by omega), dif_pos (by omega)]
  have e : (⟨4096 + (n.val - 1024 - 1024 - 2048), by omega⟩ : Fin 11296) = p := Fin.ext (by show 4096 + (n.val - 1024 - 1024 - 2048) = p.val; omega)
  have e' : (⟨n.val - 1024 - 1024 - 2048, by omega⟩ : Fin 2048) = g := Fin.ext (by show n.val - 1024 - 1024 - 2048 = g.val; omega)
  exact congrArg₂ (fun q g => G (ix2 0 g) * ((∑ x : Fin 2048, X (ix2 r x) * W (ix3 0 x q)) * Ideal.div 1 (1 + Ideal.exp (-(∑ x : Fin 2048, X (ix2 r x) * W (ix3 0 x q)))))) e e'

/-- The reference at a plain column. -/
theorem REF_p (X : FVec Ideal S512x2048 .bf16) (W : FVec Ideal S4x2048x11296 .f32) (G : FVec Ideal S4x2048 .f32) (r : Fin 512) (n : Fin 11264)
    (p : Fin 11296) (h : 1024 ≤ n.val ∧ n.val < 4096 ∧ p.val = n.val ∨ 6144 ≤ n.val ∧ p.val = n.val + 32) :
    REF X W G (ix2 r n) = (∑ x : Fin 2048, X (ix2 r x) * W (ix3 0 x p)) := by
  pointwise [REF]
  rw [dif_neg (by omega)]
  by_cases h1 : n.val < 2048
  · have e : (⟨1024 + (n.val - 1024), by omega⟩ : Fin 11296) = p := Fin.ext (by show 1024 + (n.val - 1024) = p.val; omega)
    rw [dif_pos (by omega)]
    exact congrArg (fun q => (∑ x : Fin 2048, X (ix2 r x) * W (ix3 0 x q))) e
  by_cases h2 : n.val < 4096
  · have e : (⟨2048 + (n.val - 1024 - 1024), by omega⟩ : Fin 11296) = p := Fin.ext (by show 2048 + (n.val - 1024 - 1024) = p.val; omega)
    rw [dif_neg (by omega), dif_pos (by omega)]
    exact congrArg (fun q => (∑ x : Fin 2048, X (ix2 r x) * W (ix3 0 x q))) e
  by_cases h3 : n.val < 7168
  · have e0 : 6176 + (n.val - 1024 - 1024 - 2048 - 2048) = p.val := by omega
    have e : (⟨6176 + (n.val - 1024 - 1024 - 2048 - 2048), by omega⟩ : Fin 11296) = p := Fin.ext e0
    rw [dif_neg (by omega), dif_neg (by omega), dif_neg (by omega), dif_pos (by omega)]
    exact congrArg (fun q => (∑ x : Fin 2048, X (ix2 r x) * W (ix3 0 x q))) e
  · have e0 : 7200 + (n.val - 1024 - 1024 - 2048 - 2048 - 1024) = p.val := by omega
    have e : (⟨7200 + (n.val - 1024 - 1024 - 2048 - 2048 - 1024), by omega⟩ : Fin 11296) = p := Fin.ext e0
    rw [dif_neg (by omega), dif_neg (by omega), dif_neg (by omega), dif_neg (by omega)]
    exact congrArg (fun q => (∑ x : Fin 2048, X (ix2 r x) * W (ix3 0 x q))) e

/-- The windows' block indices: the column block is the point's number. The weights'
    rows are counted one by one, and skip the 32 rows of the gate's low-rank part. -/
theorem idx : ∀ t : Fin cfg0.N, win0_0.index t = ![0, 0]
    ∧ win0_1.index t = ![0, 1024 * (t.val) + (if 6 ≤ t.val then 32 else 0), 0]
    ∧ win0_2.index t = ![0, 0, if t.val < 5 then 0 else 1] ∧ win0_3.index t = ![0, t.val] :=
  (by decide +kernel : ∀ t : Fin grid0.N, _)

/-- An entry of the weight block, in the layer's weights. -/
theorem wread (c : Dev nD) (t : Fin cfg0.N) (j : Fin 1024) (k : Fin 2048) (n : Fin 11296)
    (hn : n.val = 1024 * (t.val) + (if 6 ≤ t.val then 32 else 0) + j.val) :
    iblk m c 1 t (ix3 0 j k) = m ((c : Thread nD τ).loc main_arg1) (ix3 0 k n) := by
  have e : ((cfg0.win 1).blk t).view.emb (ix3 0 j k) = (ix3 0 n k : S4x11296x2048.Idx) := by
    funext a
    apply Fin.ext
    refine (Pipeline.Window.rect_emb_val_off win0_1 t (ix3 0 j k) a).trans ?_
    rw [(idx t).2.1]
    fin_cases a
    · rfl
    · exact hn.symm
    · exact Nat.zero_add _
  show V m c main_v0 (((cfg0.win 1).blk t).view.emb (ix3 0 j k)) = _
  rw [e]
  entry_read
  pointwise

/-- The weights' column that entry `j` of point `t`'s weight block is taken from. -/
def wcolumn (t : Fin cfg0.N) (j : Fin 1024) : Fin 11296 :=
  ⟨1024 * (t.val) + (if 6 ≤ t.val then 32 else 0) + j.val, by
    have hN : t.val < 11 := lt_of_lt_of_eq t.isLt (show cfg0.N = 11 from N_0)
    split <;> omega⟩

theorem wread' (c : Dev nD) (t : Fin cfg0.N) (j : Fin 1024) (k : Fin 2048) :
    iblk m c 1 t (ix3 0 j k) = m ((c : Thread nD τ).loc main_arg1) (ix3 0 k (wcolumn t j)) := wread m c t j k _ rfl

/-- The row and the column of the result that entry `y` of point `t`'s block is. -/
def row (t : Fin cfg0.N) (i : Fin 512) : Fin 512 := i
def column (t : Fin cfg0.N) (j : Fin 1024) : Fin 11264 :=
  ⟨1024 * (t.val) + j.val, by
    have hN : t.val < 11 := lt_of_lt_of_eq t.isLt (show cfg0.N = 11 from N_0)
    omega⟩

theorem place (t : Fin cfg0.N) (i : Fin 512) (j : Fin 1024) : ((cfg0.win 3).blk t).view.emb (ix2 i j) = (ix2 (row t i) (column t j) : S512x11264.Idx) := by
  funext a
  apply Fin.ext
  refine (Pipeline.Window.rect_emb_val win0_3 t (ix2 i j) a).trans ?_
  rw [(idx t).2.2.2]
  fin_cases a
  · exact (congrArg (· + i.val) (Nat.zero_mul _)).trans (Nat.zero_add _)
  · exact congrArg (· + j.val) (Nat.mul_comm _ _)

theorem hread (c : Dev nD) (t : Fin cfg0.N) (i : Fin 512) (k : Fin 2048) :
    iblk m c 0 t (ix2 i k) = m ((c : Thread nD τ).loc main_arg0) (ix2 (row t i) k) := by
  blk_ext [iblk, V_main_arg0, idx t, row]

variable (c : Dev nD) (t : Fin cfg0.N)
/-- The reference's term of the run's arguments. -/
abbrev RT : FVec Ideal S512x11264 .bf16 :=
  REF (m ((c : Thread nD τ).loc main_arg0)) (m ((c : Thread nD τ).loc main_arg1)) (m ((c : Thread nD τ).loc main_arg2))

/-- A query column block: the product over sixteen. -/
theorem point_q (h : t.val < 1) (i : Fin 512) (j : Fin 1024) : k0_pay3 (iblk m c 1 t) (iblk m c 0 t) (ix2 i j)
    = RT m c (((cfg0.win 3).blk t).view.emb (ix2 i j)) := by
  have h1 : (column t j).val < 1024 := by show 1024 * (t.val) + j.val < 1024; have := j.isLt; omega
  have h2 : (wcolumn t j).val = (column t j).val := by
    show 1024 * (t.val) + (if 6 ≤ t.val then 32 else 0) + j.val = 1024 * (t.val) + j.val
    rw [if_neg (by omega)]
    rfl
  rw [place, RT, REF_q _ _ _ _ _ (wcolumn t j) h1 h2]
  pointwise [k0_pay3, k0_pay1]
  simp only [hread, wread']

/-- A gated column block: the product's SiLU times the gain. -/
theorem point_g (h : 4 ≤ t.val ∧ t.val < 6) (i : Fin 512) (j : Fin 1024) : k0_pay6 (iblk m c 1 t) (iblk m c 0 t) (iblk m c 2 t) (ix2 i j)
    = RT m c (((cfg0.win 3).blk t).view.emb (ix2 i j)) := by
  have hy := j.isLt
  have h1 : 4096 ≤ (column t j).val ∧ (column t j).val < 6144 := by
    show 4096 ≤ 1024 * (t.val) + j.val ∧ 1024 * (t.val) + j.val < 6144
    have hy : j.val < 1024 := j.isLt
    omega
  have h2 : (wcolumn t j).val = (column t j).val := by
    show 1024 * (t.val) + (if 6 ≤ t.val then 32 else 0) + j.val = 1024 * (t.val) + j.val
    rw [if_neg (by omega)]
    rfl
  rw [place, RT, REF_g _ _ _ _ _ (wcolumn t j) ⟨(column t j).val - 4096, by omega⟩ h1 h2 rfl]
  have hg : iblk m c 2 t (ix3 0 0 j) = m ((c : Thread nD τ).loc main_arg2) (ix2 0 ⟨(column t j).val - 4096, by omega⟩) := by
    have e : (column t j).val = 1024 * (t.val) + j.val := rfl
    blk_point [iblk, idx t]
    split <;> omega
  pointwise [k0_pay6, k0_pay4]
  unfold Ideal.logistic
  simp only [hread, wread', hg]
  rw [mul_comm]

/-- A plain column block: the product. -/
theorem point_p (h : 1 ≤ t.val ∧ t.val < 4 ∨ 6 ≤ t.val) (i : Fin 512) (j : Fin 1024) : k0_pay9 (iblk m c 1 t) (iblk m c 0 t) (ix2 i j)
    = RT m c (((cfg0.win 3).blk t).view.emb (ix2 i j)) := by
  have h1 : 1024 ≤ (column t j).val ∧ (column t j).val < 4096 ∧ (wcolumn t j).val = (column t j).val
      ∨ 6144 ≤ (column t j).val ∧ (wcolumn t j).val = (column t j).val + 32 := by
    have hy : j.val < 1024 := j.isLt
    have e : (column t j).val = 1024 * (t.val) + j.val := rfl
    have e' : (wcolumn t j).val = 1024 * (t.val) + (if 6 ≤ t.val then 32 else 0) + j.val := rfl
    split_ifs at e' <;> omega
  rw [place, RT, REF_p _ _ _ _ _ (wcolumn t j) h1]
  pointwise [k0_pay9, k0_pay7]
  simp only [hread, wread']

/-- The result array after the run. -/
theorem final (c : Dev nD) : (dats m 0 c).arrAt 3 (cfgs 0).N = RT m c := by
  refine (dats m 0 c).arrAt_eq_of_covers 3 _ (by decide +kernel) fun t _ y => ?_
  blk_simp
  rw [after0_3]
  obtain ⟨i, j, rfl⟩ : ∃ (i : Fin 512) (j : Fin 1024), y = (ix2 i j : S512x1024.Idx) := ⟨y 0, y 1, by funext a; fin_cases a <;> rfl⟩
  have hN : t.val < 11 := lt_of_lt_of_eq t.isLt (show cfg0.N = 11 from N_0)
  by_cases h0 : t.val < 1
  · rw [outsAt0_A m c t (by omega) (by omega) (by omega)]
    frame_out
    exact point_q m c t h0 i j
  by_cases h1 : 4 ≤ t.val ∧ t.val < 6
  · rw [outsAt0_C m c t (by omega) (by omega) (by omega)]
    frame_out
    exact point_g m c t h1 i j
  · rw [outsAt0_B m c t (by omega) (by omega) (by omega)]
    frame_out
    exact point_p m c t (by omega) i j

end Cert.ProjCtxIdeal.Val
end
end
-- ==== Proof.ProjCtx.Claim.lean ====
/- The claims about the input projection of the context's rows: the reference runs and leaves its arguments as they were, and the call's
   result is the reference's at the ideal instance. -/
module
public import proofs.«01_k».proof.Defs
public import proofs.«01_k».proof.Proof.ProjCtx.Value
public import Idealize.ShloMosaic.Lib.Quiescent
public import Idealize.ShloMosaic.Lib.Claim
@[expose] public section
set_option maxRecDepth 16384
noncomputable section
open Idealize.ShloMosaic Idealize.ShloMosaic.TcCoe Idealize.SL.Sem

namespace Cert.ProjCtxClaim

attribute [local instance] Cert.ProjCtxIdeal.Gen.facts Cert.ProjCtxRefIdeal.Gen.facts

/-- The reference runs, its arguments and every counter as at the start. -/
theorem refFrame : Cert.quiescent_ProjCtxRefIdeal := fun m g _ =>
  (θ_run Cert.ProjCtxRefIdeal.defs _ _).mono (fun r h => ⟨fun c => (h c).2, sem_eq_zero_of_no_sems rfl r.2⟩)
    (Cert.ProjCtxRefIdeal.Value.run m g)

/-- The call and the reference end with equal results. -/
theorem algebraic : Cert.algebraic_ProjCtxIdeal_ProjCtxRefIdeal := by
  pair_intro
  · run_from Cert.ProjCtxIdeal.Gen.run_main m g
  · run_from Cert.ProjCtxRefIdeal.Value.run m' g'
    refine Eq.trans ?_ (Cert.ProjCtxIdeal.Val.final m c).symm
    exact congrArg (Cert.ProjCtxIdeal.Val.REF _ _) (hagree c).2.2

end Cert.ProjCtxClaim
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.FfnCtx
public import proofs.«01_k».proof.Proof.Gen.FfnCtx.Skeleton
public import proofs.«01_k».proof.Proof.Gen.FfnCtx.Launch
public import proofs.«01_k».proof.Proof.Gen.FfnCtx.Points
public import proofs.«01_k».proof.Proof.Gen.FfnCtx.Frame
public import proofs.«01_k».proof.Proof.Gen.FfnCtxIdeal
public import proofs.«01_k».proof.Proof.Gen.FfnCtxIdeal.Skeleton
public import proofs.«01_k».proof.Proof.Gen.FfnCtxIdeal.Launch
public import proofs.«01_k».proof.Proof.Gen.FfnCtxIdeal.Points
public import proofs.«01_k».proof.Proof.Gen.FfnCtxIdeal.Frame
public import proofs.«01_k».proof.Proof.Gen.FfnCtxRefIdeal
public import proofs.«01_k».proof.Proof.Gen.MergeCtx
public import proofs.«01_k».proof.Proof.Gen.MergeCtx.Skeleton
public import proofs.«01_k».proof.Proof.Gen.MergeCtx.Launch
public import proofs.«01_k».proof.Proof.Gen.MergeCtx.Points
public import proofs.«01_k».proof.Proof.Gen.MergeCtx.Frame
public import proofs.«01_k».proof.Proof.Gen.MergeCtxIdeal
public import proofs.«01_k».proof.Proof.Gen.MergeCtxIdeal.Skeleton
public import proofs.«01_k».proof.Proof.Gen.MergeCtxIdeal.Launch
public import proofs.«01_k».proof.Proof.Gen.MergeCtxIdeal.Points
public import proofs.«01_k».proof.Proof.Gen.MergeCtxIdeal.Frame
public import proofs.«01_k».proof.Proof.Gen.MergeCtxRefIdeal
public import proofs.«01_k».proof.Proof.Gen.ProjCtx
public import proofs.«01_k».proof.Proof.Gen.ProjCtx.Skeleton
public import proofs.«01_k».proof.Proof.Gen.ProjCtx.Launch
public import proofs.«01_k».proof.Proof.Gen.ProjCtx.Points
public import proofs.«01_k».proof.Proof.Gen.ProjCtx.Frame
public import proofs.«01_k».proof.Proof.Gen.ProjCtxIdeal
public import proofs.«01_k».proof.Proof.Gen.ProjCtxIdeal.Skeleton
public import proofs.«01_k».proof.Proof.Gen.ProjCtxIdeal.Launch
public import proofs.«01_k».proof.Proof.Gen.ProjCtxIdeal.Points
public import proofs.«01_k».proof.Proof.Gen.ProjCtxIdeal.Frame
public import proofs.«01_k».proof.Proof.Gen.ProjCtxRefIdeal
public import proofs.«01_k».proof.Proof.Gen.Pre_finite
public import proofs.«01_k».proof.Proof.Gen.ReferenceIdeal.Run
public import proofs.«01_k».proof.Proof.Gen.ReferenceIdeal.Read
public import proofs.«01_k».proof.Proof.Gen.ProjRefIdeal.Run
public import proofs.«01_k».proof.Proof.Gla.Kernel.Frame
public import proofs.«01_k».proof.Proof.Gla.KernelIdeal.Frame
public import proofs.«01_k».proof.Proof.Gen.FfnIdeal.Value
public import proofs.«01_k».proof.Proof.Gen.FfnRefIdeal.Run
public import proofs.«01_k».proof.Proof.Ffn.Claim
public import proofs.«01_k».proof.Proof.Proj.Proj.Frame
public import proofs.«01_k».proof.Proof.Proj.Claim
public import proofs.«01_k».proof.Proof.Gen.MergeIdeal.Value
public import proofs.«01_k».proof.Proof.Gen.MergeRefIdeal.Run
public import proofs.«01_k».proof.Proof.Merge.Claim
public import proofs.«01_k».proof.Proof.Gla.Claim
public import proofs.«01_k».proof.Proof.Gen.FfnCtxIdeal.Value
public import proofs.«01_k».proof.Proof.Gen.FfnCtxRefIdeal.Run
public import proofs.«01_k».proof.Proof.Gen.MergeCtxIdeal.Value
public import proofs.«01_k».proof.Proof.Gen.MergeCtxRefIdeal.Run
public import proofs.«01_k».proof.Proof.Gen.ProjCtxIdeal.Value
public import proofs.«01_k».proof.Proof.Gen.ProjCtxRefIdeal.Run
public import proofs.«01_k».proof.Proof.FfnCtx.Claim
public import proofs.«01_k».proof.Proof.MergeCtx.Claim
public import proofs.«01_k».proof.Proof.ProjCtx.Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.FfnCtx.Gen.facts, Cert.FfnCtxIdeal.Gen.facts, Cert.FfnCtxRefIdeal.Gen.facts, Cert.MergeCtx.Gen.facts, Cert.MergeCtxIdeal.Gen.facts, Cert.MergeCtxRefIdeal.Gen.facts, Cert.ProjCtx.Gen.facts, Cert.ProjCtxIdeal.Gen.facts, Cert.ProjCtxRefIdeal.Gen.facts, Cert.Pre_finite.Gen.facts,
  fun m ρ _ => Cert.Kernel.Gla.frame m ρ, fun m ρ _ => Cert.KernelIdeal.Gla.frame m ρ, fun m ρ _ => Cert.KernelIdeal.Gla.frame m ρ,
  Cert.GlaClaim.refFrame, Cert.GlaClaim.refFrame_finite,
  fun m ρ _ => Cert.Ffn.Gen.frame m ρ, fun m ρ _ => Cert.FfnIdeal.Gen.frame m ρ, Cert.FfnClaim.refFrame,
  fun m ρ _ => Cert.Proj.Proj.frame m ρ, fun m ρ _ => Cert.ProjIdeal.Proj.frame m ρ, Cert.ProjClaim.refFrame,
  fun m ρ _ => Cert.Merge.Gen.frame m ρ, fun m ρ _ => Cert.MergeIdeal.Gen.frame m ρ, Cert.MergeClaim.refFrame,
  fun m ρ _ => Cert.FfnCtx.Gen.frame m ρ, fun m ρ _ => Cert.FfnCtxIdeal.Gen.frame m ρ, Cert.FfnCtxClaim.refFrame,
  fun m ρ _ => Cert.MergeCtx.Gen.frame m ρ, fun m ρ _ => Cert.MergeCtxIdeal.Gen.frame m ρ, Cert.MergeCtxClaim.refFrame,
  fun m ρ _ => Cert.ProjCtx.Gen.frame m ρ, fun m ρ _ => Cert.ProjCtxIdeal.Gen.frame m ρ, Cert.ProjCtxClaim.refFrame,
  ⟨IdealRules.named_const.statement Cert.KernelIdeal.κ "neg_log2e" .f32 0xBFB8AA3B#32 _ rfl,
    IdealRules.named_const.statement Cert.KernelIdeal.κ "log2e_16" .f32 0x3DB8AA3B#32 _ rfl⟩,
  Cert.GlaClaim.algebraic, trivial, Cert.FfnClaim.algebraic, trivial, Cert.ProjClaim.algebraic, trivial, Cert.MergeClaim.algebraic,
  trivial, Cert.FfnCtxClaim.algebraic, trivial, Cert.MergeCtxClaim.algebraic, trivial, Cert.ProjCtxClaim.algebraic⟩

end Cert.Proof

end
